-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_a_log_is_setup [hPre_a_log_is_setup : Cert.Pre_a_log_is_setup.Facts] (m : (ℓ : Loc Cert.KernelIdeal.nD Cert.KernelIdeal.τ Cert.KernelIdeal.sig) → Buf (Elt Ideal) ℓ) : Prop :=
  ∀ c : Dev Cert.KernelIdeal.nD,
    (Cert.Pre_a_log_is_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_a_log_is_setup [hPre_a_log_is_setup : Cert.Pre_a_log_is_setup.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_a_log_is_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadReferenceIdeal (m : (ℓ : Loc Cert.HeadReferenceIdeal.nD Cert.HeadReferenceIdeal.τ Cert.HeadReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_a_log_is_setup [hKernelIdeal : Cert.KernelIdeal.Facts] [hPre_a_log_is_setup : Cert.Pre_a_log_is_setup.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_a_log_is_setup m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_a_log_is_setup [hReferenceIdeal : Cert.ReferenceIdeal.Facts] [hPre_a_log_is_setup : Cert.Pre_a_log_is_setup.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_a_log_is_setup m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_a_log_is_setup [hKernelIdeal : Cert.KernelIdeal.Facts] [hReferenceIdeal : Cert.ReferenceIdeal.Facts] [hPre_a_log_is_setup : Cert.Pre_a_log_is_setup.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_a_log_is_setup m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Head_HeadIdeal : Prop :=
  True

def algebraic_HeadIdeal_HeadReferenceIdeal [hHeadIdeal : Cert.HeadIdeal.Facts] [hHeadReferenceIdeal : Cert.HeadReferenceIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadIdeal m →
    (∀ c : Dev Cert.HeadIdeal.nD,
      m' ((c.tc : Thread Cert.HeadReferenceIdeal.nD Cert.HeadReferenceIdeal.τ).loc Cert.HeadReferenceIdeal.main_arg0) = m ((c.tc : Thread Cert.HeadIdeal.nD Cert.HeadIdeal.τ).loc Cert.HeadIdeal.main_arg0)
      ∧ m' ((c.tc : Thread Cert.HeadReferenceIdeal.nD Cert.HeadReferenceIdeal.τ).loc Cert.HeadReferenceIdeal.main_arg1) = m ((c.tc : Thread Cert.HeadIdeal.nD Cert.HeadIdeal.τ).loc Cert.HeadIdeal.main_arg1)
      ∧ m' ((c.tc : Thread Cert.HeadReferenceIdeal.nD Cert.HeadReferenceIdeal.τ).loc Cert.HeadReferenceIdeal.main_arg2) = m ((c.tc : Thread Cert.HeadIdeal.nD Cert.HeadIdeal.τ).loc Cert.HeadIdeal.main_arg2)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v5) = v0 c
          ∧ r.2.mem ((c.tc : Thread Cert.HeadReferenceIdeal.nD Cert.HeadReferenceIdeal.τ).loc Cert.HeadReferenceIdeal.main_v8) = v1 c
          ∧ r.2.mem ((c.tc : Thread Cert.HeadReferenceIdeal.nD Cert.HeadReferenceIdeal.τ).loc Cert.HeadReferenceIdeal.main_v13) = v2 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2))

def Claim : Prop :=
  ∃ (hKernel : Cert.Kernel.Facts) (hKernelIdeal : Cert.KernelIdeal.Facts) (hReferenceIdeal : Cert.ReferenceIdeal.Facts) (hHead : Cert.Head.Facts) (hHeadIdeal : Cert.HeadIdeal.Facts) (hHeadReferenceIdeal : Cert.HeadReferenceIdeal.Facts) (hPre_a_log_is_setup : Cert.Pre_a_log_is_setup.Facts),
    quiescent_Kernel (hKernel := hKernel)
    ∧ quiescent_KernelIdeal (hKernelIdeal := hKernelIdeal)
    ∧ quiescent_KernelIdeal_pre_a_log_is_setup (hKernelIdeal := hKernelIdeal) (hPre_a_log_is_setup := hPre_a_log_is_setup)
    ∧ quiescent_ReferenceIdeal (hReferenceIdeal := hReferenceIdeal)
    ∧ quiescent_ReferenceIdeal_pre_a_log_is_setup (hReferenceIdeal := hReferenceIdeal) (hPre_a_log_is_setup := hPre_a_log_is_setup)
    ∧ quiescent_Head (hHead := hHead)
    ∧ quiescent_HeadIdeal (hHeadIdeal := hHeadIdeal)
    ∧ quiescent_HeadReferenceIdeal (hHeadReferenceIdeal := hHeadReferenceIdeal)
    ∧ preserves_Kernel_KernelIdeal
    ∧ algebraic_KernelIdeal_ReferenceIdeal_pre_a_log_is_setup (hKernelIdeal := hKernelIdeal) (hReferenceIdeal := hReferenceIdeal) (hPre_a_log_is_setup := hPre_a_log_is_setup)
    ∧ preserves_Head_HeadIdeal
    ∧ algebraic_HeadIdeal_HeadReferenceIdeal (hHeadIdeal := hHeadIdeal) (hHeadReferenceIdeal := hHeadReferenceIdeal)
-- ==== Pre_a_log_is_setup.lean ====
abbrev S8x2x2048x1024 : Shape := ⟨4, ![8, 2, 2048, 1024]⟩
abbrev S8x512x1024 : Shape := ⟨3, ![8, 512, 1024]⟩
abbrev S8x512 : Shape := ⟨2, ![8, 512]⟩
abbrev S8x2x2048x512 : Shape := ⟨4, ![8, 2, 2048, 512]⟩
abbrev S8x2x1024x4 : Shape := ⟨4, ![8, 2, 1024, 4]⟩
abbrev S8x2x1024 : Shape := ⟨3, ![8, 2, 1024]⟩
abbrev S8x2x160x1024 : Shape := ⟨4, ![8, 2, 160, 1024]⟩
abbrev S8x2x1024x32 : Shape := ⟨4, ![8, 2, 1024, 32]⟩
abbrev S8x2x1024x64 : Shape := ⟨4, ![8, 2, 1024, 64]⟩
abbrev S8x2x512x1024 : Shape := ⟨4, ![8, 2, 512, 1024]⟩
abbrev S8x2x512 : Shape := ⟨3, ![8, 2, 512]⟩
abbrev S512 : Shape := ⟨1, ![512]⟩
abbrev S_ : Shape := ⟨0, ![]⟩

class Facts : Prop where
  bcast_S_S8x2x1024x64 : S_.BroadcastsInDim S8x2x1024x64 (![] : Fin 0 → Fin S8x2x1024x64.rank)

variable [Facts]

def fn {F : FTy → Type} [FloatOps F] (main_arg0 : FVec F S8x2x2048x1024 .f32) (main_arg1 : FVec F S8x512x1024 .f32) (main_arg2 : FVec F S8x512 .f32) (main_arg3 : FVec F S8x2x2048x512 .f32) (main_arg4 : FVec F S8x2x1024x4 .f32) (main_arg5 : FVec F S8x2x1024 .f32) (main_arg6 : FVec F S8x2x160x1024 .f32) (main_arg7 : FVec F S8x2x1024x32 .f32) (main_arg8 : FVec F S8x2x1024 .f32) (main_arg9 : FVec F S8x2x1024x64 .f32) (main_arg10 : FVec F S8x2x1024 .f32) (main_arg11 : FVec F S8x2x512x1024 .f32) (main_arg12 : FVec F S8x2x512 .f32) (main_arg13 : FVec F S512 .f32) (main_arg14 : FVec F S512 .f32) : IVec S8x2x1024x64 1 :=
  let main_v0 : IVec S8x2x1024x64 32 := iotaInDim S8x2x1024x64 32 3
  let main_v1 : FVec F S8x2x1024x64 .f32 := sitofp .f32 main_v0
  let main_cst : FVec F S_ .f32 := constant S_ .f32 0x3F800000#32
  let main_v2 : FVec F S8x2x1024x64 .f32 := broadcastInDim S8x2x1024x64 ![] bcast_S_S8x2x1024x64 main_cst
  let main_v3 : FVec F S8x2x1024x64 .f32 := addf main_v1 main_v2
  let main_v4 : FVec F S8x2x1024x64 .f32 := Host.log main_v3
  let main_v5 : IVec S8x2x1024x64 1 := cmpf .oeq main_arg9 main_v4
  main_v5
-- ==== Kernel.lean ====
abbrev S8x2x2048x1024 : Shape := ⟨4, ![8, 2, 2048, 1024]⟩
abbrev S8x512x1024 : Shape := ⟨3, ![8, 512, 1024]⟩
abbrev S8x512 : Shape := ⟨2, ![8, 512]⟩
abbrev S8x2x2048x512 : Shape := ⟨4, ![8, 2, 2048, 512]⟩
abbrev S8x2x1024x4 : Shape := ⟨4, ![8, 2, 1024, 4]⟩
abbrev S8x2x1024 : Shape := ⟨3, ![8, 2, 1024]⟩
abbrev S8x2x160x1024 : Shape := ⟨4, ![8, 2, 160, 1024]⟩
abbrev S8x2x1024x32 : Shape := ⟨4, ![8, 2, 1024, 32]⟩
abbrev S8x2x1024x64 : Shape := ⟨4, ![8, 2, 1024, 64]⟩
abbrev S8x2x512x1024 : Shape := ⟨4, ![8, 2, 512, 1024]⟩
abbrev S8x2x512 : Shape := ⟨3, ![8, 2, 512]⟩
abbrev S512 : Shape := ⟨1, ![512]⟩
abbrev S8x1024x512 : Shape := ⟨3, ![8, 1024, 512]⟩
abbrev S8x2x512x2048 : Shape := ⟨4, ![8, 2, 512, 2048]⟩
abbrev S8x2x4x1024 : Shape := ⟨4, ![8, 2, 4, 1024]⟩
abbrev S8x2x1024x160 : Shape := ⟨4, ![8, 2, 1024, 160]⟩
abbrev S8x2x32x1024 : Shape := ⟨4, ![8, 2, 32, 1024]⟩
abbrev S8x2x1024x512 : Shape := ⟨4, ![8, 2, 1024, 512]⟩
abbrev S1x512 : Shape := ⟨2, ![1, 512]⟩
abbrev S8x1x512 : Shape := ⟨3, ![8, 1, 512]⟩
abbrev S2x8x512 : Shape := ⟨3, ![2, 8, 512]⟩
abbrev S1x2x256x1024 : Shape := ⟨4, ![1, 2, 256, 1024]⟩
abbrev S1x1024x512 : Shape := ⟨3, ![1, 1024, 512]⟩
abbrev S1x1x512 : Shape := ⟨3, ![1, 1, 512]⟩
abbrev S1x2x512x2048 : Shape := ⟨4, ![1, 2, 512, 2048]⟩
abbrev S1x2x4x1024 : Shape := ⟨4, ![1, 2, 4, 1024]⟩
abbrev S1x2x1024 : Shape := ⟨3, ![1, 2, 1024]⟩
abbrev S1x2x1024x160 : Shape := ⟨4, ![1, 2, 1024, 160]⟩
abbrev S1x2x32x1024 : Shape := ⟨4, ![1, 2, 32, 1024]⟩
abbrev S1x2x1024x512 : Shape := ⟨4, ![1, 2, 1024, 512]⟩
abbrev S1x2x512 : Shape := ⟨3, ![1, 2, 512]⟩
abbrev S2x64x2048 : Shape := ⟨3, ![2, 64, 2048]⟩
abbrev S2x264x1024 : Shape := ⟨3, ![2, 264, 1024]⟩
abbrev S2x2x8x1024 : Shape := ⟨4, ![2, 2, 8, 1024]⟩
abbrev S256x2048 : Shape := ⟨2, ![256, 2048]⟩
abbrev S256x256 : Shape := ⟨2, ![256, 256]⟩
abbrev S2048x2048 : Shape := ⟨2, ![2048, 2048]⟩
abbrev S2x512 : Shape := ⟨2, ![2, 512]⟩
abbrev S2x256x1024 : Shape := ⟨3, ![2, 256, 1024]⟩
abbrev S512x1024 : Shape := ⟨2, ![512, 1024]⟩
abbrev S1024x512 : Shape := ⟨2, ![1024, 512]⟩
abbrev S512x512 : Shape := ⟨2, ![512, 512]⟩
abbrev S512x1 : Shape := ⟨2, ![512, 1]⟩
abbrev S1x1x512x2048 : Shape := ⟨4, ![1, 1, 512, 2048]⟩
abbrev S512x2048 : Shape := ⟨2, ![512, 2048]⟩
abbrev S1x2x8x1024 : Shape := ⟨4, ![1, 2, 8, 1024]⟩
abbrev S2x8x1024 : Shape := ⟨3, ![2, 8, 1024]⟩
abbrev S1x1x1024 : Shape := ⟨3, ![1, 1, 1024]⟩
abbrev S1024 : Shape := ⟨1, ![1024]⟩
abbrev S1x1x1x1024 : Shape := ⟨4, ![1, 1, 1, 1024]⟩
abbrev S1x1x1024x160 : Shape := ⟨4, ![1, 1, 1024, 160]⟩
abbrev S1024x160 : Shape := ⟨2, ![1024, 160]⟩
abbrev S512x160 : Shape := ⟨2, ![512, 160]⟩
abbrev S512x32 : Shape := ⟨2, ![512, 32]⟩
abbrev S512x64 : Shape := ⟨2, ![512, 64]⟩
abbrev S1x1x32x1024 : Shape := ⟨4, ![1, 1, 32, 1024]⟩
abbrev S32x1024 : Shape := ⟨2, ![32, 1024]⟩
abbrev S1x1024 : Shape := ⟨2, ![1, 1024]⟩
abbrev S256x1024 : Shape := ⟨2, ![256, 1024]⟩
abbrev S256x64 : Shape := ⟨2, ![256, 64]⟩
abbrev S64x1 : Shape := ⟨2, ![64, 1]⟩
abbrev S32x256 : Shape := ⟨2, ![32, 256]⟩
abbrev S256x32 : Shape := ⟨2, ![256, 32]⟩
abbrev S32x2048 : Shape := ⟨2, ![32, 2048]⟩
abbrev S1x64x2048 : Shape := ⟨3, ![1, 64, 2048]⟩
abbrev S64x2048 : Shape := ⟨2, ![64, 2048]⟩
abbrev S1x2048 : Shape := ⟨2, ![1, 2048]⟩
abbrev S64x1024 : Shape := ⟨2, ![64, 1024]⟩
abbrev S8x2048 : Shape := ⟨2, ![8, 2048]⟩
abbrev S1x1x1024x512 : Shape := ⟨4, ![1, 1, 1024, 512]⟩
abbrev S256x512 : Shape := ⟨2, ![256, 512]⟩

abbrev nBuf : Space → Nat
  | .hbm => 29
  | .vmem => 36
  | .smem => 0
  | _ => 0

abbrev bufTy : (tb : Table) → Fin (tcTables nBuf tb) → BufTy
  | .hbm, ⟨0, _⟩ => ⟨S8x2x2048x1024, .f32⟩
  | .hbm, ⟨1, _⟩ => ⟨S8x512x1024, .f32⟩
  | .hbm, ⟨2, _⟩ => ⟨S8x512, .f32⟩
  | .hbm, ⟨3, _⟩ => ⟨S8x2x2048x512, .f32⟩
  | .hbm, ⟨4, _⟩ => ⟨S8x2x1024x4, .f32⟩
  | .hbm, ⟨5, _⟩ => ⟨S8x2x1024, .f32⟩
  | .hbm, ⟨6, _⟩ => ⟨S8x2x160x1024, .f32⟩
  | .hbm, ⟨7, _⟩ => ⟨S8x2x1024x32, .f32⟩
  | .hbm, ⟨8, _⟩ => ⟨S8x2x1024, .f32⟩
  | .hbm, ⟨9, _⟩ => ⟨S8x2x1024x64, .f32⟩
  | .hbm, ⟨10, _⟩ => ⟨S8x2x1024, .f32⟩
  | .hbm, ⟨11, _⟩ => ⟨S8x2x512x1024, .f32⟩
  | .hbm, ⟨12, _⟩ => ⟨S8x2x512, .f32⟩
  | .hbm, ⟨13, _⟩ => ⟨S512, .f32⟩
  | .hbm, ⟨14, _⟩ => ⟨S512, .f32⟩
  | .hbm, ⟨15, _⟩ => ⟨S8x1024x512, .f32⟩
  | .hbm, ⟨16, _⟩ => ⟨S8x1024x512, .bf16⟩
  | .hbm, ⟨17, _⟩ => ⟨S8x2x512x2048, .f32⟩
  | .hbm, ⟨18, _⟩ => ⟨S8x2x512x2048, .bf16⟩
  | .hbm, ⟨19, _⟩ => ⟨S8x2x4x1024, .f32⟩
  | .hbm, ⟨20, _⟩ => ⟨S8x2x1024x160, .f32⟩
  | .hbm, ⟨21, _⟩ => ⟨S8x2x32x1024, .f32⟩
  | .hbm, ⟨22, _⟩ => ⟨S8x2x1024x512, .f32⟩
  | .hbm, ⟨23, _⟩ => ⟨S8x2x1024x512, .bf16⟩
  | .hbm, ⟨24, _⟩ => ⟨S1x512, .f32⟩
  | .hbm, ⟨25, _⟩ => ⟨S1x512, .f32⟩
  | .hbm, ⟨26, _⟩ => ⟨S8x1x512, .f32⟩
  | .hbm, ⟨27, _⟩ => ⟨S8x2x512, .f32⟩
  | .hbm, ⟨28, _⟩ => ⟨S2x8x512, .f32⟩
  | .local _ .vmem, ⟨0, _⟩ => ⟨S1x2x256x1024, .f32⟩
  | .local _ .vmem, ⟨1, _⟩ => ⟨S1x2x256x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1x512, .f32⟩
  | .local _ .vmem, ⟨5, _⟩ => ⟨S1x1x512, .f32⟩
  | .local _ .vmem, ⟨6, _⟩ => ⟨S1x2x512x2048, .bf16⟩
  | .local _ .vmem, ⟨7, _⟩ => ⟨S1x2x512x2048, .bf16⟩
  | .local _ .vmem, ⟨8, _⟩ => ⟨S1x2x4x1024, .f32⟩
  | .local _ .vmem, ⟨9, _⟩ => ⟨S1x2x4x1024, .f32⟩
  | .local _ .vmem, ⟨10, _⟩ => ⟨S1x2x1024, .f32⟩
  | .local _ .vmem, ⟨11, _⟩ => ⟨S1x2x1024, .f32⟩
  | .local _ .vmem, ⟨12, _⟩ => ⟨S1x2x1024x160, .f32⟩
  | .local _ .vmem, ⟨13, _⟩ => ⟨S1x2x1024x160, .f32⟩
  | .local _ .vmem, ⟨14, _⟩ => ⟨S1x2x32x1024, .f32⟩
  | .local _ .vmem, ⟨15, _⟩ => ⟨S1x2x32x1024, .f32⟩
  | .local _ .vmem, ⟨16, _⟩ => ⟨S1x2x1024, .f32⟩
  | .local _ .vmem, ⟨17, _⟩ => ⟨S1x2x1024, .f32⟩
  | .local _ .vmem, ⟨18, _⟩ => ⟨S1x2x1024, .f32⟩
  | .local _ .vmem, ⟨19, _⟩ => ⟨S1x2x1024, .f32⟩
  | .local _ .vmem, ⟨20, _⟩ => ⟨S1x2x1024x512, .bf16⟩
  | .local _ .vmem, ⟨21, _⟩ => ⟨S1x2x1024x512, .bf16⟩
  | .local _ .vmem, ⟨22, _⟩ => ⟨S1x2x512, .f32⟩
  | .local _ .vmem, ⟨23, _⟩ => ⟨S1x2x512, .f32⟩
  | .local _ .vmem, ⟨24, _⟩ => ⟨S1x512, .f32⟩
  | .local _ .vmem, ⟨25, _⟩ => ⟨S1x512, .f32⟩
  | .local _ .vmem, ⟨26, _⟩ => ⟨S1x2x512, .f32⟩
  | .local _ .vmem, ⟨27, _⟩ => ⟨S1x2x512, .f32⟩
  | .local _ .vmem, ⟨28, _⟩ => ⟨S2x64x2048, .f32⟩
  | .local _ .vmem, ⟨29, _⟩ => ⟨S2x264x1024, .f32⟩
  | .local _ .vmem, ⟨30, _⟩ => ⟨S2x2x8x1024, .f32⟩
  | .local _ .vmem, ⟨31, _⟩ => ⟨S256x2048, .f32⟩
  | .local _ .vmem, ⟨32, _⟩ => ⟨S256x2048, .f32⟩
  | .local _ .vmem, ⟨33, _⟩ => ⟨S256x256, .f32⟩
  | .local _ .vmem, ⟨34, _⟩ => ⟨S2048x2048, .f32⟩
  | .local _ .vmem, ⟨35, _⟩ => ⟨S2x512, .f32⟩
  | _, _ => ⟨S8x2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_v0 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_92 : BitVec 32 := 0#32
  let c8_i32 : BitVec 32 := 8#32
  let v153 : BitVec 32 := Scalar.addi c0_i32_92 c8_i32
  let c1_i32 : BitVec 32 := 1#32
  ⟨c0_i32_92, v153, c1_i32⟩
def k0_off1 (k0_t1 : Fin k0_t1_loop.trips) : Fin 2 → Nat :=
  let c0_i32_92 : BitVec 32 := 0#32
  let c1_i32 : BitVec 32 := 1#32
  let arg25 : BitVec 32 := Scf.iv c0_i32_92 c1_i32 k0_t1
  let c32_i32 : BitVec 32 := 32#32
  let v376 : BitVec 32 := Scalar.muli arg25 c32_i32
  let v377 : Index := Scalar.indexCast v376
  let c0_229 : Index := 0#32
  ![v377.toNat, 0]
def k0_off2 (k0_t1 : Fin k0_t1_loop.trips) : Fin 2 → Nat :=
  let c0_i32_92 : BitVec 32 := 0#32
  let c1_i32 : BitVec 32 := 1#32
  let arg25 : BitVec 32 := Scf.iv c0_i32_92 c1_i32 k0_t1
  let c32_i32 : BitVec 32 := 32#32
  let v376 : BitVec 32 := Scalar.muli arg25 c32_i32
  let v380 : Index := Scalar.indexCast v376
  let c0_230 : Index := 0#32
  ![v380.toNat, 0]
def k0_off3 (k0_t1 : Fin k0_t1_loop.trips) (c0_i32_235 : BitVec 32) : Fin 2 → Nat :=
  let c8_i32_236 : BitVec 32 := 8#32
  let c0_i32_92 : BitVec 32 := 0#32
  let c1_i32 : BitVec 32 := 1#32
  let arg25 : BitVec 32 := Scf.iv c0_i32_92 c1_i32 k0_t1
  let c32_i32 : BitVec 32 := 32#32
  let v376 : BitVec 32 := Scalar.muli arg25 c32_i32
  let v429 : BitVec 32 := Scalar.addi v376 c0_i32_235
  let v430 : BitVec 32 := Scalar.muli c8_i32_236 v429
  let v431 : Index := Scalar.indexCast v430
  let c0_237 : Index := 0#32
  ![v431.toNat, 0]
@[reducible] def k0_t2_loop : Scf.Loop 32 :=
  let c0_i32_195 : BitVec 32 := 0#32
  let c8_i32_196 : BitVec 32 := 8#32
  let v307 : BitVec 32 := Scalar.addi c0_i32_195 c8_i32_196
  let c1_i32_197 : BitVec 32 := 1#32
  ⟨c0_i32_195, v307, c1_i32_197⟩
def k0_off4 (k0_t2 : Fin k0_t2_loop.trips) : Fin 2 → Nat :=
  let c0_i32_195 : BitVec 32 := 0#32
  let c1_i32_197 : BitVec 32 := 1#32
  let arg25 : BitVec 32 := Scf.iv c0_i32_195 c1_i32_197 k0_t2
  let c32_i32 : BitVec 32 := 32#32
  let v376 : BitVec 32 := Scalar.muli arg25 c32_i32
  let v377 : Index := Scalar.indexCast v376
  let c0_229 : Index := 0#32
  ![v377.toNat, 0]
def k0_off5 (k0_t2 : Fin k0_t2_loop.trips) : Fin 2 → Nat :=
  let c0_i32_195 : BitVec 32 := 0#32
  let c1_i32_197 : BitVec 32 := 1#32
  let arg25 : BitVec 32 := Scf.iv c0_i32_195 c1_i32_197 k0_t2
  let c32_i32 : BitVec 32 := 32#32
  let v376 : BitVec 32 := Scalar.muli arg25 c32_i32
  let v380 : Index := Scalar.indexCast v376
  let c0_230 : Index := 0#32
  ![v380.toNat, 0]
def k0_off6 (k0_t2 : Fin k0_t2_loop.trips) (c0_i32_235 : BitVec 32) : Fin 2 → Nat :=
  let c8_i32_236 : BitVec 32 := 8#32
  let c0_i32_195 : BitVec 32 := 0#32
  let c1_i32_197 : BitVec 32 := 1#32
  let arg25 : BitVec 32 := Scf.iv c0_i32_195 c1_i32_197 k0_t2
  let c32_i32 : BitVec 32 := 32#32
  let v376 : BitVec 32 := Scalar.muli arg25 c32_i32
  let v429 : BitVec 32 := Scalar.addi v376 c0_i32_235
  let v430 : BitVec 32 := Scalar.muli c8_i32_236 v429
  let v431 : Index := Scalar.indexCast v430
  let c0_237 : Index := 0#32
  ![v431.toNat, 0]
def k0_cond2 (i : grid0.Coords) : BitVec 1 :=
  let arg1 : BitVec 32 := BitVec.ofNat 32 (i 1).val
  let c7_i32 : BitVec 32 := 7#32
  let v373 : BitVec 1 := Scalar.cmpi .eq arg1 c7_i32
  let v374 : BitVec 32 := Scalar.extui v373
  let c0_i32_228 : BitVec 32 := 0#32
  let v375 : BitVec 1 := Scalar.cmpi .ne v374 c0_i32_228
  v375

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x1024x160 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x2x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x2x2048x1024 : Shape := ⟨4, ![8, 2, 2048, 1024]⟩
abbrev S8x512x1024 : Shape := ⟨3, ![8, 512, 1024]⟩
abbrev S8x512 : Shape := ⟨2, ![8, 512]⟩
abbrev S8x2x2048x512 : Shape := ⟨4, ![8, 2, 2048, 512]⟩
abbrev S8x2x1024x4 : Shape := ⟨4, ![8, 2, 1024, 4]⟩
abbrev S8x2x1024 : Shape := ⟨3, ![8, 2, 1024]⟩
abbrev S8x2x160x1024 : Shape := ⟨4, ![8, 2, 160, 1024]⟩
abbrev S8x2x1024x32 : Shape := ⟨4, ![8, 2, 1024, 32]⟩
abbrev S8x2x1024x64 : Shape := ⟨4, ![8, 2, 1024, 64]⟩
abbrev S8x2x512x1024 : Shape := ⟨4, ![8, 2, 512, 1024]⟩
abbrev S8x2x512 : Shape := ⟨3, ![8, 2, 512]⟩
abbrev S512 : Shape := ⟨1, ![512]⟩
abbrev S_ : Shape := ⟨0, ![]⟩
abbrev S8x2x3x1024 : Shape := ⟨4, ![8, 2, 3, 1024]⟩
abbrev S2048x8x2x1024 : Shape := ⟨4, ![2048, 8, 2, 1024]⟩
abbrev S2048x8x2x512 : Shape := ⟨4, ![2048, 8, 2, 512]⟩
abbrev S1x8x2x1024 : Shape := ⟨4, ![1, 8, 2, 1024]⟩
abbrev S8x1x512 : Shape := ⟨3, ![8, 1, 512]⟩
abbrev S8x1x2048x512 : Shape := ⟨4, ![8, 1, 2048, 512]⟩
abbrev S8x2048x512 : Shape := ⟨3, ![8, 2048, 512]⟩
abbrev S8x1x1024x4 : Shape := ⟨4, ![8, 1, 1024, 4]⟩
abbrev S8x1024x4 : Shape := ⟨3, ![8, 1024, 4]⟩
abbrev S8x1x1024 : Shape := ⟨3, ![8, 1, 1024]⟩
abbrev S8x1024 : Shape := ⟨2, ![8, 1024]⟩
abbrev S8x1x160x1024 : Shape := ⟨4, ![8, 1, 160, 1024]⟩
abbrev S8x160x1024 : Shape := ⟨3, ![8, 160, 1024]⟩
abbrev S8x1x1024x32 : Shape := ⟨4, ![8, 1, 1024, 32]⟩
abbrev S8x1024x32 : Shape := ⟨3, ![8, 1024, 32]⟩
abbrev S8x1x1024x64 : Shape := ⟨4, ![8, 1, 1024, 64]⟩
abbrev S8x1024x64 : Shape := ⟨3, ![8, 1024, 64]⟩
abbrev S8x1x512x1024 : Shape := ⟨4, ![8, 1, 512, 1024]⟩
abbrev S8x2 : Shape := ⟨2, ![8, 2]⟩
abbrev S8x2x1 : Shape := ⟨3, ![8, 2, 1]⟩
abbrev S8x2x2048 : Shape := ⟨3, ![8, 2, 2048]⟩
abbrev S8x2x1x1024 : Shape := ⟨4, ![8, 2, 1, 1024]⟩
abbrev S8x2x4x1024 : Shape := ⟨4, ![8, 2, 4, 1024]⟩
abbrev S8x1024x1 : Shape := ⟨3, ![8, 1024, 1]⟩
abbrev S8x2x160 : Shape := ⟨3, ![8, 2, 160]⟩
abbrev S8x2x32 : Shape := ⟨3, ![8, 2, 32]⟩
abbrev S8x2x64 : Shape := ⟨3, ![8, 2, 64]⟩
abbrev S8x2x1024x1 : Shape := ⟨4, ![8, 2, 1024, 1]⟩
abbrev S8x2x1x64 : Shape := ⟨4, ![8, 2, 1, 64]⟩
abbrev S1x8x2x512 : Shape := ⟨4, ![1, 8, 2, 512]⟩
abbrev S2048x8x2 : Shape := ⟨3, ![2048, 8, 2]⟩
abbrev S2048x8x2x1 : Shape := ⟨4, ![2048, 8, 2, 1]⟩
abbrev S1x1x1x512 : Shape := ⟨4, ![1, 1, 1, 512]⟩
abbrev S2x8x512 : Shape := ⟨3, ![2, 8, 512]⟩

abbrev nBuf : Space → Nat
  | .hbm => 384
  | .vmem => 0
  | .smem => 0
  | _ => 0

abbrev hbmTy0_0 (i : Nat) : BufTy := match i % 128 with
  | 0 => ⟨S8x2x2048x1024, .f32⟩
  | 1 => ⟨S8x512x1024, .f32⟩
  | 2 => ⟨S8x512, .f32⟩
  | 3 => ⟨S8x2x2048x512, .f32⟩
  | 4 => ⟨S8x2x1024x4, .f32⟩
  | 5 => ⟨S8x2x1024, .f32⟩
  | 6 => ⟨S8x2x160x1024, .f32⟩
  | 7 => ⟨S8x2x1024x32, .f32⟩
  | 8 => ⟨S8x2x1024, .f32⟩
  | 9 => ⟨S8x2x1024x64, .f32⟩
  | 10 => ⟨S8x2x1024, .f32⟩
  | 11 => ⟨S8x2x512x1024, .f32⟩
  | 12 => ⟨S8x2x512, .f32⟩
  | 13 => ⟨S512, .f32⟩
  | 14 => ⟨S512, .f32⟩
  | 15 => ⟨S_, .f32⟩
  | 16 => ⟨S8x2x3x1024, .f32⟩
  | 17 => ⟨S_, .f32⟩
  | 18 => ⟨S8x2x1024x64, .f32⟩
  | 19 => ⟨S2048x8x2x1024, .f32⟩
  | 20 => ⟨S_, .f32⟩
  | 21 => ⟨S2048x8x2x512, .f32⟩
  | 22 => ⟨S_, .i32⟩
  | 23 => ⟨S2048x8x2x1024, .f32⟩
  | 24 => ⟨S8x512x1024, .f32⟩
  | 25 => ⟨S8x512, .f32⟩
  | 26 => ⟨S8x2x2048x512, .f32⟩
  | 27 => ⟨S8x2x1024x4, .f32⟩
  | 28 => ⟨S8x2x1024, .f32⟩
  | 29 => ⟨S8x2x160x1024, .f32⟩
  | 30 => ⟨S8x2x1024x32, .f32⟩
  | 31 => ⟨S8x2x1024, .f32⟩
  | 32 => ⟨S8x2x1024x64, .f32⟩
  | 33 => ⟨S8x2x1024, .f32⟩
  | 34 => ⟨S8x2x512x1024, .f32⟩
  | 35 => ⟨S8x2x512, .f32⟩
  | 36 => ⟨S_, .i32⟩
  | 37 => ⟨S8x2x3x1024, .f32⟩
  | 38 => ⟨S8x2x1024x64, .f32⟩
  | 39 => ⟨S8x2x3x1024, .f32⟩
  | 40 => ⟨S8x2x1024x64, .f32⟩
  | 41 => ⟨S2048x8x2x512, .f32⟩
  | 42 => ⟨S_, .i32⟩
  | 43 => ⟨S_, .i1⟩
  | 44 => ⟨S_, .i32⟩
  | 45 => ⟨S_, .i32⟩
  | 46 => ⟨S_, .i32⟩
  | 47 => ⟨S1x8x2x1024, .f32⟩
  | 48 => ⟨S8x2x1024, .f32⟩
  | 49 => ⟨S8x2x512, .f32⟩
  | 50 => ⟨S8x1x512, .f32⟩
  | 51 => ⟨S8x2x512, .f32⟩
  | 52 => ⟨S8x2x512, .f32⟩
  | 53 => ⟨S_, .f32⟩
  | 54 => ⟨S8x2x512, .f32⟩
  | 55 => ⟨S8x2x512, .f32⟩
  | 56 => ⟨S8x1x2048x512, .f32⟩
  | 57 => ⟨S8x2048x512, .f32⟩
  | 58 => ⟨S8x1x1024x4, .f32⟩
  | 59 => ⟨S8x1024x4, .f32⟩
  | 60 => ⟨S8x1x1024, .f32⟩
  | 61 => ⟨S8x1024, .f32⟩
  | 62 => ⟨S8x1x160x1024, .f32⟩
  | 63 => ⟨S8x160x1024, .f32⟩
  | 64 => ⟨S8x1x1024x32, .f32⟩
  | 65 => ⟨S8x1024x32, .f32⟩
  | 66 => ⟨S8x1x1024, .f32⟩
  | 67 => ⟨S8x1024, .f32⟩
  | 68 => ⟨S8x1x1024x64, .f32⟩
  | 69 => ⟨S8x1024x64, .f32⟩
  | 70 => ⟨S8x1x1024, .f32⟩
  | 71 => ⟨S8x1024, .f32⟩
  | 72 => ⟨S8x1x512x1024, .f32⟩
  | 73 => ⟨S8x512x1024, .f32⟩
  | 74 => ⟨S8x1x512, .f32⟩
  | 75 => ⟨S8x512, .f32⟩
  | 76 => ⟨S8x1x512, .f32⟩
  | 77 => ⟨S8x2x512, .f32⟩
  | 78 => ⟨S8x2x512, .f32⟩
  | 79 => ⟨S8x2x512, .f32⟩
  | 80 => ⟨S_, .f32⟩
  | 81 => ⟨S8x2, .f32⟩
  | 82 => ⟨S8x2x1, .f32⟩
  | 83 => ⟨S_, .f32⟩
  | 84 => ⟨S8x2x1, .f32⟩
  | 85 => ⟨S8x2x1, .f32⟩
  | 86 => ⟨S_, .f32⟩
  | 87 => ⟨S8x2x1, .f32⟩
  | 88 => ⟨S8x2x1, .f32⟩
  | 89 => ⟨S8x2x1, .f32⟩
  | 90 => ⟨S8x2x512, .f32⟩
  | 91 => ⟨S8x2x512, .f32⟩
  | 92 => ⟨S8x2x2048, .f32⟩
  | 93 => ⟨S8x2x1024, .f32⟩
  | 94 => ⟨S8x2x1024, .f32⟩
  | 95 => ⟨S8x2x1x1024, .f32⟩
  | 96 => ⟨S8x2x4x1024, .f32⟩
  | 97 => ⟨S8x1x1024, .f32⟩
  | 98 => ⟨S8x1024x1, .f32⟩
  | 99 => ⟨S8x1024, .f32⟩
  | 100 => ⟨S8x1x1024, .f32⟩
  | 101 => ⟨S8x2x1x1024, .f32⟩
  | 102 => ⟨S8x2x1024, .f32⟩
  | 103 => ⟨S8x2x1024, .f32⟩
  | 104 => ⟨S8x2x1024, .f32⟩
  | 105 => ⟨S_, .f32⟩
  | 106 => ⟨S8x2x1024, .f32⟩
  | 107 => ⟨S8x2x1024, .f32⟩
  | 108 => ⟨S8x1024x1, .f32⟩
  | 109 => ⟨S8x1024, .f32⟩
  | 110 => ⟨S8x1x1024, .f32⟩
  | 111 => ⟨S8x2x1x1024, .f32⟩
  | 112 => ⟨S8x2x1024, .f32⟩
  | 113 => ⟨S8x2x1024, .f32⟩
  | 114 => ⟨S8x2x1024, .f32⟩
  | 115 => ⟨S8x2x1024, .f32⟩
  | 116 => ⟨S8x1024x1, .f32⟩
  | 117 => ⟨S8x1024, .f32⟩
  | 118 => ⟨S8x1x1024, .f32⟩
  | 119 => ⟨S8x2x1x1024, .f32⟩
  | 120 => ⟨S8x2x1024, .f32⟩
  | 121 => ⟨S8x2x1024, .f32⟩
  | 122 => ⟨S8x2x1024, .f32⟩
  | 123 => ⟨S8x2x1024, .f32⟩
  | 124 => ⟨S8x1024x1, .f32⟩
  | 125 => ⟨S8x1024, .f32⟩
  | 126 => ⟨S8x1x1024, .f32⟩
  | 127 => ⟨S8x2x1x1024, .f32⟩
  | _ => ⟨S8x2x2048x1024, .f32⟩

abbrev hbmTy0_1 (i : Nat) : BufTy := match i % 128 with
  | 0 => ⟨S8x2x1024, .f32⟩
  | 1 => ⟨S8x2x1024, .f32⟩
  | 2 => ⟨S8x2x1024, .f32⟩
  | 3 => ⟨S8x2x1024, .f32⟩
  | 4 => ⟨S8x2x1024, .f32⟩
  | 5 => ⟨S8x2x1024, .f32⟩
  | 6 => ⟨S8x2x1024, .f32⟩
  | 7 => ⟨S8x2x1024, .f32⟩
  | 8 => ⟨S_, .f32⟩
  | 9 => ⟨S8x2x1024, .f32⟩
  | 10 => ⟨S8x2x1024, .f32⟩
  | 11 => ⟨S_, .f32⟩
  | 12 => ⟨S8x2x1024, .f32⟩
  | 13 => ⟨S8x2x1024, .f32⟩
  | 14 => ⟨S8x2x1024, .f32⟩
  | 15 => ⟨S8x2x160, .f32⟩
  | 16 => ⟨S8x2x32, .f32⟩
  | 17 => ⟨S8x2x64, .f32⟩
  | 18 => ⟨S8x2x64, .f32⟩
  | 19 => ⟨S8x2x1024, .f32⟩
  | 20 => ⟨S8x1x1024, .f32⟩
  | 21 => ⟨S8x2x1024, .f32⟩
  | 22 => ⟨S8x2x1024, .f32⟩
  | 23 => ⟨S_, .f32⟩
  | 24 => ⟨S8x2x1024, .f32⟩
  | 25 => ⟨S8x2x1024, .f32⟩
  | 26 => ⟨S8x2x1024, .f32⟩
  | 27 => ⟨S8x2x1024, .f32⟩
  | 28 => ⟨S8x2x1024, .i1⟩
  | 29 => ⟨S8x2x1024, .f32⟩
  | 30 => ⟨S8x2x1024, .f32⟩
  | 31 => ⟨S8x2x1024, .f32⟩
  | 32 => ⟨S8x2x1024, .f32⟩
  | 33 => ⟨S8x2x1024, .f32⟩
  | 34 => ⟨S8x2x1024, .f32⟩
  | 35 => ⟨S8x2x1024, .f32⟩
  | 36 => ⟨S8x2x1024, .f32⟩
  | 37 => ⟨S8x1024x64, .f32⟩
  | 38 => ⟨S8x1024x64, .f32⟩
  | 39 => ⟨S8x2x1024x1, .f32⟩
  | 40 => ⟨S8x1x1024x64, .f32⟩
  | 41 => ⟨S8x2x1024x64, .f32⟩
  | 42 => ⟨S8x2x1024x64, .f32⟩
  | 43 => ⟨S8x2x1024x64, .f32⟩
  | 44 => ⟨S8x2x1024x64, .f32⟩
  | 45 => ⟨S8x2x1024x64, .f32⟩
  | 46 => ⟨S8x2x1024, .f32⟩
  | 47 => ⟨S8x2x1024x1, .f32⟩
  | 48 => ⟨S8x2x1x64, .f32⟩
  | 49 => ⟨S8x2x1024x64, .f32⟩
  | 50 => ⟨S8x2x1024x64, .f32⟩
  | 51 => ⟨S8x2x1024x64, .f32⟩
  | 52 => ⟨S8x2x1024x64, .f32⟩
  | 53 => ⟨S8x2x1024, .f32⟩
  | 54 => ⟨S8x1x1024, .f32⟩
  | 55 => ⟨S8x2x1024, .f32⟩
  | 56 => ⟨S8x2x1024, .f32⟩
  | 57 => ⟨S8x2x1024, .f32⟩
  | 58 => ⟨S8x2x1024, .f32⟩
  | 59 => ⟨S8x2x1024, .f32⟩
  | 60 => ⟨S_, .f32⟩
  | 61 => ⟨S8x2x1024, .f32⟩
  | 62 => ⟨S8x2x1024, .f32⟩
  | 63 => ⟨S_, .f32⟩
  | 64 => ⟨S8x2x1024, .f32⟩
  | 65 => ⟨S8x2x1024, .f32⟩
  | 66 => ⟨S8x2x1024, .f32⟩
  | 67 => ⟨S8x2x1024, .f32⟩
  | 68 => ⟨S8x2x512, .f32⟩
  | 69 => ⟨S8x2x3x1024, .f32⟩
  | 70 => ⟨S8x2x512, .f32⟩
  | 71 => ⟨S8x1x2048x512, .f32⟩
  | 72 => ⟨S8x2048x512, .f32⟩
  | 73 => ⟨S8x1x1024x4, .f32⟩
  | 74 => ⟨S8x1024x4, .f32⟩
  | 75 => ⟨S8x1x1024, .f32⟩
  | 76 => ⟨S8x1024, .f32⟩
  | 77 => ⟨S8x1x160x1024, .f32⟩
  | 78 => ⟨S8x160x1024, .f32⟩
  | 79 => ⟨S8x1x1024x32, .f32⟩
  | 80 => ⟨S8x1024x32, .f32⟩
  | 81 => ⟨S8x1x1024, .f32⟩
  | 82 => ⟨S8x1024, .f32⟩
  | 83 => ⟨S8x1x1024x64, .f32⟩
  | 84 => ⟨S8x1024x64, .f32⟩
  | 85 => ⟨S8x1x1024, .f32⟩
  | 86 => ⟨S8x1024, .f32⟩
  | 87 => ⟨S8x1x512x1024, .f32⟩
  | 88 => ⟨S8x512x1024, .f32⟩
  | 89 => ⟨S8x1x512, .f32⟩
  | 90 => ⟨S8x512, .f32⟩
  | 91 => ⟨S8x1x512, .f32⟩
  | 92 => ⟨S8x2x512, .f32⟩
  | 93 => ⟨S8x2x512, .f32⟩
  | 94 => ⟨S8x2x512, .f32⟩
  | 95 => ⟨S_, .f32⟩
  | 96 => ⟨S8x2, .f32⟩
  | 97 => ⟨S8x2x1, .f32⟩
  | 98 => ⟨S_, .f32⟩
  | 99 => ⟨S8x2x1, .f32⟩
  | 100 => ⟨S8x2x1, .f32⟩
  | 101 => ⟨S_, .f32⟩
  | 102 => ⟨S8x2x1, .f32⟩
  | 103 => ⟨S8x2x1, .f32⟩
  | 104 => ⟨S8x2x1, .f32⟩
  | 105 => ⟨S8x2x512, .f32⟩
  | 106 => ⟨S8x2x512, .f32⟩
  | 107 => ⟨S8x2x2048, .f32⟩
  | 108 => ⟨S8x2x1024, .f32⟩
  | 109 => ⟨S8x2x1024, .f32⟩
  | 110 => ⟨S8x2x1x1024, .f32⟩
  | 111 => ⟨S8x2x4x1024, .f32⟩
  | 112 => ⟨S8x1x1024, .f32⟩
  | 113 => ⟨S8x1024x1, .f32⟩
  | 114 => ⟨S8x1024, .f32⟩
  | 115 => ⟨S8x1x1024, .f32⟩
  | 116 => ⟨S8x2x1x1024, .f32⟩
  | 117 => ⟨S8x2x1024, .f32⟩
  | 118 => ⟨S8x2x1024, .f32⟩
  | 119 => ⟨S8x2x1024, .f32⟩
  | 120 => ⟨S_, .f32⟩
  | 121 => ⟨S8x2x1024, .f32⟩
  | 122 => ⟨S8x2x1024, .f32⟩
  | 123 => ⟨S8x1024x1, .f32⟩
  | 124 => ⟨S8x1024, .f32⟩
  | 125 => ⟨S8x1x1024, .f32⟩
  | 126 => ⟨S8x2x1x1024, .f32⟩
  | 127 => ⟨S8x2x1024, .f32⟩
  | _ => ⟨S8x2x2048x1024, .f32⟩

abbrev hbmTy0_2 (i : Nat) : BufTy := match i % 128 with
  | 0 => ⟨S8x2x1024, .f32⟩
  | 1 => ⟨S8x2x1024, .f32⟩
  | 2 => ⟨S8x2x1024, .f32⟩
  | 3 => ⟨S8x1024x1, .f32⟩
  | 4 => ⟨S8x1024, .f32⟩
  | 5 => ⟨S8x1x1024, .f32⟩
  | 6 => ⟨S8x2x1x1024, .f32⟩
  | 7 => ⟨S8x2x1024, .f32⟩
  | 8 => ⟨S8x2x1024, .f32⟩
  | 9 => ⟨S8x2x1024, .f32⟩
  | 10 => ⟨S8x2x1024, .f32⟩
  | 11 => ⟨S8x1024x1, .f32⟩
  | 12 => ⟨S8x1024, .f32⟩
  | 13 => ⟨S8x1x1024, .f32⟩
  | 14 => ⟨S8x2x1x1024, .f32⟩
  | 15 => ⟨S8x2x1024, .f32⟩
  | 16 => ⟨S8x2x1024, .f32⟩
  | 17 => ⟨S8x2x1024, .f32⟩
  | 18 => ⟨S8x2x1024, .f32⟩
  | 19 => ⟨S8x2x1024, .f32⟩
  | 20 => ⟨S8x2x1024, .f32⟩
  | 21 => ⟨S8x2x1024, .f32⟩
  | 22 => ⟨S8x2x1024, .f32⟩
  | 23 => ⟨S_, .f32⟩
  | 24 => ⟨S8x2x1024, .f32⟩
  | 25 => ⟨S8x2x1024, .f32⟩
  | 26 => ⟨S_, .f32⟩
  | 27 => ⟨S8x2x1024, .f32⟩
  | 28 => ⟨S8x2x1024, .f32⟩
  | 29 => ⟨S8x2x1024, .f32⟩
  | 30 => ⟨S8x2x160, .f32⟩
  | 31 => ⟨S8x2x32, .f32⟩
  | 32 => ⟨S8x2x64, .f32⟩
  | 33 => ⟨S8x2x64, .f32⟩
  | 34 => ⟨S8x2x1024, .f32⟩
  | 35 => ⟨S8x1x1024, .f32⟩
  | 36 => ⟨S8x2x1024, .f32⟩
  | 37 => ⟨S8x2x1024, .f32⟩
  | 38 => ⟨S_, .f32⟩
  | 39 => ⟨S8x2x1024, .f32⟩
  | 40 => ⟨S8x2x1024, .f32⟩
  | 41 => ⟨S8x2x1024, .f32⟩
  | 42 => ⟨S8x2x1024, .f32⟩
  | 43 => ⟨S8x2x1024, .i1⟩
  | 44 => ⟨S8x2x1024, .f32⟩
  | 45 => ⟨S8x2x1024, .f32⟩
  | 46 => ⟨S8x2x1024, .f32⟩
  | 47 => ⟨S8x2x1024, .f32⟩
  | 48 => ⟨S8x2x1024, .f32⟩
  | 49 => ⟨S8x2x1024, .f32⟩
  | 50 => ⟨S8x2x1024, .f32⟩
  | 51 => ⟨S8x2x1024, .f32⟩
  | 52 => ⟨S8x1024x64, .f32⟩
  | 53 => ⟨S8x1024x64, .f32⟩
  | 54 => ⟨S8x2x1024x1, .f32⟩
  | 55 => ⟨S8x1x1024x64, .f32⟩
  | 56 => ⟨S8x2x1024x64, .f32⟩
  | 57 => ⟨S8x2x1024x64, .f32⟩
  | 58 => ⟨S8x2x1024x64, .f32⟩
  | 59 => ⟨S8x2x1024x64, .f32⟩
  | 60 => ⟨S8x2x1024x64, .f32⟩
  | 61 => ⟨S8x2x1024, .f32⟩
  | 62 => ⟨S8x2x1024x1, .f32⟩
  | 63 => ⟨S8x2x1x64, .f32⟩
  | 64 => ⟨S8x2x1024x64, .f32⟩
  | 65 => ⟨S8x2x1024x64, .f32⟩
  | 66 => ⟨S8x2x1024x64, .f32⟩
  | 67 => ⟨S8x2x1024x64, .f32⟩
  | 68 => ⟨S8x2x1024, .f32⟩
  | 69 => ⟨S8x1x1024, .f32⟩
  | 70 => ⟨S8x2x1024, .f32⟩
  | 71 => ⟨S8x2x1024, .f32⟩
  | 72 => ⟨S8x2x1024, .f32⟩
  | 73 => ⟨S8x2x1024, .f32⟩
  | 74 => ⟨S8x2x1024, .f32⟩
  | 75 => ⟨S_, .f32⟩
  | 76 => ⟨S8x2x1024, .f32⟩
  | 77 => ⟨S8x2x1024, .f32⟩
  | 78 => ⟨S_, .f32⟩
  | 79 => ⟨S8x2x1024, .f32⟩
  | 80 => ⟨S8x2x1024, .f32⟩
  | 81 => ⟨S8x2x1024, .f32⟩
  | 82 => ⟨S8x2x1024, .f32⟩
  | 83 => ⟨S8x2x512, .f32⟩
  | 84 => ⟨S8x2x3x1024, .f32⟩
  | 85 => ⟨S8x2x512, .f32⟩
  | 86 => ⟨S1x8x2x512, .f32⟩
  | 87 => ⟨S_, .i32⟩
  | 88 => ⟨S_, .i32⟩
  | 89 => ⟨S_, .i32⟩
  | 90 => ⟨S2048x8x2x512, .f32⟩
  | 91 => ⟨S_, .i32⟩
  | 92 => ⟨S_, .i32⟩
  | 93 => ⟨S_, .f32⟩
  | 94 => ⟨S2048x8x2, .f32⟩
  | 95 => ⟨S2048x8x2x1, .f32⟩
  | 96 => ⟨S_, .f32⟩
  | 97 => ⟨S2048x8x2x1, .f32⟩
  | 98 => ⟨S2048x8x2x1, .f32⟩
  | 99 => ⟨S2048x8x2x512, .f32⟩
  | 100 => ⟨S2048x8x2x512, .f32⟩
  | 101 => ⟨S2048x8x2x512, .f32⟩
  | 102 => ⟨S_, .f32⟩
  | 103 => ⟨S2048x8x2, .f32⟩
  | 104 => ⟨S2048x8x2x1, .f32⟩
  | 105 => ⟨S_, .f32⟩
  | 106 => ⟨S2048x8x2x1, .f32⟩
  | 107 => ⟨S2048x8x2x1, .f32⟩
  | 108 => ⟨S2048x8x2x512, .f32⟩
  | 109 => ⟨S2048x8x2x512, .f32⟩
  | 110 => ⟨S_, .f32⟩
  | 111 => ⟨S2048x8x2x1, .f32⟩
  | 112 => ⟨S2048x8x2x1, .f32⟩
  | 113 => ⟨S2048x8x2x1, .f32⟩
  | 114 => ⟨S2048x8x2x512, .f32⟩
  | 115 => ⟨S2048x8x2x512, .f32⟩
  | 116 => ⟨S1x1x1x512, .f32⟩
  | 117 => ⟨S2048x8x2x512, .f32⟩
  | 118 => ⟨S2048x8x2x512, .f32⟩
  | 119 => ⟨S1x1x1x512, .f32⟩
  | 120 => ⟨S2048x8x2x512, .f32⟩
  | 121 => ⟨S2048x8x2x512, .f32⟩
  | 122 => ⟨S_, .f32⟩
  | 123 => ⟨S8x2x512, .f32⟩
  | 124 => ⟨S_, .f32⟩
  | 125 => ⟨S8x2x512, .f32⟩
  | 126 => ⟨S8x2x512, .f32⟩
  | 127 => ⟨S2x8x512, .f32⟩
  | _ => ⟨S8x2x2048x1024, .f32⟩

abbrev hbmTy (i : Nat) : BufTy := match i / 128 with
  | 0 => hbmTy0_0 i
  | 1 => hbmTy0_1 i
  | 2 => hbmTy0_2 i
  | _ => ⟨S8x2x2048x1024, .f32⟩

abbrev bufTy : (tb : Table) → Fin (tcTables nBuf tb) → BufTy
  | .hbm, ⟨i, _⟩ => hbmTy i
  | _, _ => ⟨S8x2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_cst_1 : Ref sig .tc := ⟨.hbm, 20, rfl⟩
abbrev main_v3 : Ref sig .tc := ⟨.hbm, 21, rfl⟩
abbrev main_c : Ref sig .tc := ⟨.hbm, 22, rfl⟩
abbrev main_v4_0 : Ref sig .tc := ⟨.hbm, 23, rfl⟩
abbrev main_v4_1 : Ref sig .tc := ⟨.hbm, 24, rfl⟩
abbrev main_v4_2 : Ref sig .tc := ⟨.hbm, 25, rfl⟩
abbrev main_v4_3 : Ref sig .tc := ⟨.hbm, 26, rfl⟩
abbrev main_v4_4 : Ref sig .tc := ⟨.hbm, 27, rfl⟩
abbrev main_v4_5 : Ref sig .tc := ⟨.hbm, 28, rfl⟩
abbrev main_v4_6 : Ref sig .tc := ⟨.hbm, 29, rfl⟩
abbrev main_v4_7 : Ref sig .tc := ⟨.hbm, 30, rfl⟩
abbrev main_v4_8 : Ref sig .tc := ⟨.hbm, 31, rfl⟩
abbrev main_v4_9 : Ref sig .tc := ⟨.hbm, 32, rfl⟩
abbrev main_v4_10 : Ref sig .tc := ⟨.hbm, 33, rfl⟩
abbrev main_v4_11 : Ref sig .tc := ⟨.hbm, 34, rfl⟩
abbrev main_v4_12 : Ref sig .tc := ⟨.hbm, 35, rfl⟩
abbrev main_v4_13 : Ref sig .tc := ⟨.hbm, 36, rfl⟩
abbrev main_v4_14 : Ref sig .tc := ⟨.hbm, 37, rfl⟩
abbrev main_v4_15 : Ref sig .tc := ⟨.hbm, 38, rfl⟩
abbrev main_v4_16 : Ref sig .tc := ⟨.hbm, 39, rfl⟩
abbrev main_v4_17 : Ref sig .tc := ⟨.hbm, 40, rfl⟩
abbrev main_v4_18 : Ref sig .tc := ⟨.hbm, 41, rfl⟩
abbrev main_while0c_c_27 : Ref sig .tc := ⟨.hbm, 42, rfl⟩
abbrev main_while0c_v33 : Ref sig .tc := ⟨.hbm, 43, rfl⟩
abbrev main_while0b_call0_c : Ref sig .tc := ⟨.hbm, 44, rfl⟩
abbrev main_while0b_call0_c_0 : Ref sig .tc := ⟨.hbm, 45, rfl⟩
abbrev main_while0b_call0_c_1 : Ref sig .tc := ⟨.hbm, 46, rfl⟩
abbrev main_while0b_call0_v0 : Ref sig .tc := ⟨.hbm, 47, rfl⟩
abbrev main_while0b_v33 : Ref sig .tc := ⟨.hbm, 48, rfl⟩
abbrev main_while0b_v34 : Ref sig .tc := ⟨.hbm, 49, rfl⟩
abbrev main_while0b_v35 : Ref sig .tc := ⟨.hbm, 50, rfl⟩
abbrev main_while0b_v36 : Ref sig .tc := ⟨.hbm, 51, rfl⟩
abbrev main_while0b_v37 : Ref sig .tc := ⟨.hbm, 52, rfl⟩
abbrev main_while0b_call1_cst : Ref sig .tc := ⟨.hbm, 53, rfl⟩
abbrev main_while0b_call1_v0 : Ref sig .tc := ⟨.hbm, 54, rfl⟩
abbrev main_while0b_v38 : Ref sig .tc := ⟨.hbm, 55, rfl⟩
abbrev main_while0b_v39 : Ref sig .tc := ⟨.hbm, 56, rfl⟩
abbrev main_while0b_v40 : Ref sig .tc := ⟨.hbm, 57, rfl⟩
abbrev main_while0b_v41 : Ref sig .tc := ⟨.hbm, 58, rfl⟩
abbrev main_while0b_v42 : Ref sig .tc := ⟨.hbm, 59, rfl⟩
abbrev main_while0b_v43 : Ref sig .tc := ⟨.hbm, 60, rfl⟩
abbrev main_while0b_v44 : Ref sig .tc := ⟨.hbm, 61, rfl⟩
abbrev main_while0b_v45 : Ref sig .tc := ⟨.hbm, 62, rfl⟩
abbrev main_while0b_v46 : Ref sig .tc := ⟨.hbm, 63, rfl⟩
abbrev main_while0b_v47 : Ref sig .tc := ⟨.hbm, 64, rfl⟩
abbrev main_while0b_v48 : Ref sig .tc := ⟨.hbm, 65, rfl⟩
abbrev main_while0b_v49 : Ref sig .tc := ⟨.hbm, 66, rfl⟩
abbrev main_while0b_v50 : Ref sig .tc := ⟨.hbm, 67, rfl⟩
abbrev main_while0b_v51 : Ref sig .tc := ⟨.hbm, 68, rfl⟩
abbrev main_while0b_v52 : Ref sig .tc := ⟨.hbm, 69, rfl⟩
abbrev main_while0b_v53 : Ref sig .tc := ⟨.hbm, 70, rfl⟩
abbrev main_while0b_v54 : Ref sig .tc := ⟨.hbm, 71, rfl⟩
abbrev main_while0b_v55 : Ref sig .tc := ⟨.hbm, 72, rfl⟩
abbrev main_while0b_v56 : Ref sig .tc := ⟨.hbm, 73, rfl⟩
abbrev main_while0b_v57 : Ref sig .tc := ⟨.hbm, 74, rfl⟩
abbrev main_while0b_v58 : Ref sig .tc := ⟨.hbm, 75, rfl⟩
abbrev main_while0b_v59 : Ref sig .tc := ⟨.hbm, 76, rfl⟩
abbrev main_while0b_v60 : Ref sig .tc := ⟨.hbm, 77, rfl⟩
abbrev main_while0b_v61 : Ref sig .tc := ⟨.hbm, 78, rfl⟩
abbrev main_while0b_v62 : Ref sig .tc := ⟨.hbm, 79, rfl⟩
abbrev main_while0b_cst_27 : Ref sig .tc := ⟨.hbm, 80, rfl⟩
abbrev main_while0b_v63 : Ref sig .tc := ⟨.hbm, 81, rfl⟩
abbrev main_while0b_v64 : Ref sig .tc := ⟨.hbm, 82, rfl⟩
abbrev main_while0b_cst_28 : Ref sig .tc := ⟨.hbm, 83, rfl⟩
abbrev main_while0b_v65 : Ref sig .tc := ⟨.hbm, 84, rfl⟩
abbrev main_while0b_v66 : Ref sig .tc := ⟨.hbm, 85, rfl⟩
abbrev main_while0b_cst_29 : Ref sig .tc := ⟨.hbm, 86, rfl⟩
abbrev main_while0b_v67 : Ref sig .tc := ⟨.hbm, 87, rfl⟩
abbrev main_while0b_v68 : Ref sig .tc := ⟨.hbm, 88, rfl⟩
abbrev main_while0b_v69 : Ref sig .tc := ⟨.hbm, 89, rfl⟩
abbrev main_while0b_v70 : Ref sig .tc := ⟨.hbm, 90, rfl⟩
abbrev main_while0b_v71 : Ref sig .tc := ⟨.hbm, 91, rfl⟩
abbrev main_while0b_v72 : Ref sig .tc := ⟨.hbm, 92, rfl⟩
abbrev main_while0b_v73 : Ref sig .tc := ⟨.hbm, 93, rfl⟩
abbrev main_while0b_v74 : Ref sig .tc := ⟨.hbm, 94, rfl⟩
abbrev main_while0b_v75 : Ref sig .tc := ⟨.hbm, 95, rfl⟩
abbrev main_while0b_v76 : Ref sig .tc := ⟨.hbm, 96, rfl⟩
abbrev main_while0b_v77 : Ref sig .tc := ⟨.hbm, 97, rfl⟩
abbrev main_while0b_v78 : Ref sig .tc := ⟨.hbm, 98, rfl⟩
abbrev main_while0b_v79 : Ref sig .tc := ⟨.hbm, 99, rfl⟩
abbrev main_while0b_v80 : Ref sig .tc := ⟨.hbm, 100, rfl⟩
abbrev main_while0b_v81 : Ref sig .tc := ⟨.hbm, 101, rfl⟩
abbrev main_while0b_v82 : Ref sig .tc := ⟨.hbm, 102, rfl⟩
abbrev main_while0b_v83 : Ref sig .tc := ⟨.hbm, 103, rfl⟩
abbrev main_while0b_v84 : Ref sig .tc := ⟨.hbm, 104, rfl⟩
abbrev main_while0b_cst_30 : Ref sig .tc := ⟨.hbm, 105, rfl⟩
abbrev main_while0b_v85 : Ref sig .tc := ⟨.hbm, 106, rfl⟩
abbrev main_while0b_v86 : Ref sig .tc := ⟨.hbm, 107, rfl⟩
abbrev main_while0b_v87 : Ref sig .tc := ⟨.hbm, 108, rfl⟩
abbrev main_while0b_v88 : Ref sig .tc := ⟨.hbm, 109, rfl⟩
abbrev main_while0b_v89 : Ref sig .tc := ⟨.hbm, 110, rfl⟩
abbrev main_while0b_v90 : Ref sig .tc := ⟨.hbm, 111, rfl⟩
abbrev main_while0b_v91 : Ref sig .tc := ⟨.hbm, 112, rfl⟩
abbrev main_while0b_v92 : Ref sig .tc := ⟨.hbm, 113, rfl⟩
abbrev main_while0b_v93 : Ref sig .tc := ⟨.hbm, 114, rfl⟩
abbrev main_while0b_v94 : Ref sig .tc := ⟨.hbm, 115, rfl⟩
abbrev main_while0b_v95 : Ref sig .tc := ⟨.hbm, 116, rfl⟩
abbrev main_while0b_v96 : Ref sig .tc := ⟨.hbm, 117, rfl⟩
abbrev main_while0b_v97 : Ref sig .tc := ⟨.hbm, 118, rfl⟩
abbrev main_while0b_v98 : Ref sig .tc := ⟨.hbm, 119, rfl⟩
abbrev main_while0b_v99 : Ref sig .tc := ⟨.hbm, 120, rfl⟩
abbrev main_while0b_v100 : Ref sig .tc := ⟨.hbm, 121, rfl⟩
abbrev main_while0b_v101 : Ref sig .tc := ⟨.hbm, 122, rfl⟩
abbrev main_while0b_v102 : Ref sig .tc := ⟨.hbm, 123, rfl⟩
abbrev main_while0b_v103 : Ref sig .tc := ⟨.hbm, 124, rfl⟩
abbrev main_while0b_v104 : Ref sig .tc := ⟨.hbm, 125, rfl⟩
abbrev main_while0b_v105 : Ref sig .tc := ⟨.hbm, 126, rfl⟩
abbrev main_while0b_v106 : Ref sig .tc := ⟨.hbm, 127, rfl⟩
abbrev main_while0b_v107 : Ref sig .tc := ⟨.hbm, 128, rfl⟩
abbrev main_while0b_v108 : Ref sig .tc := ⟨.hbm, 129, rfl⟩
abbrev main_while0b_v109 : Ref sig .tc := ⟨.hbm, 130, rfl⟩
abbrev main_while0b_v110 : Ref sig .tc := ⟨.hbm, 131, rfl⟩
abbrev main_while0b_v111 : Ref sig .tc := ⟨.hbm, 132, rfl⟩
abbrev main_while0b_v112 : Ref sig .tc := ⟨.hbm, 133, rfl⟩
abbrev main_while0b_call2_v0 : Ref sig .tc := ⟨.hbm, 134, rfl⟩
abbrev main_while0b_call2_v1 : Ref sig .tc := ⟨.hbm, 135, rfl⟩
abbrev main_while0b_call2_cst : Ref sig .tc := ⟨.hbm, 136, rfl⟩
abbrev main_while0b_call2_v2 : Ref sig .tc := ⟨.hbm, 137, rfl⟩
abbrev main_while0b_call2_v3 : Ref sig .tc := ⟨.hbm, 138, rfl⟩
abbrev main_while0b_call2_cst_0 : Ref sig .tc := ⟨.hbm, 139, rfl⟩
abbrev main_while0b_call2_v4 : Ref sig .tc := ⟨.hbm, 140, rfl⟩
abbrev main_while0b_call2_v5 : Ref sig .tc := ⟨.hbm, 141, rfl⟩
abbrev main_while0b_v113 : Ref sig .tc := ⟨.hbm, 142, rfl⟩
abbrev main_while0b_v114 : Ref sig .tc := ⟨.hbm, 143, rfl⟩
abbrev main_while0b_v115 : Ref sig .tc := ⟨.hbm, 144, rfl⟩
abbrev main_while0b_v116 : Ref sig .tc := ⟨.hbm, 145, rfl⟩
abbrev main_while0b_v117 : Ref sig .tc := ⟨.hbm, 146, rfl⟩
abbrev main_while0b_v118 : Ref sig .tc := ⟨.hbm, 147, rfl⟩
abbrev main_while0b_v119 : Ref sig .tc := ⟨.hbm, 148, rfl⟩
abbrev main_while0b_v120 : Ref sig .tc := ⟨.hbm, 149, rfl⟩
abbrev main_while0b_v121 : Ref sig .tc := ⟨.hbm, 150, rfl⟩
abbrev main_while0b_call3_cst : Ref sig .tc := ⟨.hbm, 151, rfl⟩
abbrev main_while0b_call3_v0 : Ref sig .tc := ⟨.hbm, 152, rfl⟩
abbrev main_while0b_call3_v1 : Ref sig .tc := ⟨.hbm, 153, rfl⟩
abbrev main_while0b_call3_v2 : Ref sig .tc := ⟨.hbm, 154, rfl⟩
abbrev main_while0b_call3_v3 : Ref sig .tc := ⟨.hbm, 155, rfl⟩
abbrev main_while0b_call3_v4 : Ref sig .tc := ⟨.hbm, 156, rfl⟩
abbrev main_while0b_call3_v5 : Ref sig .tc := ⟨.hbm, 157, rfl⟩
abbrev main_while0b_call3_v6 : Ref sig .tc := ⟨.hbm, 158, rfl⟩
abbrev main_while0b_call3_v7 : Ref sig .tc := ⟨.hbm, 159, rfl⟩
abbrev main_while0b_call3_v8 : Ref sig .tc := ⟨.hbm, 160, rfl⟩
abbrev main_while0b_call3_v9 : Ref sig .tc := ⟨.hbm, 161, rfl⟩
abbrev main_while0b_call3_v10 : Ref sig .tc := ⟨.hbm, 162, rfl⟩
abbrev main_while0b_call3_v11 : Ref sig .tc := ⟨.hbm, 163, rfl⟩
abbrev main_while0b_v122 : Ref sig .tc := ⟨.hbm, 164, rfl⟩
abbrev main_while0b_v123 : Ref sig .tc := ⟨.hbm, 165, rfl⟩
abbrev main_while0b_v124 : Ref sig .tc := ⟨.hbm, 166, rfl⟩
abbrev main_while0b_v125 : Ref sig .tc := ⟨.hbm, 167, rfl⟩
abbrev main_while0b_v126 : Ref sig .tc := ⟨.hbm, 168, rfl⟩
abbrev main_while0b_v127 : Ref sig .tc := ⟨.hbm, 169, rfl⟩
abbrev main_while0b_v128 : Ref sig .tc := ⟨.hbm, 170, rfl⟩
abbrev main_while0b_v129 : Ref sig .tc := ⟨.hbm, 171, rfl⟩
abbrev main_while0b_v130 : Ref sig .tc := ⟨.hbm, 172, rfl⟩
abbrev main_while0b_v131 : Ref sig .tc := ⟨.hbm, 173, rfl⟩
abbrev main_while0b_v132 : Ref sig .tc := ⟨.hbm, 174, rfl⟩
abbrev main_while0b_v133 : Ref sig .tc := ⟨.hbm, 175, rfl⟩
abbrev main_while0b_v134 : Ref sig .tc := ⟨.hbm, 176, rfl⟩
abbrev main_while0b_v135 : Ref sig .tc := ⟨.hbm, 177, rfl⟩
abbrev main_while0b_v136 : Ref sig .tc := ⟨.hbm, 178, rfl⟩
abbrev main_while0b_v137 : Ref sig .tc := ⟨.hbm, 179, rfl⟩
abbrev main_while0b_v138 : Ref sig .tc := ⟨.hbm, 180, rfl⟩
abbrev main_while0b_v139 : Ref sig .tc := ⟨.hbm, 181, rfl⟩
abbrev main_while0b_v140 : Ref sig .tc := ⟨.hbm, 182, rfl⟩
abbrev main_while0b_v141 : Ref sig .tc := ⟨.hbm, 183, rfl⟩
abbrev main_while0b_v142 : Ref sig .tc := ⟨.hbm, 184, rfl⟩
abbrev main_while0b_v143 : Ref sig .tc := ⟨.hbm, 185, rfl⟩
abbrev main_while0b_call4_v0 : Ref sig .tc := ⟨.hbm, 186, rfl⟩
abbrev main_while0b_call4_v1 : Ref sig .tc := ⟨.hbm, 187, rfl⟩
abbrev main_while0b_call4_cst : Ref sig .tc := ⟨.hbm, 188, rfl⟩
abbrev main_while0b_call4_v2 : Ref sig .tc := ⟨.hbm, 189, rfl⟩
abbrev main_while0b_call4_v3 : Ref sig .tc := ⟨.hbm, 190, rfl⟩
abbrev main_while0b_call4_cst_0 : Ref sig .tc := ⟨.hbm, 191, rfl⟩
abbrev main_while0b_call4_v4 : Ref sig .tc := ⟨.hbm, 192, rfl⟩
abbrev main_while0b_call4_v5 : Ref sig .tc := ⟨.hbm, 193, rfl⟩
abbrev main_while0b_v144 : Ref sig .tc := ⟨.hbm, 194, rfl⟩
abbrev main_while0b_v145 : Ref sig .tc := ⟨.hbm, 195, rfl⟩
abbrev main_while0b_v146 : Ref sig .tc := ⟨.hbm, 196, rfl⟩
abbrev main_while0b_v147 : Ref sig .tc := ⟨.hbm, 197, rfl⟩
abbrev main_while0b_v148 : Ref sig .tc := ⟨.hbm, 198, rfl⟩
abbrev main_while0b_v149 : Ref sig .tc := ⟨.hbm, 199, rfl⟩
abbrev main_while0b_v150 : Ref sig .tc := ⟨.hbm, 200, rfl⟩
abbrev main_while0b_v151 : Ref sig .tc := ⟨.hbm, 201, rfl⟩
abbrev main_while0b_v152 : Ref sig .tc := ⟨.hbm, 202, rfl⟩
abbrev main_while0b_v153 : Ref sig .tc := ⟨.hbm, 203, rfl⟩
abbrev main_while0b_v154 : Ref sig .tc := ⟨.hbm, 204, rfl⟩
abbrev main_while0b_v155 : Ref sig .tc := ⟨.hbm, 205, rfl⟩
abbrev main_while0b_v156 : Ref sig .tc := ⟨.hbm, 206, rfl⟩
abbrev main_while0b_v157 : Ref sig .tc := ⟨.hbm, 207, rfl⟩
abbrev main_while0b_v158 : Ref sig .tc := ⟨.hbm, 208, rfl⟩
abbrev main_while0b_v159 : Ref sig .tc := ⟨.hbm, 209, rfl⟩
abbrev main_while0b_v160 : Ref sig .tc := ⟨.hbm, 210, rfl⟩
abbrev main_while0b_v161 : Ref sig .tc := ⟨.hbm, 211, rfl⟩
abbrev main_while0b_v162 : Ref sig .tc := ⟨.hbm, 212, rfl⟩
abbrev main_while0b_v163 : Ref sig .tc := ⟨.hbm, 213, rfl⟩
abbrev main_while0b_v164 : Ref sig .tc := ⟨.hbm, 214, rfl⟩
abbrev main_while0b_v165 : Ref sig .tc := ⟨.hbm, 215, rfl⟩
abbrev main_while0b_v166 : Ref sig .tc := ⟨.hbm, 216, rfl⟩
abbrev main_while0b_v167 : Ref sig .tc := ⟨.hbm, 217, rfl⟩
abbrev main_while0b_v168 : Ref sig .tc := ⟨.hbm, 218, rfl⟩
abbrev main_while0b_v169 : Ref sig .tc := ⟨.hbm, 219, rfl⟩
abbrev main_while0b_v170 : Ref sig .tc := ⟨.hbm, 220, rfl⟩
abbrev main_while0b_v171 : Ref sig .tc := ⟨.hbm, 221, rfl⟩
abbrev main_while0b_v172 : Ref sig .tc := ⟨.hbm, 222, rfl⟩
abbrev main_while0b_cst_31 : Ref sig .tc := ⟨.hbm, 223, rfl⟩
abbrev main_while0b_v173 : Ref sig .tc := ⟨.hbm, 224, rfl⟩
abbrev main_while0b_v174 : Ref sig .tc := ⟨.hbm, 225, rfl⟩
abbrev main_while0b_cst_32 : Ref sig .tc := ⟨.hbm, 226, rfl⟩
abbrev main_while0b_v175 : Ref sig .tc := ⟨.hbm, 227, rfl⟩
abbrev main_while0b_v176 : Ref sig .tc := ⟨.hbm, 228, rfl⟩
abbrev main_while0b_cst_33 : Ref sig .tc := ⟨.hbm, 229, rfl⟩
abbrev main_while0b_v177 : Ref sig .tc := ⟨.hbm, 230, rfl⟩
abbrev main_while0b_v178 : Ref sig .tc := ⟨.hbm, 231, rfl⟩
abbrev main_while0b_v179 : Ref sig .tc := ⟨.hbm, 232, rfl⟩
abbrev main_while0b_v180 : Ref sig .tc := ⟨.hbm, 233, rfl⟩
abbrev main_while0b_v181 : Ref sig .tc := ⟨.hbm, 234, rfl⟩
abbrev main_while0b_v182 : Ref sig .tc := ⟨.hbm, 235, rfl⟩
abbrev main_while0b_v183 : Ref sig .tc := ⟨.hbm, 236, rfl⟩
abbrev main_while0b_v184 : Ref sig .tc := ⟨.hbm, 237, rfl⟩
abbrev main_while0b_v185 : Ref sig .tc := ⟨.hbm, 238, rfl⟩
abbrev main_while0b_v186 : Ref sig .tc := ⟨.hbm, 239, rfl⟩
abbrev main_while0b_v187 : Ref sig .tc := ⟨.hbm, 240, rfl⟩
abbrev main_while0b_v188 : Ref sig .tc := ⟨.hbm, 241, rfl⟩
abbrev main_while0b_v189 : Ref sig .tc := ⟨.hbm, 242, rfl⟩
abbrev main_while0b_v190 : Ref sig .tc := ⟨.hbm, 243, rfl⟩
abbrev main_while0b_v191 : Ref sig .tc := ⟨.hbm, 244, rfl⟩
abbrev main_while0b_v192 : Ref sig .tc := ⟨.hbm, 245, rfl⟩
abbrev main_while0b_v193 : Ref sig .tc := ⟨.hbm, 246, rfl⟩
abbrev main_while0b_v194 : Ref sig .tc := ⟨.hbm, 247, rfl⟩
abbrev main_while0b_cst_34 : Ref sig .tc := ⟨.hbm, 248, rfl⟩
abbrev main_while0b_v195 : Ref sig .tc := ⟨.hbm, 249, rfl⟩
abbrev main_while0b_v196 : Ref sig .tc := ⟨.hbm, 250, rfl⟩
abbrev main_while0b_v197 : Ref sig .tc := ⟨.hbm, 251, rfl⟩
abbrev main_while0b_v198 : Ref sig .tc := ⟨.hbm, 252, rfl⟩
abbrev main_while0b_v199 : Ref sig .tc := ⟨.hbm, 253, rfl⟩
abbrev main_while0b_v200 : Ref sig .tc := ⟨.hbm, 254, rfl⟩
abbrev main_while0b_v201 : Ref sig .tc := ⟨.hbm, 255, rfl⟩
abbrev main_while0b_v202 : Ref sig .tc := ⟨.hbm, 256, rfl⟩
abbrev main_while0b_v203 : Ref sig .tc := ⟨.hbm, 257, rfl⟩
abbrev main_while0b_v204 : Ref sig .tc := ⟨.hbm, 258, rfl⟩
abbrev main_while0b_v205 : Ref sig .tc := ⟨.hbm, 259, rfl⟩
abbrev main_while0b_v206 : Ref sig .tc := ⟨.hbm, 260, rfl⟩
abbrev main_while0b_v207 : Ref sig .tc := ⟨.hbm, 261, rfl⟩
abbrev main_while0b_v208 : Ref sig .tc := ⟨.hbm, 262, rfl⟩
abbrev main_while0b_v209 : Ref sig .tc := ⟨.hbm, 263, rfl⟩
abbrev main_while0b_v210 : Ref sig .tc := ⟨.hbm, 264, rfl⟩
abbrev main_while0b_v211 : Ref sig .tc := ⟨.hbm, 265, rfl⟩
abbrev main_while0b_v212 : Ref sig .tc := ⟨.hbm, 266, rfl⟩
abbrev main_while0b_v213 : Ref sig .tc := ⟨.hbm, 267, rfl⟩
abbrev main_while0b_v214 : Ref sig .tc := ⟨.hbm, 268, rfl⟩
abbrev main_while0b_v215 : Ref sig .tc := ⟨.hbm, 269, rfl⟩
abbrev main_while0b_v216 : Ref sig .tc := ⟨.hbm, 270, rfl⟩
abbrev main_while0b_v217 : Ref sig .tc := ⟨.hbm, 271, rfl⟩
abbrev main_while0b_v218 : Ref sig .tc := ⟨.hbm, 272, rfl⟩
abbrev main_while0b_v219 : Ref sig .tc := ⟨.hbm, 273, rfl⟩
abbrev main_while0b_v220 : Ref sig .tc := ⟨.hbm, 274, rfl⟩
abbrev main_while0b_v221 : Ref sig .tc := ⟨.hbm, 275, rfl⟩
abbrev main_while0b_v222 : Ref sig .tc := ⟨.hbm, 276, rfl⟩
abbrev main_while0b_call5_v0 : Ref sig .tc := ⟨.hbm, 277, rfl⟩
abbrev main_while0b_call5_v1 : Ref sig .tc := ⟨.hbm, 278, rfl⟩
abbrev main_while0b_call5_cst : Ref sig .tc := ⟨.hbm, 279, rfl⟩
abbrev main_while0b_call5_v2 : Ref sig .tc := ⟨.hbm, 280, rfl⟩
abbrev main_while0b_call5_v3 : Ref sig .tc := ⟨.hbm, 281, rfl⟩
abbrev main_while0b_call5_cst_0 : Ref sig .tc := ⟨.hbm, 282, rfl⟩
abbrev main_while0b_call5_v4 : Ref sig .tc := ⟨.hbm, 283, rfl⟩
abbrev main_while0b_call5_v5 : Ref sig .tc := ⟨.hbm, 284, rfl⟩
abbrev main_while0b_v223 : Ref sig .tc := ⟨.hbm, 285, rfl⟩
abbrev main_while0b_v224 : Ref sig .tc := ⟨.hbm, 286, rfl⟩
abbrev main_while0b_v225 : Ref sig .tc := ⟨.hbm, 287, rfl⟩
abbrev main_while0b_v226 : Ref sig .tc := ⟨.hbm, 288, rfl⟩
abbrev main_while0b_v227 : Ref sig .tc := ⟨.hbm, 289, rfl⟩
abbrev main_while0b_v228 : Ref sig .tc := ⟨.hbm, 290, rfl⟩
abbrev main_while0b_v229 : Ref sig .tc := ⟨.hbm, 291, rfl⟩
abbrev main_while0b_v230 : Ref sig .tc := ⟨.hbm, 292, rfl⟩
abbrev main_while0b_v231 : Ref sig .tc := ⟨.hbm, 293, rfl⟩
abbrev main_while0b_call6_cst : Ref sig .tc := ⟨.hbm, 294, rfl⟩
abbrev main_while0b_call6_v0 : Ref sig .tc := ⟨.hbm, 295, rfl⟩
abbrev main_while0b_call6_v1 : Ref sig .tc := ⟨.hbm, 296, rfl⟩
abbrev main_while0b_call6_v2 : Ref sig .tc := ⟨.hbm, 297, rfl⟩
abbrev main_while0b_call6_v3 : Ref sig .tc := ⟨.hbm, 298, rfl⟩
abbrev main_while0b_call6_v4 : Ref sig .tc := ⟨.hbm, 299, rfl⟩
abbrev main_while0b_call6_v5 : Ref sig .tc := ⟨.hbm, 300, rfl⟩
abbrev main_while0b_call6_v6 : Ref sig .tc := ⟨.hbm, 301, rfl⟩
abbrev main_while0b_call6_v7 : Ref sig .tc := ⟨.hbm, 302, rfl⟩
abbrev main_while0b_call6_v8 : Ref sig .tc := ⟨.hbm, 303, rfl⟩
abbrev main_while0b_call6_v9 : Ref sig .tc := ⟨.hbm, 304, rfl⟩
abbrev main_while0b_call6_v10 : Ref sig .tc := ⟨.hbm, 305, rfl⟩
abbrev main_while0b_call6_v11 : Ref sig .tc := ⟨.hbm, 306, rfl⟩
abbrev main_while0b_v232 : Ref sig .tc := ⟨.hbm, 307, rfl⟩
abbrev main_while0b_v233 : Ref sig .tc := ⟨.hbm, 308, rfl⟩
abbrev main_while0b_v234 : Ref sig .tc := ⟨.hbm, 309, rfl⟩
abbrev main_while0b_v235 : Ref sig .tc := ⟨.hbm, 310, rfl⟩
abbrev main_while0b_v236 : Ref sig .tc := ⟨.hbm, 311, rfl⟩
abbrev main_while0b_v237 : Ref sig .tc := ⟨.hbm, 312, rfl⟩
abbrev main_while0b_v238 : Ref sig .tc := ⟨.hbm, 313, rfl⟩
abbrev main_while0b_v239 : Ref sig .tc := ⟨.hbm, 314, rfl⟩
abbrev main_while0b_v240 : Ref sig .tc := ⟨.hbm, 315, rfl⟩
abbrev main_while0b_v241 : Ref sig .tc := ⟨.hbm, 316, rfl⟩
abbrev main_while0b_v242 : Ref sig .tc := ⟨.hbm, 317, rfl⟩
abbrev main_while0b_v243 : Ref sig .tc := ⟨.hbm, 318, rfl⟩
abbrev main_while0b_v244 : Ref sig .tc := ⟨.hbm, 319, rfl⟩
abbrev main_while0b_v245 : Ref sig .tc := ⟨.hbm, 320, rfl⟩
abbrev main_while0b_v246 : Ref sig .tc := ⟨.hbm, 321, rfl⟩
abbrev main_while0b_v247 : Ref sig .tc := ⟨.hbm, 322, rfl⟩
abbrev main_while0b_v248 : Ref sig .tc := ⟨.hbm, 323, rfl⟩
abbrev main_while0b_v249 : Ref sig .tc := ⟨.hbm, 324, rfl⟩
abbrev main_while0b_v250 : Ref sig .tc := ⟨.hbm, 325, rfl⟩
abbrev main_while0b_v251 : Ref sig .tc := ⟨.hbm, 326, rfl⟩
abbrev main_while0b_v252 : Ref sig .tc := ⟨.hbm, 327, rfl⟩
abbrev main_while0b_v253 : Ref sig .tc := ⟨.hbm, 328, rfl⟩
abbrev main_while0b_call7_v0 : Ref sig .tc := ⟨.hbm, 329, rfl⟩
abbrev main_while0b_call7_v1 : Ref sig .tc := ⟨.hbm, 330, rfl⟩
abbrev main_while0b_call7_cst : Ref sig .tc := ⟨.hbm, 331, rfl⟩
abbrev main_while0b_call7_v2 : Ref sig .tc := ⟨.hbm, 332, rfl⟩
abbrev main_while0b_call7_v3 : Ref sig .tc := ⟨.hbm, 333, rfl⟩
abbrev main_while0b_call7_cst_0 : Ref sig .tc := ⟨.hbm, 334, rfl⟩
abbrev main_while0b_call7_v4 : Ref sig .tc := ⟨.hbm, 335, rfl⟩
abbrev main_while0b_call7_v5 : Ref sig .tc := ⟨.hbm, 336, rfl⟩
abbrev main_while0b_v254 : Ref sig .tc := ⟨.hbm, 337, rfl⟩
abbrev main_while0b_v255 : Ref sig .tc := ⟨.hbm, 338, rfl⟩
abbrev main_while0b_v256 : Ref sig .tc := ⟨.hbm, 339, rfl⟩
abbrev main_while0b_v257 : Ref sig .tc := ⟨.hbm, 340, rfl⟩
abbrev main_while0b_v258 : Ref sig .tc := ⟨.hbm, 341, rfl⟩
abbrev main_while0b_call8_v0 : Ref sig .tc := ⟨.hbm, 342, rfl⟩
abbrev main_while0b_call8_c : Ref sig .tc := ⟨.hbm, 343, rfl⟩
abbrev main_while0b_call8_c_0 : Ref sig .tc := ⟨.hbm, 344, rfl⟩
abbrev main_while0b_call8_c_1 : Ref sig .tc := ⟨.hbm, 345, rfl⟩
abbrev main_while0b_v259 : Ref sig .tc := ⟨.hbm, 346, rfl⟩
abbrev main_while0b_c_35 : Ref sig .tc := ⟨.hbm, 347, rfl⟩
abbrev main_while0b_v260 : Ref sig .tc := ⟨.hbm, 348, rfl⟩
abbrev main_cst_2 : Ref sig .tc := ⟨.hbm, 349, rfl⟩
abbrev main_v5 : Ref sig .tc := ⟨.hbm, 350, rfl⟩
abbrev main_v6 : Ref sig .tc := ⟨.hbm, 351, rfl⟩
abbrev main_cst_3 : Ref sig .tc := ⟨.hbm, 352, rfl⟩
abbrev main_v7 : Ref sig .tc := ⟨.hbm, 353, rfl⟩
abbrev main_v8 : Ref sig .tc := ⟨.hbm, 354, rfl⟩
abbrev main_v9 : Ref sig .tc := ⟨.hbm, 355, rfl⟩
abbrev main_v10 : Ref sig .tc := ⟨.hbm, 356, rfl⟩
abbrev main_v11 : Ref sig .tc := ⟨.hbm, 357, rfl⟩
abbrev main_cst_4 : Ref sig .tc := ⟨.hbm, 358, rfl⟩
abbrev main_v12 : Ref sig .tc := ⟨.hbm, 359, rfl⟩
abbrev main_v13 : Ref sig .tc := ⟨.hbm, 360, rfl⟩
abbrev main_cst_5 : Ref sig .tc := ⟨.hbm, 361, rfl⟩
abbrev main_v14 : Ref sig .tc := ⟨.hbm, 362, rfl⟩
abbrev main_v15 : Ref sig .tc := ⟨.hbm, 363, rfl⟩
abbrev main_v16 : Ref sig .tc := ⟨.hbm, 364, rfl⟩
abbrev main_v17 : Ref sig .tc := ⟨.hbm, 365, rfl⟩
abbrev main_cst_6 : Ref sig .tc := ⟨.hbm, 366, rfl⟩
abbrev main_v18 : Ref sig .tc := ⟨.hbm, 367, rfl⟩
abbrev main_v19 : Ref sig .tc := ⟨.hbm, 368, rfl⟩
abbrev main_v20 : Ref sig .tc := ⟨.hbm, 369, rfl⟩
abbrev main_v21 : Ref sig .tc := ⟨.hbm, 370, rfl⟩
abbrev main_v22 : Ref sig .tc := ⟨.hbm, 371, rfl⟩
abbrev main_v23 : Ref sig .tc := ⟨.hbm, 372, rfl⟩
abbrev main_v24 : Ref sig .tc := ⟨.hbm, 373, rfl⟩
abbrev main_v25 : Ref sig .tc := ⟨.hbm, 374, rfl⟩
abbrev main_v26 : Ref sig .tc := ⟨.hbm, 375, rfl⟩
abbrev main_v27 : Ref sig .tc := ⟨.hbm, 376, rfl⟩
abbrev main_v28 : Ref sig .tc := ⟨.hbm, 377, rfl⟩
abbrev main_cst_7 : Ref sig .tc := ⟨.hbm, 378, rfl⟩
abbrev main_v29 : Ref sig .tc := ⟨.hbm, 379, rfl⟩
abbrev main_cst_8 : Ref sig .tc := ⟨.hbm, 380, rfl⟩
abbrev main_v30 : Ref sig .tc := ⟨.hbm, 381, rfl⟩
abbrev main_v31 : Ref sig .tc := ⟨.hbm, 382, rfl⟩
abbrev main_v32 : Ref sig .tc := ⟨.hbm, 383, rfl⟩

abbrev nD : Nat := 1
abbrev τ : Topo := Topo.v7x

variable {F : FTy → Type} [FloatOps F]

abbrev main_while0_count : Scf.Loop 32 := ⟨0#32, 2048#32, 1#32⟩
-- ==== Head.lean ====
abbrev S8x2x512 : Shape := ⟨3, ![8, 2, 512]⟩
abbrev S2x512 : Shape := ⟨2, ![2, 512]⟩
abbrev S2 : Shape := ⟨1, ![2]⟩
abbrev S512x2 : Shape := ⟨2, ![512, 2]⟩
abbrev S1x2 : Shape := ⟨2, ![1, 2]⟩
abbrev S2x8x2 : Shape := ⟨3, ![2, 8, 2]⟩
abbrev S2x2 : Shape := ⟨2, ![2, 2]⟩
abbrev S16x512 : Shape := ⟨2, ![16, 512]⟩
abbrev S16x2 : Shape := ⟨2, ![16, 2]⟩
abbrev S8x2x2 : Shape := ⟨3, ![8, 2, 2]⟩

abbrev nBuf : Space → Nat
  | .hbm => 8
  | .vmem => 6
  | .smem => 0
  | _ => 0

abbrev bufTy : (tb : Table) → Fin (tcTables nBuf tb) → BufTy
  | .hbm, ⟨0, _⟩ => ⟨S8x2x512, .f32⟩
  | .hbm, ⟨1, _⟩ => ⟨S2x512, .f32⟩
  | .hbm, ⟨2, _⟩ => ⟨S2, .f32⟩
  | .hbm, ⟨3, _⟩ => ⟨S512x2, .f32⟩
  | .hbm, ⟨4, _⟩ => ⟨S1x2, .f32⟩
  | .hbm, ⟨5, _⟩ => ⟨S2x8x2, .f32⟩
  | .hbm, ⟨6, _⟩ => ⟨S2x512, .f32⟩
  | .hbm, ⟨7, _⟩ => ⟨S2x2, .f32⟩
  | .local _ .vmem, ⟨0, _⟩ => ⟨S8x2x512, .f32⟩
  | .local _ .vmem, ⟨1, _⟩ => ⟨S512x2, .f32⟩
  | .local _ .vmem, ⟨2, _⟩ => ⟨S1x2, .f32⟩
  | .local _ .vmem, ⟨3, _⟩ => ⟨S2x8x2, .f32⟩
  | .local _ .vmem, ⟨4, _⟩ => ⟨S2x512, .f32⟩
  | .local _ .vmem, ⟨5, _⟩ => ⟨S2x2, .f32⟩
  | _, _ => ⟨S8x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== HeadReferenceIdeal.lean ====
abbrev S8x2x512 : Shape := ⟨3, ![8, 2, 512]⟩
abbrev S2x512 : Shape := ⟨2, ![2, 512]⟩
abbrev S2 : Shape := ⟨1, ![2]⟩
abbrev S2x8x512 : Shape := ⟨3, ![2, 8, 512]⟩
abbrev S512x2 : Shape := ⟨2, ![512, 2]⟩
abbrev S2x8x2 : Shape := ⟨3, ![2, 8, 2]⟩
abbrev S1x1x2 : Shape := ⟨3, ![1, 1, 2]⟩
abbrev S_ : Shape := ⟨0, ![]⟩
abbrev S2x2 : Shape := ⟨2, ![2, 2]⟩
abbrev S1x2 : Shape := ⟨2, ![1, 2]⟩

abbrev nBuf : Space → Nat
  | .hbm => 19
  | .vmem => 0
  | .smem => 0
  | _ => 0

abbrev bufTy : (tb : Table) → Fin (tcTables nBuf tb) → BufTy
  | .hbm, ⟨0, _⟩ => ⟨S8x2x512, .f32⟩
  | .hbm, ⟨1, _⟩ => ⟨S2x512, .f32⟩
  | .hbm, ⟨2, _⟩ => ⟨S2, .f32⟩
  | .hbm, ⟨3, _⟩ => ⟨S2x8x512, .f32⟩
  | .hbm, ⟨4, _⟩ => ⟨S512x2, .f32⟩
  | .hbm, ⟨5, _⟩ => ⟨S2x8x2, .f32⟩
  | .hbm, ⟨6, _⟩ => ⟨S1x1x2, .f32⟩
  | .hbm, ⟨7, _⟩ => ⟨S2x8x2, .f32⟩
  | .hbm, ⟨8, _⟩ => ⟨S2x8x2, .f32⟩
  | .hbm, ⟨9, _⟩ => ⟨S_, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S512x2, .f32⟩
  | .hbm, ⟨15, _⟩ => ⟨S2x2, .f32⟩
  | .hbm, ⟨16, _⟩ => ⟨S1x2, .f32⟩
  | .hbm, ⟨17, _⟩ => ⟨S2x2, .f32⟩
  | .hbm, ⟨18, _⟩ => ⟨S2x2, .f32⟩
  | _, _ => ⟨S8x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.HeadValue.lean ====
/-
  What the second call leaves in its three results, and that these are the reference's terms on the extended reals.
-/
module

public import proofs.«01_k».proof.Proof.Gen.HeadIdeal.Value
public import proofs.«01_k».proof.Proof.Gen.HeadReferenceIdeal.Run
public import Idealize.ShloMosaic.Lib.Pipeline.ValueKit.Basic
public import Idealize.ShloMosaic.Lib.Pointwise

@[expose] public section

noncomputable section

namespace Cert.Proof.Head

open Cert.HeadIdeal Cert.HeadIdeal.Gen
open Idealize.ShloMosaic Idealize.ShloMosaic.TcCoe

section Run
variable {F : FTy → Type} [FloatOps F] (m : (ℓ : Loc nD τ sig) → Buf (Elt F) ℓ)

/-- The class weights with the class axis last, as the call reads them. -/
abbrev wT (w : Vec F S2x512 .f32) : Vec F S512x2 .f32 := transpose S512x2 [1, 0] w transposes_S2x512_S512x2_1_0
/-- The class bias as one row. -/
abbrev bRow (b : Vec F S2 .f32) : Vec F S1x2 .f32 := shapeCast S1x2 b shapeCasts_S2_S1x2

theorem whole3 (z : S2x8x2.Idx) : ((cfg0.win 3).blk t0_0).view.emb z = z := by
  funext a; apply Fin.ext
  match a with
  | ⟨0, _⟩ => show 0 * 2 + 1 * (z 0).val = (z 0).val; omega
  | ⟨1, _⟩ => show 0 * 8 + 1 * (z 1).val = (z 1).val; omega
  | ⟨2, _⟩ => show 0 * 2 + 1 * (z 2).val = (z 2).val; omega
theorem whole4 (z : S2x512.Idx) : ((cfg0.win 4).blk t0_0).view.emb z = z := by
  funext a; apply Fin.ext
  match a with
  | ⟨0, _⟩ => show 0 * 2 + 1 * (z 0).val = (z 0).val; omega
  | ⟨1, _⟩ => show 0 * 512 + 1 * (z 1).val = (z 1).val; omega
theorem whole5 (z : S2x2.Idx) : ((cfg0.win 5).blk t0_0).view.emb z = z := by
  funext a; apply Fin.ext
  match a with
  | ⟨0, _⟩ => show 0 * 2 + 1 * (z 0).val = (z 0).val; omega
  | ⟨1, _⟩ => show 0 * 2 + 1 * (z 1).val = (z 1).val; omega

theorem in0 (c : Dev nD) : iblk m c 0 t0_0 = m ((c : Thread nD τ).loc main_arg0) := by
  funext z
  show V m c main_arg0 (((cfg0.win 0).blk t0_0).view.emb z) = _
  rw [V_main_arg0]
  refine congrArg _ (funext fun a => Fin.ext ?_)
  match a with
  | ⟨0, _⟩ => show 0 * 8 + 1 * (z 0).val = (z 0).val; omega
  | ⟨1, _⟩ => show 0 * 2 + 1 * (z 1).val = (z 1).val; omega
  | ⟨2, _⟩ => show 0 * 512 + 1 * (z 2).val = (z 2).val; omega
theorem in1 (c : Dev nD) : iblk m c 1 t0_0 = wT (m ((c : Thread nD τ).loc main_arg1)) := by
  funext z
  show wT (m ((c : Thread nD τ).loc main_arg1)) (((cfg0.win 1).blk t0_0).view.emb z) = _
  refine congrArg _ (funext fun a => Fin.ext ?_)
  match a with
  | ⟨0, _⟩ => show 0 * 512 + 1 * (z 0).val = (z 0).val; omega
  | ⟨1, _⟩ => show 0 * 2 + 1 * (z 1).val = (z 1).val; omega
theorem in2 (c : Dev nD) : iblk m c 2 t0_0 = bRow (m ((c : Thread nD τ).loc main_arg2)) := by
  funext z
  show bRow (m ((c : Thread nD τ).loc main_arg2)) (((cfg0.win 2).blk t0_0).view.emb z) = _
  refine congrArg _ (funext fun a => Fin.ext ?_)
  match a with
  | ⟨0, _⟩ => show 0 * 1 + 1 * (z 0).val = (z 0).val; omega
  | ⟨1, _⟩ => show 0 * 2 + 1 * (z 1).val = (z 1).val; omega

/-- The three results after the run. -/
theorem res3 (c : Dev nD) : (dats m 0 c).arrAt 3 cfg0.N = k0_pay1 (m ((c : Thread nD τ).loc main_arg0))
    (wT (m ((c : Thread nD τ).loc main_arg1))) (bRow (m ((c : Thread nD τ).loc main_arg2))) := by
  funext y
  have b := congrFun (Value.blocks3 m c t0_0 rfl) y
  rw [Value.flushed3] at b
  have b' : (dats m 0 c).arrAt 3 cfg0.N (((cfg0.win 3).blk t0_0).view.emb y) = out0_3 (iblk m c 0 t0_0) (iblk m c 1 t0_0) (iblk m c 2 t0_0) y := b
  rw [whole3] at b'
  rw [b']
  unfold out0_3
  rw [View.canon_cons_unit_lit _ _ _ (by decide), View.ld_unit_lit _ _ (by decide), View.ld_unit_lit _ _ (by decide), View.ld_unit_lit _ _ (by decide), in0, in1, in2]
theorem res4 (c : Dev nD) : (dats m 0 c).arrAt 4 cfg0.N = k0_pay2 (m ((c : Thread nD τ).loc main_arg0)) := by
  funext y
  have b := congrFun (Value.blocks4 m c t0_0 rfl) y
  rw [Value.flushed4] at b
  have b' : (dats m 0 c).arrAt 4 cfg0.N (((cfg0.win 4).blk t0_0).view.emb y) = out0_4 (iblk m c 0 t0_0) (iblk m c 1 t0_0) (iblk m c 2 t0_0) y := b
  rw [whole4] at b'
  rw [b']
  unfold out0_4
  rw [View.canon_cons_unit_lit _ _ _ (by decide), View.ld_unit_lit _ _ (by decide), in0]
theorem res5 (c : Dev nD) : (dats m 0 c).arrAt 5 cfg0.N = k0_pay3 (m ((c : Thread nD τ).loc main_arg0))
    (wT (m ((c : Thread nD τ).loc main_arg1))) (bRow (m ((c : Thread nD τ).loc main_arg2))) := by
  funext y
  have b := congrFun (Value.blocks5 m c t0_0 rfl) y
  rw [Value.flushed5] at b
  have b' : (dats m 0 c).arrAt 5 cfg0.N (((cfg0.win 5).blk t0_0).view.emb y) = out0_5 (iblk m c 0 t0_0) (iblk m c 1 t0_0) (iblk m c 2 t0_0) y := b
  rw [whole5] at b'
  rw [b']
  unfold out0_5
  rw [View.canon_cons_unit_lit _ _ _ (by decide), View.ld_unit_lit _ _ (by decide), View.ld_unit_lit _ _ (by decide), View.ld_unit_lit _ _ (by decide), in0, in1, in2]
end Run

end Cert.Proof.Head

end
-- ==== Proof.HeadClaims.lean ====
/-
  The claims about the second call: its three results are the reference's, and the frames.
-/
module

public import proofs.«01_k».proof.Defs
public import proofs.«01_k».proof.Proof.HeadValue
public import proofs.«01_k».proof.Proof.Gen.Head.Frame

@[expose] public section

noncomputable section

namespace Cert.Proof.Head

open Idealize.ShloMosaic Idealize.ShloMosaic.TcCoe Idealize.SL.Sem

section Pure
open Cert.HeadReferenceIdeal Cert.HeadReferenceIdeal.Gen

/-- The reference's mean over the experts, as its operations compose it. -/
abbrev refMean (x : FVec Ideal S8x2x512 .f32) : FVec Ideal S2x512 .f32 :=
  Host.divf (Host.reduceAdd (transpose S2x8x512 [1, 0, 2] x transposes_S8x2x512_S2x8x512_1_0_2) (constant S_ .f32 0x00000000#32) reducesTo_S2x8x512_S2x512_d1 h_S_) (broadcastInDim S2x512 ![] bcast_S_S2x512 (constant S_ .f32 0x41000000#32))
/-- The reference's logits of each expert. -/
abbrev refLogits (x : FVec Ideal S8x2x512 .f32) (w : FVec Ideal S2x512 .f32) (b : FVec Ideal S2 .f32) : FVec Ideal S2x8x2 .f32 :=
  addf (Host.dotGeneral dot_S2x8x512_S512x2_S2x8x2_2_0_01_1_n_n none (transpose S2x8x512 [1, 0, 2] x transposes_S8x2x512_S2x8x512_1_0_2) (transpose S512x2 [1, 0] w transposes_S2x512_S512x2_1_0)) (broadcastInDim S2x8x2 ![0, 1, 2] bcast_S1x1x2_S2x8x2_0_1_2 (broadcastInDim S1x1x2 ![2] bcast_S2_S1x1x2_2 b))
/-- The reference's logits of the mean. -/
abbrev refMeanLogits (x : FVec Ideal S8x2x512 .f32) (w : FVec Ideal S2x512 .f32) (b : FVec Ideal S2 .f32) : FVec Ideal S2x2 .f32 :=
  addf (Host.dotGeneral dot_S2x512_S512x2_S2x2_1_0_0_1_n_n none (refMean x) (transpose S512x2 [1, 0] w transposes_S2x512_S512x2_1_0)) (broadcastInDim S2x2 ![0, 1] bcast_S1x2_S2x2_0_1 (broadcastInDim S1x2 ![1] bcast_S2_S1x2_1 b))

theorem mean_eq (x : FVec Ideal S8x2x512 .f32) : Cert.HeadIdeal.Gen.k0_pay2 x = refMean x := by
  funext j
  pointwise! [Cert.HeadIdeal.Gen.k0_pay2, refMean]

theorem logits_eq (x : FVec Ideal S8x2x512 .f32) (w : FVec Ideal S2x512 .f32) (b : FVec Ideal S2 .f32) :
    Cert.HeadIdeal.Gen.k0_pay1 x (wT w) (bRow b) = refLogits x w b := by
  funext j
  pointwise! [Cert.HeadIdeal.Gen.k0_pay1, refLogits, wT, bRow]

theorem mean_logits_eq (x : FVec Ideal S8x2x512 .f32) (w : FVec Ideal S2x512 .f32) (b : FVec Ideal S2 .f32) :
    Cert.HeadIdeal.Gen.k0_pay3 x (wT w) (bRow b) = refMeanLogits x w b := by
  funext j
  pointwise! [Cert.HeadIdeal.Gen.k0_pay3, Cert.HeadIdeal.Gen.k0_pay2, refMeanLogits, refMean, wT, bRow]
end Pure

theorem frame_p : Cert.quiescent_Head (hHead := Cert.Head.Gen.facts) := fun m g _ => Cert.Head.Gen.frame m g
theorem frame_pi : Cert.quiescent_HeadIdeal (hHeadIdeal := Cert.HeadIdeal.Gen.facts) := fun m g _ => Cert.HeadIdeal.Gen.frame m g
theorem frame_ri : Cert.quiescent_HeadReferenceIdeal (hHeadReferenceIdeal := Cert.HeadReferenceIdeal.Gen.facts) := fun m g _ =>
  (θ_run Cert.HeadReferenceIdeal.defs _ _).mono (fun r h => ⟨fun c => (h c).2.2.2, sem_eq_zero_of_no_sems (by decide) r.2⟩)
    (Cert.HeadReferenceIdeal.Value.run (F := Ideal) m g)

theorem algebraic : Cert.algebraic_HeadIdeal_HeadReferenceIdeal (hHeadIdeal := Cert.HeadIdeal.Gen.facts)
    (hHeadReferenceIdeal := Cert.HeadReferenceIdeal.Gen.facts) := by
  intro m g m' g' _ hagree
  refine ⟨_, _, _, Cert.HeadIdeal.Value.run_blocks (F := Ideal) m g, ?_⟩
  refine (θ_run Cert.HeadReferenceIdeal.defs _ _).mono (fun _ h c => ?_) (Cert.HeadReferenceIdeal.Value.run (F := Ideal) m' g')
  obtain ⟨h0, h1, h2, h3⟩ := h c
  obtain ⟨a0, a1, a2⟩ := hagree c
  refine ⟨h0.trans ?_, h1.trans ?_, h2.trans ?_, h3⟩
  · rw [a0, a1, a2, res3]; exact (logits_eq _ _ _).symm
  · rw [a0, res4]; exact (mean_eq _).symm
  · rw [a0, a1, a2, res5]; exact (mean_logits_eq _ _ _).symm

end Cert.Proof.Head

end
-- ==== Proof.Step.lean ====
/-
  One time step of the kernel's scan as functions of arrays, at any float interpretation: what the state becomes
  (`stepState`), what the step stores (`stepOut`), and the states after the first steps of a block (`stAt`).
-/
module

public import proofs.«01_k».proof.Proof.Gen.KernelIdeal.Skeleton

@[expose] public section

noncomputable section

namespace Cert.Proof.KI

open Cert.KernelIdeal Cert.KernelIdeal.Gen
open Idealize.ShloMosaic Idealize.SL.Sem

variable {F : FTy → Type} [FloatOps F] [Named F]

theorem slices_row (j : ℕ) (hj : j < 32) : S32x2048.Slices ![j, 0] S1x2048 :=
  ⟨rfl, Fin.forall_fin_two.mpr ⟨by show j + 1 ≤ 32; omega, by show 0 + 2048 ≤ 2048; omega⟩⟩
theorem slices_col (o j : ℕ) (ho : o + 64 ≤ 256) (hj : j < 32) : S256x32.Slices ![o, j] S64x1 :=
  ⟨rfl, Fin.forall_fin_two.mpr ⟨ho, by show j + 1 ≤ 32; omega⟩⟩

/-- Row `j` of a block of 32. -/
def rowOf (d : FVec F S32x2048 .f32) (j : ℕ) (hj : j < 32) : FVec F S1x2048 .f32 :=
  extractStridedSlice S1x2048 ![j, 0] d (slices_row j hj)

/-- The 64 numbers of part `q` at step `j`. -/
def colOf (bct : FVec F S256x32 .f32) (q j : ℕ) (hq : q < 4) (hj : j < 32) : FVec F S64x1 .f32 :=
  extractStridedSlice S64x1 ![64 * q, j] bct (slices_col (64 * q) j (by omega) hj)

/-- The state after a step. -/
def stepState (a : FVec F S64x1 .f32) (bct : FVec F S256x32 .f32) (d du : FVec F S32x2048 .f32) (j : ℕ) (hj : j < 32)
    (s : FVec F S64x2048 .f32) : FVec F S64x2048 .f32 :=
  addf
    (mulf (exp2 (mulf (broadcastTo S64x2048 a broadcasts_S64x1_S64x2048)
      (broadcastTo S64x2048 (rowOf d j hj) broadcasts_S1x2048_S64x2048))) s)
    (concatenate S64x2048 1
      [⟨S64x1024, mulf (broadcastTo S64x1024 (colOf bct 0 j (by decide) hj) broadcasts_S64x1_S64x1024)
        (broadcastTo S64x1024 (extractStridedSlice S1x1024 ![0, 0] (rowOf du j hj) slices_S1x2048_o0_0_S1x1024) broadcasts_S1x1024_S64x1024)⟩,
       ⟨S64x1024, mulf (broadcastTo S64x1024 (colOf bct 1 j (by decide) hj) broadcasts_S64x1_S64x1024)
        (broadcastTo S64x1024 (extractStridedSlice S1x1024 ![0, 1024] (rowOf du j hj) slices_S1x2048_o0_1024_S1x1024) broadcasts_S1x1024_S64x1024)⟩]
      concatenates_S64x1024_S64x1024_S64x2048_d1)

/-- The products the step sums. -/
def stepProd (bct : FVec F S256x32 .f32) (j : ℕ) (hj : j < 32) (s : FVec F S64x2048 .f32) : FVec F S64x2048 .f32 :=
  concatenate S64x2048 1
    [⟨S64x1024, mulf (extractStridedSlice S64x1024 ![0, 0] s slices_S64x2048_o0_0_S64x1024)
        (broadcastTo S64x1024 (colOf bct 2 j (by decide) hj) broadcasts_S64x1_S64x1024)⟩,
     ⟨S64x1024, mulf (extractStridedSlice S64x1024 ![0, 1024] s slices_S64x2048_o0_1024_S64x1024)
        (broadcastTo S64x1024 (colOf bct 3 j (by decide) hj) broadcasts_S64x1_S64x1024)⟩]
    concatenates_S64x1024_S64x1024_S64x2048_d1

/-- The eight rows of partial sums. -/
def fold8 (p : FVec F S64x2048 .f32) : FVec F S8x2048 .f32 :=
  addf (addf (addf (addf (addf (addf (addf
    (extractStridedSlice S8x2048 ![0, 0] p slices_S64x2048_o0_0_S8x2048)
    (extractStridedSlice S8x2048 ![8, 0] p slices_S64x2048_o8_0_S8x2048))
    (extractStridedSlice S8x2048 ![16, 0] p slices_S64x2048_o16_0_S8x2048))
    (extractStridedSlice S8x2048 ![24, 0] p slices_S64x2048_o24_0_S8x2048))
    (extractStridedSlice S8x2048 ![32, 0] p slices_S64x2048_o32_0_S8x2048))
    (extractStridedSlice S8x2048 ![40, 0] p slices_S64x2048_o40_0_S8x2048))
    (extractStridedSlice S8x2048 ![48, 0] p slices_S64x2048_o48_0_S8x2048))
    (extractStridedSlice S8x2048 ![56, 0] p slices_S64x2048_o56_0_S8x2048)

/-- What step `j` stores when it leaves state `s`. -/
def stepOut (bct : FVec F S256x32 .f32) (j : ℕ) (hj : j < 32) (s : FVec F S64x2048 .f32) : FVec F S8x2048 .f32 :=
  shapeCast S8x2048 (fold8 (stepProd bct j hj s)) shapeCasts_S8x2048_S8x2048

/-- The state after `n` steps of a block. -/
def stAt (a : FVec F S64x1 .f32) (bct : FVec F S256x32 .f32) (d du : FVec F S32x2048 .f32) (s : FVec F S64x2048 .f32) :
    (n : ℕ) → n ≤ 32 → FVec F S64x2048 .f32
  | 0, _ => s
  | n + 1, h => stepState a bct d du n h (stAt a bct d du s n (Nat.le_of_succ_le h))

/-- What a block's first `n` steps stored, newest first; step `j` stores at offsets `o j`. -/
def outPieces (a : FVec F S64x1 .f32) (bct : FVec F S256x32 .f32) (d du : FVec F S32x2048 .f32) (s : FVec F S64x2048 .f32)
    (o : BitVec 32 → Fin 2 → ℕ) (ho : ∀ r : Fin 32, ∀ a, o (BitVec.ofNat 32 r.val) a + S8x2048.size a ≤ S2048x2048.size a) : (n : ℕ) → n ≤ 32 → List (View.Piece (Elt F) S2048x2048 .f32)
  | 0, _ => []
  | n + 1, h => ⟨Rect.unit (s := S2048x2048) (o (BitVec.ofNat 32 n)) S8x2048.size (ho ⟨n, h⟩),
      stepOut bct n h (stAt a bct d du s (n + 1) h)⟩ :: outPieces a bct d du s o ho n (Nat.le_of_succ_le h)

end Cert.Proof.KI

end
-- ==== Proof.ScanPure.lean ====
/-
  A chunk's scan as functions of arrays: the state after the first blocks of 32 steps (`chSt`), the rows of partial sums
  stored (`chY`), and what the writes of one block leave.
-/
module

public import proofs.«01_k».proof.Proof.Step
public import Idealize.ShloMosaic.Lib.WritesUnit
public import Idealize.ShloMosaic.Lib.ValueIdxCore

@[expose] public section

noncomputable section

namespace Cert.Proof.KI

open Cert.KernelIdeal Cert.KernelIdeal.Gen
open Idealize.ShloMosaic Idealize.SL.Sem
open Idealize.ShloMosaic.ValueIdx (ix2)

variable {F : FTy → Type} [FloatOps F] [Named F]

theorem slices_blk {n : ℕ} (k : ℕ) : (⟨2, ![256, n]⟩ : Shape).Slices ![32 * (k % 8), 0] ⟨2, ![32, n]⟩ :=
  ⟨rfl, Fin.forall_fin_two.mpr ⟨by show 32 * (k % 8) + 32 ≤ 256; omega, by show 0 + n ≤ n; omega⟩⟩

/-- Rows `32k` to `32k + 31` of an array of 256 rows. -/
def blk {α : Type} {n : ℕ} (v : (⟨2, ![256, n]⟩ : Shape).Idx → α) (k : ℕ) : (⟨2, ![32, n]⟩ : Shape).Idx → α :=
  extractStridedSlice ⟨2, ![32, n]⟩ ![32 * (k % 8), 0] v (slices_blk k)

/-- The state after `n` blocks of 32 steps of a chunk. -/
def chSt (a : FVec F S64x1 .f32) (d du : FVec F S256x2048 .f32) (bc : FVec F S256x256 .f32) (s : FVec F S64x2048 .f32) :
    ℕ → FVec F S64x2048 .f32
  | 0 => s
  | n + 1 => stAt a (k0_pay3 (blk bc n)) (blk d n) (blk du n) (chSt a d du bc s n) 32 (Nat.le_refl 32)

/-- What the chunk's steps store: step `t` stores rows `8t` to `8t + 7`. -/
def chY (a : FVec F S64x1 .f32) (d du : FVec F S256x2048 .f32) (bc : FVec F S256x256 .f32) (s : FVec F S64x2048 .f32) :
    FVec F S2048x2048 .f32 := fun y =>
  stepOut (k0_pay3 (blk bc ((y 0).val / 256))) ((y 0).val % 256 / 8) (by omega)
    (stAt a (k0_pay3 (blk bc ((y 0).val / 256))) (blk d ((y 0).val / 256)) (blk du ((y 0).val / 256))
      (chSt a d du bc s ((y 0).val / 256)) ((y 0).val % 256 / 8 + 1) (by omega))
    (ix2 ⟨(y 0).val % 8, by omega⟩ (y 1))

/-- A block read through a rectangle at its offset. -/
theorem readAt_blk {n : ℕ} {e : EltTy} (M : Memref sig .tc .vmem ⟨2, ![256, n]⟩ e) (f : BufTy.Contents (Elt F) M.view.ty) (k : ℕ) (hk : k < 8)
    (o : Fin 2 → ℕ) (ho : o = ![32 * k, 0]) (inb : ∀ a, o a + (⟨2, ![32, n]⟩ : Shape).size a ≤ (⟨2, ![256, n]⟩ : Shape).size a) :
    M.view.readAt (Elt F) (Rect.unit (s := ⟨2, ![256, n]⟩) o (⟨2, ![32, n]⟩ : Shape).size inb).toLoadRect f = blk (M.view.read (Elt F) f) k := by
  subst ho
  funext x
  rw [View.readAt_apply]
  refine congrArg _ (funext fun a => Fin.ext ?_)
  have hk' : k % 8 = k := Nat.mod_eq_of_lt hk
  match a with
  | ⟨0, _⟩ => show 32 * k + 1 * (x 0).val = 32 * (k % 8) + (x 0).val; omega
  | ⟨1, _⟩ => show 0 + 1 * (x 1).val = 0 + (x 1).val; omega

/-- One block's outputs written over `f`: its own rows read as stored, the others as before. -/
theorem read_outPieces {sp : Space} {κ : Kind} (v : View sig κ sp S2048x2048 .f32) (f : BufTy.Contents (Elt F) v.ty)
    (a : FVec F S64x1 .f32) (bct : FVec F S256x32 .f32) (d du : FVec F S32x2048 .f32) (s : FVec F S64x2048 .f32)
    (o : BitVec 32 → Fin 2 → ℕ) (ho : ∀ r : Fin 32, ∀ a, o (BitVec.ofNat 32 r.val) a + S8x2048.size a ≤ S2048x2048.size a)
    (b : ℕ) (hoff : ∀ r : Fin 32, o (BitVec.ofNat 32 r.val) = ![256 * b + 8 * r.val, 0]) (y : S2048x2048.Idx) :
    ∀ (n : ℕ) (hn : n ≤ 32), v.read (Elt F) (v.writes (Elt F) f (outPieces a bct d du s o ho n hn)) y
      = if h : (y 0).val / 256 = b ∧ (y 0).val % 256 / 8 < n then
          stepOut bct ((y 0).val % 256 / 8) (by omega) (stAt a bct d du s ((y 0).val % 256 / 8 + 1) (by omega))
            (ix2 ⟨(y 0).val % 8, by omega⟩ (y 1))
        else v.read (Elt F) f y
  | 0, _ => by rw [dif_neg (by omega)]; rfl
  | n + 1, hn => by
    have ih := read_outPieces v f a bct d du s o ho b hoff y n (Nat.le_of_succ_le hn)
    have e := hoff ⟨n, hn⟩
    have hy0 : (y 0).val < 2048 := (y 0).isLt
    unfold outPieces
    by_cases hin : (y 0).val / 256 = b ∧ (y 0).val % 256 / 8 = n
    · obtain ⟨hb, rfl⟩ := hin
      rw [dif_pos ⟨hb, Nat.lt_succ_self _⟩]
      exact View.read_writes_cons_unit_of_mem v f _ _ _ y (ix2 ⟨(y 0).val % 8, by omega⟩ (y 1)) e
        (Fin.forall_fin_two.mpr ⟨by show (y 0).val = 256 * b + 8 * ((y 0).val % 256 / 8) + (y 0).val % 8; omega,
          by show (y 1).val = 0 + (y 1).val; omega⟩)
    · rw [View.read_writes_cons_unit_of_not_mem v f _ _ _ y e 0
        (by show (y 0).val < 256 * b + 8 * n ∨ 256 * b + 8 * n + 8 ≤ (y 0).val; omega), ih]
      by_cases h : (y 0).val / 256 = b ∧ (y 0).val % 256 / 8 < n
      · rw [dif_pos h, dif_pos ⟨h.1, by omega⟩]
      · rw [dif_neg h, dif_neg (by omega)]

end Cert.Proof.KI

end
-- ==== Proof.Chunk.lean ====
/-
  One chunk of 256 steps of one expert, as functions of whole arrays: the layer's stages, and what the chunk makes of the
  state, of the convolution's tail and of the running sum. Rows of an array of 512 are `b * 256 + τ`.
-/
module

public import proofs.«01_k».proof.Proof.ScanPure

@[expose] public section

noncomputable section

namespace Cert.Proof.KI

open Cert.KernelIdeal Cert.KernelIdeal.Gen
open Idealize.ShloMosaic Idealize.SL.Sem
open Idealize.ShloMosaic.ValueIdx (ix2 ix3 ix4)

variable {F : FTy → Type} [FloatOps F] [Named F]

/-- A rectangle of an array. -/
abbrev ld {α : Type} {s : Shape} (o : Fin s.rank → ℕ) (z : Fin s.rank → ℕ) (inb : ∀ a, o a + z a ≤ s.size a) (w : s.Idx → α) :
    (⟨s.rank, z⟩ : Shape).Idx → α := fun x => w ((Rect.unit (s := s) o z inb).toLoadRect.idx x)

/-- The blocks that a grid point reads. -/
structure Win (F : FTy → Type) where
  x : Vec F S1x2x256x1024 .f32
  win : Vec F S1x1024x512 .bf16
  bin : Vec F S1x1x512 .f32
  inw : Vec F S1x2x512x2048 .bf16
  cw : Vec F S1x2x4x1024 .f32
  cb : Vec F S1x2x1024 .f32
  xw : Vec F S1x2x1024x160 .f32
  dtw : Vec F S1x2x32x1024 .f32
  dtb : Vec F S1x2x1024 .f32
  dp : Vec F S1x2x1024 .f32
  ow : Vec F S1x2x1024x512 .bf16
  rw : Vec F S1x2x512 .f32
  lg : Vec F S1x512 .f32
  lb : Vec F S1x512 .f32

/-- A layer's parameters. -/
structure Lay (F : FTy → Type) where
  rw : Vec F S1x1x512 .f32
  inw : Vec F S1x1x512x2048 .bf16
  cw0 : Vec F S1x1x1x1024 .f32
  cw1 : Vec F S1x1x1x1024 .f32
  cw2 : Vec F S1x1x1x1024 .f32
  cw3 : Vec F S1x1x1x1024 .f32
  cb : Vec F S1x1x1024 .f32
  xw : Vec F S1x1x1024x160 .f32
  dtw : Vec F S1x1x32x1024 .f32
  dtb : Vec F S1x1x1024 .f32
  dp : Vec F S1x1x1024 .f32
  ow : Vec F S1x1x1024x512 .bf16

def Win.lay0 (W : Win F) : Lay F where
  rw := ld (s := S1x2x512) ![0, 0, 0] S1x1x512.size inb_S1x2x512_S1x1x512_0_0_0 W.rw
  inw := ld (s := S1x2x512x2048) ![0, 0, 0, 0] S1x1x512x2048.size inb_S1x2x512x2048_S1x1x512x2048_0_0_0_0 W.inw
  cw0 := ld (s := S1x2x4x1024) ![0, 0, 0, 0] S1x1x1x1024.size inb_S1x2x4x1024_S1x1x1x1024_0_0_0_0 W.cw
  cw1 := ld (s := S1x2x4x1024) ![0, 0, 1, 0] S1x1x1x1024.size inb_S1x2x4x1024_S1x1x1x1024_0_0_1_0 W.cw
  cw2 := ld (s := S1x2x4x1024) ![0, 0, 2, 0] S1x1x1x1024.size inb_S1x2x4x1024_S1x1x1x1024_0_0_2_0 W.cw
  cw3 := ld (s := S1x2x4x1024) ![0, 0, 3, 0] S1x1x1x1024.size inb_S1x2x4x1024_S1x1x1x1024_0_0_3_0 W.cw
  cb := ld (s := S1x2x1024) ![0, 0, 0] S1x1x1024.size inb_S1x2x1024_S1x1x1024_0_0_0 W.cb
  xw := ld (s := S1x2x1024x160) ![0, 0, 0, 0] S1x1x1024x160.size inb_S1x2x1024x160_S1x1x1024x160_0_0_0_0 W.xw
  dtw := ld (s := S1x2x32x1024) ![0, 0, 0, 0] S1x1x32x1024.size inb_S1x2x32x1024_S1x1x32x1024_0_0_0_0 W.dtw
  dtb := ld (s := S1x2x1024) ![0, 0, 0] S1x1x1024.size inb_S1x2x1024_S1x1x1024_0_0_0 W.dtb
  dp := ld (s := S1x2x1024) ![0, 0, 0] S1x1x1024.size inb_S1x2x1024_S1x1x1024_0_0_0 W.dp
  ow := ld (s := S1x2x1024x512) ![0, 0, 0, 0] S1x1x1024x512.size inb_S1x2x1024x512_S1x1x1024x512_0_0_0_0 W.ow

def Win.lay1 (W : Win F) : Lay F where
  rw := ld (s := S1x2x512) ![0, 1, 0] S1x1x512.size inb_S1x2x512_S1x1x512_0_1_0 W.rw
  inw := ld (s := S1x2x512x2048) ![0, 1, 0, 0] S1x1x512x2048.size inb_S1x2x512x2048_S1x1x512x2048_0_1_0_0 W.inw
  cw0 := ld (s := S1x2x4x1024) ![0, 1, 0, 0] S1x1x1x1024.size inb_S1x2x4x1024_S1x1x1x1024_0_1_0_0 W.cw
  cw1 := ld (s := S1x2x4x1024) ![0, 1, 1, 0] S1x1x1x1024.size inb_S1x2x4x1024_S1x1x1x1024_0_1_1_0 W.cw
  cw2 := ld (s := S1x2x4x1024) ![0, 1, 2, 0] S1x1x1x1024.size inb_S1x2x4x1024_S1x1x1x1024_0_1_2_0 W.cw
  cw3 := ld (s := S1x2x4x1024) ![0, 1, 3, 0] S1x1x1x1024.size inb_S1x2x4x1024_S1x1x1x1024_0_1_3_0 W.cw
  cb := ld (s := S1x2x1024) ![0, 1, 0] S1x1x1024.size inb_S1x2x1024_S1x1x1024_0_1_0 W.cb
  xw := ld (s := S1x2x1024x160) ![0, 1, 0, 0] S1x1x1024x160.size inb_S1x2x1024x160_S1x1x1024x160_0_1_0_0 W.xw
  dtw := ld (s := S1x2x32x1024) ![0, 1, 0, 0] S1x1x32x1024.size inb_S1x2x32x1024_S1x1x32x1024_0_1_0_0 W.dtw
  dtb := ld (s := S1x2x1024) ![0, 1, 0] S1x1x1024.size inb_S1x2x1024_S1x1x1024_0_1_0 W.dtb
  dp := ld (s := S1x2x1024) ![0, 1, 0] S1x1x1024.size inb_S1x2x1024_S1x1x1024_0_1_0 W.dp
  ow := ld (s := S1x2x1024x512) ![0, 1, 0, 0] S1x1x1024x512.size inb_S1x2x1024x512_S1x1x1024x512_0_1_0_0 W.ow

/-- What the chunks hand on: the state, the convolution's tail and the running sum. -/
structure Car (F : FTy → Type) where
  st : Vec F S2x64x2048 .f32
  tl : Vec F S2x2x8x1024 .f32
  fa : Vec F S2x512 .f32

/-- The rows divided by their root mean square. -/
def kRn (h : FVec F S512x512 .f32) : FVec F S512x512 .f32 :=
  mulf h (broadcastTo S512x512 (rsqrt (addf (divf
    (shapeCast S512x1 (multiReduction .add [1] S512 (mulf h h) 0x00000000#32 reduces_S512x512_S512 (.inl rfl) rfl) shapeCasts_S512_S512x1)
    (broadcast S512x1 (Scalar.ofBits .f32 0x44000000#32))) (broadcast S512x1 (Scalar.ofBits .f32 0x3727C5AC#32)))) broadcasts_S512x1_S512x512)

/-- The layer's first product, of width 2048. -/
def Lay.xz (P : Lay F) (h : FVec F S512x512 .f32) : FVec F S512x2048 .f32 := k0_pay311 (kRn h) P.rw P.inw

def kXc (xz : FVec F S512x2048 .f32) : FVec F S2x256x1024 .f32 :=
  shapeCast S2x256x1024 (extractStridedSlice S512x1024 ![0, 0] xz slices_S512x2048_o0_0_S512x1024) shapeCasts_S512x1024_S2x256x1024

def kZ (xz : FVec F S512x2048 .f32) : FVec F S512x1024 .f32 :=
  extractStridedSlice S512x1024 ![0, 1024] xz slices_S512x2048_o0_1024_S512x1024

/-- Eight rows before 256 rows. -/
def xcat {α : Type} (t : S2x8x1024.Idx → α) (x : S2x256x1024.Idx → α) : S2x264x1024.Idx → α := fun y =>
  if h : (y 1).val < 8 then t (ix3 (y 0) ⟨(y 1).val, h⟩ (y 2))
  else x (ix3 (y 0) ⟨(y 1).val - 8, by have := (y 1).isLt; have : (y 1).val < 264 := this; omega⟩ (y 2))

/-- The convolution. -/
def Lay.cv (P : Lay F) (xt : Vec F S2x264x1024 .f32) : FVec F S2x256x1024 .f32 :=
  k0_pay317 (k0_pay316 P.cb)
    P.cw0 (ld (s := S2x264x1024) ![0, 5, 0] S2x256x1024.size inb_S2x264x1024_S2x256x1024_0_5_0 xt)
    P.cw1 (ld (s := S2x264x1024) ![0, 6, 0] S2x256x1024.size inb_S2x264x1024_S2x256x1024_0_6_0 xt)
    P.cw2 (ld (s := S2x264x1024) ![0, 7, 0] S2x256x1024.size inb_S2x264x1024_S2x256x1024_0_7_0 xt)
    P.cw3 (ld (s := S2x264x1024) ![0, 8, 0] S2x256x1024.size inb_S2x264x1024_S2x256x1024_0_8_0 xt)

/-- A number times its logistic function. -/
def kSilu {s : Shape} (v : FVec F s .f32) : FVec F s .f32 :=
  mulf v (divf (broadcast s (Scalar.ofBits .f32 0x3F800000#32)) (addf (broadcast s (Scalar.ofBits .f32 0x3F800000#32))
    (exp (subf (broadcast s (Scalar.ofBits .f32 0x00000000#32)) v))))

def Lay.u (P : Lay F) (xt : Vec F S2x264x1024 .f32) : FVec F S512x1024 .f32 :=
  shapeCast S512x1024 (kSilu (P.cv xt)) shapeCasts_S2x256x1024_S512x1024

def Lay.dbl (P : Lay F) (u : FVec F S512x1024 .f32) : FVec F S512x160 .f32 :=
  matmul (dot_S512x1024_S1024x160_S512x160_1_0_0_1_n_n) none u (shapeCast S1024x160 P.xw shapeCasts_S1x1x1024x160_S1024x160)
    (constant S512x160 .f32 0x00000000#32)

/-- The step sizes' argument. -/
def Lay.dv (P : Lay F) (dbl : FVec F S512x160 .f32) : FVec F S512x1024 .f32 :=
  addf (matmul (dot_S512x32_S32x1024_S512x1024_1_0_0_1_n_n) none (extractStridedSlice S512x32 ![0, 0] dbl slices_S512x160_o0_0_S512x32)
      (shapeCast S32x1024 P.dtw shapeCasts_S1x1x32x1024_S32x1024) (constant S512x1024 .f32 0x00000000#32))
    (broadcastTo S512x1024 (shapeCast S1x1024 (shapeCast S1024 P.dtb shapeCasts_S1x1x1024_S1024) shapeCasts_S1024_S1x1024) broadcasts_S1x1024_S512x1024)

/-- The logarithm of one plus the exponential. -/
def kSoft {s : Shape} (v : FVec F s .f32) : FVec F s .f32 :=
  addf (maximumf v (broadcast s (Scalar.ofBits .f32 0x00000000#32)))
    (log (addf (broadcast s (Scalar.ofBits .f32 0x3F800000#32)) (exp (subf (broadcast s (Scalar.ofBits .f32 0x00000000#32)) (absf v)))))

/-- The two batches' rows side by side. -/
def kSide (v : FVec F S512x1024 .f32) : FVec F S256x2048 .f32 :=
  shapeCast S256x2048 (concatenate S256x2048 1 [⟨S256x1024, extractStridedSlice S256x1024 ![0, 0] v slices_S512x1024_o0_0_S256x1024⟩,
    ⟨S256x1024, extractStridedSlice S256x1024 ![256, 0] v slices_S512x1024_o256_0_S256x1024⟩] concatenates_S256x1024_S256x1024_S256x2048_d1)
    shapeCasts_S256x2048_S256x2048

def kBc (dbl : FVec F S512x160 .f32) : FVec F S256x256 .f32 :=
  k0_pay327 (extractStridedSlice S512x64 ![0, 32] dbl slices_S512x160_o0_32_S512x64)
    (extractStridedSlice S512x64 ![0, 96] dbl slices_S512x160_o0_96_S512x64)

/-- A layer's state in the array of states. -/
def stOf (l : ℕ) (inb : ∀ a, ![l, 0, 0] a + S1x64x2048.size a ≤ S2x64x2048.size a) (s : Vec F S2x64x2048 .f32) : FVec F S64x2048 .f32 :=
  shapeCast S64x2048 (ld (s := S2x64x2048) ![l, 0, 0] S1x64x2048.size inb s) shapeCasts_S1x64x2048_S64x2048

/-- The state space's output. -/
def Lay.y (P : Lay F) (u : FVec F S512x1024 .f32) (ys : FVec F S2048x2048 .f32) : FVec F S512x1024 .f32 :=
  k0_pay331 k0_pay308 u ys P.dp

def Lay.out (P : Lay F) (h : FVec F S512x512 .f32) (y z : FVec F S512x1024 .f32) : FVec F S512x512 .f32 :=
  k0_pay333 h y (kSilu z) P.ow

def Lay.xtOf (P : Lay F) (h : FVec F S512x512 .f32) (t : FVec F S2x8x1024 .f32) : Vec F S2x264x1024 .f32 := xcat t (kXc (P.xz h))
def Lay.dblOf (P : Lay F) (xt : Vec F S2x264x1024 .f32) : FVec F S512x160 .f32 := P.dbl (P.u xt)
def Lay.dlOf (P : Lay F) (xt : Vec F S2x264x1024 .f32) : FVec F S512x1024 .f32 := kSoft (P.dv (P.dblOf xt))
def Lay.duOf (P : Lay F) (xt : Vec F S2x264x1024 .f32) : FVec F S512x1024 .f32 := mulf (P.dlOf xt) (P.u xt)
/-- The state after `k` blocks of 32 steps. -/
def Lay.stOf (P : Lay F) (xt : Vec F S2x264x1024 .f32) (s : FVec F S64x2048 .f32) (k : ℕ) : FVec F S64x2048 .f32 :=
  chSt k0_pay328 (kSide (P.dlOf xt)) (kSide (P.duOf xt)) (kBc (P.dblOf xt)) s k
def Lay.ysOf (P : Lay F) (xt : Vec F S2x264x1024 .f32) (s : FVec F S64x2048 .f32) : FVec F S2048x2048 .f32 :=
  chY k0_pay328 (kSide (P.dlOf xt)) (kSide (P.duOf xt)) (kBc (P.dblOf xt)) s
def Lay.hOf (P : Lay F) (h : FVec F S512x512 .f32) (xt : Vec F S2x264x1024 .f32) (s : FVec F S64x2048 .f32) : FVec F S512x512 .f32 :=
  P.out h (P.y (P.u xt) (P.ysOf xt s)) (kZ (P.xz h))
/-- The last eight inputs of the convolution. -/
def tlOf (xt : Vec F S2x264x1024 .f32) : Vec F S2x8x1024 .f32 :=
  ld (s := S2x264x1024) ![0, 256, 0] S2x8x1024.size inb_S2x264x1024_S2x8x1024_0_256_0 xt

/-- The rows made of mean zero and variance one. -/
def kLn (h : FVec F S512x512 .f32) : FVec F S512x512 .f32 :=
  have mu : FVec F S512x512 .f32 := broadcastTo S512x512 (divf
    (shapeCast S512x1 (multiReduction .add [1] S512 h 0x00000000#32 reduces_S512x512_S512 (.inl rfl) rfl) shapeCasts_S512_S512x1)
    (broadcast S512x1 (Scalar.ofBits .f32 0x44000000#32))) broadcasts_S512x1_S512x512
  mulf (subf h mu) (broadcastTo S512x512 (rsqrt (addf (divf
    (shapeCast S512x1 (multiReduction .add [1] S512 (mulf (subf h mu) (subf h mu)) 0x00000000#32 reduces_S512x512_S512 (.inl rfl) rfl) shapeCasts_S512_S512x1)
    (broadcast S512x1 (Scalar.ofBits .f32 0x44000000#32))) (broadcast S512x1 (Scalar.ofBits .f32 0x3727C5AC#32)))) broadcasts_S512x1_S512x512)

/-- One layer of the array of tails, without its layer axis. -/
def tailOf (l : ℕ) (inb : ∀ a, ![l, 0, 0, 0] a + S1x2x8x1024.size a ≤ S2x2x8x1024.size a) (t : Vec F S2x2x8x1024 .f32) : FVec F S2x8x1024 .f32 :=
  shapeCast S2x8x1024 (ld (s := S2x2x8x1024) ![l, 0, 0, 0] S1x2x8x1024.size inb t) shapeCasts_S1x2x8x1024_S2x8x1024

def Win.h0 (W : Win F) : FVec F S512x512 .f32 :=
  k0_pay309 (ld (s := S1x2x256x1024) ![0, 0, 0, 0] S1x2x256x1024.size inb_S1x2x256x1024_S1x2x256x1024_0_0_0_0 W.x)
    (ld (s := S1x1024x512) ![0, 0, 0] S1x1024x512.size inb_S1x1024x512_S1x1024x512_0_0_0 W.win)
    (ld (s := S1x1x512) ![0, 0, 0] S1x1x512.size inb_S1x1x512_S1x1x512_0_0_0 W.bin)
def Win.xt0 (W : Win F) (s : Car F) : Vec F S2x264x1024 .f32 :=
  W.lay0.xtOf W.h0 (tailOf 0 inb_S2x2x8x1024_S1x2x8x1024_0_0_0_0 s.tl)
def Win.st0 (W : Win F) (s : Car F) : FVec F S64x2048 .f32 := stOf 0 inb_S2x64x2048_S1x64x2048_0_0_0 s.st
def Win.h1 (W : Win F) (s : Car F) : FVec F S512x512 .f32 := W.lay0.hOf W.h0 (W.xt0 s) (W.st0 s)
def Win.xt1 (W : Win F) (s : Car F) : Vec F S2x264x1024 .f32 :=
  W.lay1.xtOf (W.h1 s) (tailOf 1 inb_S2x2x8x1024_S1x2x8x1024_1_0_0_0 s.tl)
def Win.st1 (W : Win F) (s : Car F) : FVec F S64x2048 .f32 := stOf 1 inb_S2x64x2048_S1x64x2048_1_0_0 s.st
def Win.h2 (W : Win F) (s : Car F) : FVec F S512x512 .f32 := W.lay1.hOf (W.h1 s) (W.xt1 s) (W.st1 s)

/-- What a chunk hands on. -/
def Win.car (W : Win F) (s : Car F) : Car F where
  st := fun y => if (y 0).val = 0 then W.lay0.stOf (W.xt0 s) (W.st0 s) 8 (ix2 (y 1) (y 2)) else W.lay1.stOf (W.xt1 s) (W.st1 s) 8 (ix2 (y 1) (y 2))
  tl := fun y => if (y 0).val = 0 then tlOf (W.xt0 s) (ix3 (y 1) (y 2) (y 3)) else tlOf (W.xt1 s) (ix3 (y 1) (y 2) (y 3))
  fa := k0_pay1 (kLn (W.h2 s)) (ld (s := S1x512) ![0, 0] S1x512.size inb_S1x512_S1x512_0_0 W.lg)
    (ld (s := S1x512) ![0, 0] S1x512.size inb_S1x512_S1x512_0_0 W.lb) (ld (s := S2x512) ![0, 0] S2x512.size inb_S2x512_S2x512_0_0 s.fa)

/-- What the first chunk starts from. -/
def car0 : Car F where
  st := k0_pay305
  tl := k0_pay306
  fa := k0_pay307

end Cert.Proof.KI

end
-- ==== Proof.Trip.lean ====
/-
  One trip of each of the kernel's two scan loops, run, with what it writes named by `stAt` and `outPieces`.
-/
module

public import proofs.«01_k».proof.Proof.Step
public import proofs.«01_k».proof.Proof.Gen.KernelIdeal.Launch
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The contents of a memref's buffer. -/
abbrev Ct {S : Shape} (M : Memref sig .tc .vmem S .f32) : Type := BufTy.Contents (Elt F) M.view.ty
/-- A memref's elements held at `f`. -/
abbrev pt (c : Dev nD) {S : Shape} (M : Memref sig .tc .vmem S .f32) (f : Ct (F := F) M) : sProp 𝕄G :=
  M.view.loc (c : Thread nD τ) ↦[M.view.set]{fullShare} f

/-- What trip `k` of loop 1 writes, and that it runs. -/
def tripRun1 (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole) (v10 : FVec F S256x2048 .f32) (v46 : FVec F S512x1024 .f32) (v99 : FVec F S512x1024 .f32) (v104 : FVec F S512x64 .f32) (v105 : FVec F S512x64 .f32) (v133 : FVec F S256x2048 .f32)
    (f3 : Ct (F := F) arg20) (f4 : Ct (F := F) arg21) (f5 : Ct (F := F) arg22) (k : Fin k0_t1_loop.trips) :
    Σ' (g0 : Ct (F := F) arg17 → Ct (F := F) arg23 → List (View.Piece (Elt F) S2x64x2048 .f32)),
      { g6 : Ct (F := F) arg17 → Ct (F := F) arg23 → List (View.Piece (Elt F) S2048x2048 .f32) // ∀ (E : Set ℕ) (f0 : Ct (F := F) arg17) (f6 : Ct (F := F) arg23),
      iprop(pt c arg20 f3 ∗ pt c arg21 f4 ∗ pt c arg22 f5 ∗ pt c arg17 f0 ∗ pt c arg23 f6)
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v10 v46 v99 v104 v105 v133 k PUnit.unit)
          (fun _ => iprop(pt c arg20 f3 ∗ pt c arg21 f4 ∗ pt c arg22 f5 ∗ pt c arg17 (arg17.view.writes (Elt F) f0 (g0 f0 f6))
            ∗ pt c arg23 (arg23.view.writes (Elt F) f6 (g6 f0 f6)))) } := by
  have hk : k.val < 8 := Nat.lt_of_lt_of_le k.isLt k0_t1_abs.2.1
  refine ⟨?_, ?_, fun E f0 f6 => ?run⟩
  case run =>
    unfold k0_t1_body
    iintro ⟨H3, H4, H5, H0, H6⟩
    sl_exec
    sl_step
    sl_close

/-- What trip `k` of loop 2 writes, and that it runs. -/
def tripRun2 (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole) (v253 : FVec F S512x1024 .f32) (v258 : FVec F S512x64 .f32) (v259 : FVec F S512x64 .f32) (v267 : FVec F S512x1024 .f32) (v268 : FVec F S512x1024 .f32)
    (f3 : Ct (F := F) arg20) (f4 : Ct (F := F) arg21) (f5 : Ct (F := F) arg22) (k : Fin k0_t2_loop.trips) :
    Σ' (g0 : Ct (F := F) arg17 → Ct (F := F) arg23 → List (View.Piece (Elt F) S2x64x2048 .f32)),
      { g6 : Ct (F := F) arg17 → Ct (F := F) arg23 → List (View.Piece (Elt F) S2048x2048 .f32) // ∀ (E : Set ℕ) (f0 : Ct (F := F) arg17) (f6 : Ct (F := F) arg23),
      iprop(pt c arg20 f3 ∗ pt c arg21 f4 ∗ pt c arg22 f5 ∗ pt c arg17 f0 ∗ pt c arg23 f6)
      ⊢ wp frame (wpE (defs₀ (F := F)) Variants.none (c : Thread nD τ) none) E
          (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v253 v258 v259 v267 v268 k PUnit.unit)
          (fun _ => iprop(pt c arg20 f3 ∗ pt c arg21 f4 ∗ pt c arg22 f5 ∗ pt c arg17 (arg17.view.writes (Elt F) f0 (g0 f0 f6))
            ∗ pt c arg23 (arg23.view.writes (Elt F) f6 (g6 f0 f6)))) } := by
  have hk : k.val < 8 := Nat.lt_of_lt_of_le k.isLt k0_t2_abs.2.1
  refine ⟨?_, ?_, fun E f0 f6 => ?run⟩
  case run =>
    unfold k0_t2_body
    iintro ⟨H3, H4, H5, H0, H6⟩
    sl_exec
    sl_step
    sl_close

end Cert.Proof.KI

end
-- ==== Proof.TripRead.lean ====
/-
  What a trip of a scan loop writes: the block's 32 outputs and the state after them.
-/
module

public import proofs.«01_k».proof.Proof.Trip

@[expose] public section

set_option maxRecDepth 16384
set_option maxHeartbeats 4000000

noncomputable section

namespace Cert.Proof.KI

open Cert.KernelIdeal Cert.KernelIdeal.Gen
open Idealize.ShloMosaic Idealize.ShloMosaic.TcCoe Idealize.SL.Sem

variable {F : FTy → Type} [FloatOps F] [Named F]

/-- The transposed block of input and output columns that trip `k` of loop 1 reads. -/
abbrev bctAt1 (arg22 : Memref sig .tc .vmem S256x256 .f32) (f5 : Ct (F := F) arg22) (k : Fin k0_t1_loop.trips) : FVec F S256x32 .f32 :=
  k0_pay3 (arg22.view.readAt (Elt F) (Rect.unit (s := S256x256) (k0_off1 k) S32x256.size (k0_off1_inb k)).toLoadRect f5)
/-- Its block of 32 rows of a buffer of 256. -/
abbrev rowsAt1 (M : Memref sig .tc .vmem S256x2048 .f32) (f : Ct (F := F) M) (k : Fin k0_t1_loop.trips) : FVec F S32x2048 .f32 :=
  M.view.readAt (Elt F) (Rect.unit (s := S256x2048) (k0_off2 k) S32x2048.size (k0_off2_inb k)).toLoadRect f
/-- The state it starts from. -/
abbrev st0At1 (M : Memref sig .tc .vmem S2x64x2048 .f32) (f : Ct (F := F) M) : FVec F S64x2048 .f32 :=
  shapeCast S64x2048 (M.view.readAt (Elt F) (Rect.unit (s := S2x64x2048) ![0, 0, 0] S1x64x2048.size inb_S2x64x2048_S1x64x2048_0_0_0).toLoadRect f) shapeCasts_S1x64x2048_S64x2048

theorem tripRun1_out (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole) (v10 : FVec F S256x2048 .f32) (v46 : FVec F S512x1024 .f32) (v99 : FVec F S512x1024 .f32) (v104 : FVec F S512x64 .f32) (v105 : FVec F S512x64 .f32) (v133 : FVec F S256x2048 .f32)
    (f3 : Ct (F := F) arg20) (f4 : Ct (F := F) arg21) (f5 : Ct (F := F) arg22) (k : Fin k0_t1_loop.trips) (f0 : Ct (F := F) arg17) (f6 : Ct (F := F) arg23) :
    (tripRun1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v10 v46 v99 v104 v105 v133 f3 f4 f5 k).2.1 f0 f6
      = outPieces k0_pay328 (bctAt1 arg22 f5 k) (rowsAt1 arg20 f3 k) (rowsAt1 arg21 f4 k) (st0At1 arg17 f0) (k0_off3 k) (k0_off3_inb k) 32 (Nat.le_refl 32) := rfl

theorem tripRun1_state (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole) (v10 : FVec F S256x2048 .f32) (v46 : FVec F S512x1024 .f32) (v99 : FVec F S512x1024 .f32) (v104 : FVec F S512x64 .f32) (v105 : FVec F S512x64 .f32) (v133 : FVec F S256x2048 .f32)
    (f3 : Ct (F := F) arg20) (f4 : Ct (F := F) arg21) (f5 : Ct (F := F) arg22) (k : Fin k0_t1_loop.trips) (f0 : Ct (F := F) arg17) (f6 : Ct (F := F) arg23) :
    (tripRun1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v10 v46 v99 v104 v105 v133 f3 f4 f5 k).1 f0 f6
      = [⟨Rect.unit (s := S2x64x2048) ![0, 0, 0] S1x64x2048.size inb_S2x64x2048_S1x64x2048_0_0_0,
          shapeCast S1x64x2048 (stAt k0_pay328 (bctAt1 arg22 f5 k) (rowsAt1 arg20 f3 k) (rowsAt1 arg21 f4 k) (st0At1 arg17 f0) 32 (Nat.le_refl 32)) shapeCasts_S64x2048_S1x64x2048⟩] := rfl

/-- The transposed block of input and output columns that trip `k` of loop 2 reads. -/
abbrev bctAt2 (arg22 : Memref sig .tc .vmem S256x256 .f32) (f5 : Ct (F := F) arg22) (k : Fin k0_t2_loop.trips) : FVec F S256x32 .f32 :=
  k0_pay3 (arg22.view.readAt (Elt F) (Rect.unit (s := S256x256) (k0_off4 k) S32x256.size (k0_off4_inb k)).toLoadRect f5)
/-- Its block of 32 rows of a buffer of 256. -/
abbrev rowsAt2 (M : Memref sig .tc .vmem S256x2048 .f32) (f : Ct (F := F) M) (k : Fin k0_t2_loop.trips) : FVec F S32x2048 .f32 :=
  M.view.readAt (Elt F) (Rect.unit (s := S256x2048) (k0_off5 k) S32x2048.size (k0_off5_inb k)).toLoadRect f
/-- The state it starts from. -/
abbrev st0At2 (M : Memref sig .tc .vmem S2x64x2048 .f32) (f : Ct (F := F) M) : FVec F S64x2048 .f32 :=
  shapeCast S64x2048 (M.view.readAt (Elt F) (Rect.unit (s := S2x64x2048) ![1, 0, 0] S1x64x2048.size inb_S2x64x2048_S1x64x2048_1_0_0).toLoadRect f) shapeCasts_S1x64x2048_S64x2048

theorem tripRun2_out (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole) (v253 : FVec F S512x1024 .f32) (v258 : FVec F S512x64 .f32) (v259 : FVec F S512x64 .f32) (v267 : FVec F S512x1024 .f32) (v268 : FVec F S512x1024 .f32)
    (f3 : Ct (F := F) arg20) (f4 : Ct (F := F) arg21) (f5 : Ct (F := F) arg22) (k : Fin k0_t2_loop.trips) (f0 : Ct (F := F) arg17) (f6 : Ct (F := F) arg23) :
    (tripRun2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v253 v258 v259 v267 v268 f3 f4 f5 k).2.1 f0 f6
      = outPieces k0_pay352 (bctAt2 arg22 f5 k) (rowsAt2 arg20 f3 k) (rowsAt2 arg21 f4 k) (st0At2 arg17 f0) (k0_off6 k) (k0_off6_inb k) 32 (Nat.le_refl 32) := rfl

theorem tripRun2_state (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole) (v253 : FVec F S512x1024 .f32) (v258 : FVec F S512x64 .f32) (v259 : FVec F S512x64 .f32) (v267 : FVec F S512x1024 .f32) (v268 : FVec F S512x1024 .f32)
    (f3 : Ct (F := F) arg20) (f4 : Ct (F := F) arg21) (f5 : Ct (F := F) arg22) (k : Fin k0_t2_loop.trips) (f0 : Ct (F := F) arg17) (f6 : Ct (F := F) arg23) :
    (tripRun2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v253 v258 v259 v267 v268 f3 f4 f5 k).1 f0 f6
      = [⟨Rect.unit (s := S2x64x2048) ![1, 0, 0] S1x64x2048.size inb_S2x64x2048_S1x64x2048_1_0_0,
          shapeCast S1x64x2048 (stAt k0_pay352 (bctAt2 arg22 f5 k) (rowsAt2 arg20 f3 k) (rowsAt2 arg21 f4 k) (st0At2 arg17 f0) 32 (Nat.le_refl 32)) shapeCasts_S64x2048_S1x64x2048⟩] := rfl

end Cert.Proof.KI

end
-- ==== Proof.Scan.lean ====
/-
  The two scan loops by their invariants: before block `k` the state's layer holds the state after `k` blocks and the rows of the
  first `k` blocks are stored.
-/
module

public import proofs.«01_k».proof.Proof.ScanPure
public import proofs.«01_k».proof.Proof.TripRead
public import proofs.«01_k».proof.Proof.Gen.KernelIdeal.Loops
public import Idealize.ShloMosaic.Lib.Pipeline.Value

@[expose] public section

set_option maxRecDepth 16384
set_option maxHeartbeats 4000000

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄G" => MT nD τ sig Unit (Elt F) ℕ (UR sig nD τ) ℕ

/-- The state's pieces written by the first `k` blocks, last first, at layer `l`. -/
def stPieces (l : ℕ) (inb : ∀ a, ![l, 0, 0] a + S1x64x2048.size a ≤ S2x64x2048.size a) (a : FVec F S64x1 .f32) (d du : FVec F S256x2048 .f32)
    (bc : FVec F S256x256 .f32) (s : FVec F S64x2048 .f32) : ℕ → List (View.Piece (Elt F) S2x64x2048 .f32)
  | 0 => []
  | k + 1 => ⟨Rect.unit (s := S2x64x2048) ![l, 0, 0] S1x64x2048.size inb,
      shapeCast S1x64x2048 (chSt a d du bc s (k + 1)) shapeCasts_S64x2048_S1x64x2048⟩ :: stPieces l inb a d du bc s k

/-- The output pieces written by the first `k` blocks, last first. -/
def ysPieces {N : ℕ} (o : Fin N → BitVec 32 → Fin 2 → ℕ)
    (ho : ∀ (k : Fin N) (r : Fin 32), ∀ a, o k (BitVec.ofNat 32 r.val) a + S8x2048.size a ≤ S2048x2048.size a) (a : FVec F S64x1 .f32)
    (d du : FVec F S256x2048 .f32) (bc : FVec F S256x256 .f32) (s : FVec F S64x2048 .f32) : ℕ → List (View.Piece (Elt F) S2048x2048 .f32)
  | 0 => []
  | k + 1 => (if h : k < N then outPieces a (k0_pay3 (blk bc k)) (blk d k) (blk du k) (chSt a d du bc s k) (o ⟨k, h⟩) (ho ⟨k, h⟩) 32 (Nat.le_refl 32)
      else []) ++ ysPieces o ho a d du bc s k

theorem ysPieces_succ {N : ℕ} (o : Fin N → BitVec 32 → Fin 2 → ℕ)
    (ho : ∀ (k : Fin N) (r : Fin 32), ∀ a, o k (BitVec.ofNat 32 r.val) a + S8x2048.size a ≤ S2048x2048.size a) (a : FVec F S64x1 .f32)
    (d du : FVec F S256x2048 .f32) (bc : FVec F S256x256 .f32) (s : FVec F S64x2048 .f32) (k : Fin N) :
    ysPieces o ho a d du bc s (k.val + 1)
      = outPieces a (k0_pay3 (blk bc k.val)) (blk d k.val) (blk du k.val) (chSt a d du bc s k.val) (o k) (ho k) 32 (Nat.le_refl 32)
        ++ ysPieces o ho a d du bc s k.val :=
  congrArg (· ++ ysPieces o ho a d du bc s k.val) (dif_pos k.isLt)

/-- Layer `l` of the state read back after the first `k` blocks. -/
theorem st_read {sp : Space} {κ : Kind} (v : View sig κ sp S2x64x2048 .f32) (f : BufTy.Contents (Elt F) v.ty) (l : ℕ)
    (inb : ∀ a, ![l, 0, 0] a + S1x64x2048.size a ≤ S2x64x2048.size a) (a : FVec F S64x1 .f32) (d du : FVec F S256x2048 .f32)
    (bc : FVec F S256x256 .f32) (s : FVec F S64x2048 .f32) (hs : shapeCast S64x2048 (v.readAt (Elt F) (Rect.unit (s := S2x64x2048) ![l, 0, 0] S1x64x2048.size inb).toLoadRect f) shapeCasts_S1x64x2048_S64x2048 = s) :
    ∀ k : ℕ, shapeCast S64x2048 (v.readAt (Elt F) (Rect.unit (s := S2x64x2048) ![l, 0, 0] S1x64x2048.size inb).toLoadRect
      (v.writes (Elt F) f (stPieces l inb a d du bc s k))) shapeCasts_S1x64x2048_S64x2048 = chSt a d du bc s k
  | 0 => hs
  | k + 1 => by
    have e : v.readAt (Elt F) (Rect.unit (s := S2x64x2048) ![l, 0, 0] S1x64x2048.size inb).toLoadRect
        (v.writes (Elt F) f (stPieces l inb a d du bc s (k + 1))) = shapeCast S1x64x2048 (chSt a d du bc s (k + 1)) shapeCasts_S64x2048_S1x64x2048 := by
      funext x
      rw [View.readAt_apply]
      exact View.read_writes_cons_emb v f (Rect.unit (s := S2x64x2048) ![l, 0, 0] S1x64x2048.size inb) _ _ x
    rw [e]
    exact shapeCast_shapeCast _ _ _

/-- An element of another layer is as before. -/
theorem st_read_other {sp : Space} {κ : Kind} (v : View sig κ sp S2x64x2048 .f32) (f : BufTy.Contents (Elt F) v.ty) (l : ℕ)
    (inb : ∀ a, ![l, 0, 0] a + S1x64x2048.size a ≤ S2x64x2048.size a) (a : FVec F S64x1 .f32) (d du : FVec F S256x2048 .f32)
    (bc : FVec F S256x256 .f32) (s : FVec F S64x2048 .f32) (y : S2x64x2048.Idx) (hy : (y 0).val ≠ l) :
    ∀ k : ℕ, v.read (Elt F) (v.writes (Elt F) f (stPieces l inb a d du bc s k)) y = v.read (Elt F) f y
  | 0 => rfl
  | k + 1 => by
    unfold stPieces
    rw [View.read_writes_cons_unit_of_not_mem v f _ _ _ y rfl 0
      (by show (y 0).val < l ∨ l + 1 ≤ (y 0).val; omega), st_read_other v f l inb a d du bc s y hy k]

/-- The rows stored by the first `k` blocks. -/
theorem ys_read {sp : Space} {κ : Kind} (v : View sig κ sp S2048x2048 .f32) (f : BufTy.Contents (Elt F) v.ty) {N : ℕ} (o : Fin N → BitVec 32 → Fin 2 → ℕ)
    (ho : ∀ (k : Fin N) (r : Fin 32), ∀ a, o k (BitVec.ofNat 32 r.val) a + S8x2048.size a ≤ S2048x2048.size a)
    (hoff : ∀ (k : Fin N) (r : Fin 32), o k (BitVec.ofNat 32 r.val) = ![256 * k.val + 8 * r.val, 0]) (a : FVec F S64x1 .f32)
    (d du : FVec F S256x2048 .f32) (bc : FVec F S256x256 .f32) (s : FVec F S64x2048 .f32) (y : S2048x2048.Idx) :
    ∀ k : ℕ, k ≤ N → (y 0).val < 256 * k → v.read (Elt F) (v.writes (Elt F) f (ysPieces o ho a d du bc s k)) y = chY a d du bc s y
  | 0, _, h => absurd h (by omega)
  | k + 1, hk, h => by
    unfold ysPieces
    rw [dif_pos (Nat.lt_of_succ_le hk), View.writes_append, read_outPieces v _ a _ _ _ _ _ _ k (hoff ⟨k, hk⟩) y 32 (Nat.le_refl 32)]
    by_cases hb : (y 0).val / 256 = k
    · subst hb
      rw [dif_pos ⟨rfl, by omega⟩]
      rfl
    · rw [dif_neg (by omega)]
      exact ys_read v f o ho hoff a d du bc s y k (Nat.le_of_succ_le hk) (by omega)

/-- Before block `k` of loop 1. -/
abbrev inv1 (c : Dev nD) (arg17 : Memref sig .tc .vmem S2x64x2048 .f32) (arg20 arg21 : Memref sig .tc .vmem S256x2048 .f32)
    (arg22 : Memref sig .tc .vmem S256x256 .f32) (arg23 : Memref sig .tc .vmem S2048x2048 .f32) (f3 : Ct (F := F) arg20) (f4 : Ct (F := F) arg21)
    (f5 : Ct (F := F) arg22) (g0 : Ct (F := F) arg17) (g6 : Ct (F := F) arg23) (k : ℕ) : sProp 𝕄G :=
  iprop(pt c arg20 f3 ∗ pt c arg21 f4 ∗ pt c arg22 f5
    ∗ (∃ f, pt c arg17 f ∗ ⌜f = arg17.view.writes (Elt F) g0 (stPieces 0 inb_S2x64x2048_S1x64x2048_0_0_0 k0_pay328 (arg20.view.read (Elt F) f3) (arg21.view.read (Elt F) f4) (arg22.view.read (Elt F) f5) (st0At1 arg17 g0) k)⌝)
    ∗ (∃ f, pt c arg23 f ∗ ⌜f = arg23.view.writes (Elt F) g6 (ysPieces k0_off3 k0_off3_inb k0_pay328 (arg20.view.read (Elt F) f3) (arg21.view.read (Elt F) f4) (arg22.view.read (Elt F) f5) (st0At1 arg17 g0) k)⌝))

set_option warn.classDefReducibility false in
/-- The loop goes through by it. -/
@[sl_loop] def scanInv1 (c : Dev nD) (E : Set ℕ) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole) (v10 : FVec F S256x2048 .f32) (v46 : FVec F S512x1024 .f32) (v99 : FVec F S512x1024 .f32) (v104 : FVec F S512x64 .f32) (v105 : FVec F S512x64 .f32) (v133 : FVec F S256x2048 .f32)
    (f3 : Ct (F := F) arg20) (f4 : Ct (F := F) arg21) (f5 : Ct (F := F) arg22) (g0 : Ct (F := F) arg17) (g6 : Ct (F := F) arg23) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v10 v46 v99 v104 v105 v133 where
  inv k _ := inv1 c arg17 arg20 arg21 arg22 arg23 f3 f4 f5 g0 g6 k
  step k acc := by
    have hk : k.val < 8 := Nat.lt_of_lt_of_le k.isLt k0_t1_abs.2.1
    have eb : bctAt1 arg22 f5 k = k0_pay3 (blk (arg22.view.read (Elt F) f5) k.val) :=
      congrArg k0_pay3 (readAt_blk arg22 f5 k.val hk _ (k0_off1_eq k) _)
    have ed : rowsAt1 arg20 f3 k = blk (arg20.view.read (Elt F) f3) k.val := readAt_blk arg20 f3 k.val hk _ (k0_off2_eq k) _
    have eu : rowsAt1 arg21 f4 k = blk (arg21.view.read (Elt F) f4) k.val := readAt_blk arg21 f4 k.val hk _ (k0_off2_eq k) _
    iintro ⟨H3, H4, H5, ⟨%f0, H0, %h0⟩, ⟨%f6, H6, %h6⟩⟩
    have es : st0At1 arg17 f0 = chSt k0_pay328 (arg20.view.read (Elt F) f3) (arg21.view.read (Elt F) f4) (arg22.view.read (Elt F) f5) (st0At1 arg17 g0) k.val := by
      rw [h0]; exact st_read arg17.view g0 0 _ _ _ _ _ _ rfl k.val
    have T := (tripRun1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v10 v46 v99 v104 v105 v133 f3 f4 f5 k).2.2 E f0 f6
    rw [tripRun1_out, tripRun1_state, eb, ed, eu, es] at T
    iapply (wp_wand_r Idealize.ShloMosaic.frame (wpE (defs₀ (F := F)) Variants.none (c : Thread nD τ) none) E)
    isplitl [H3 H4 H5 H0 H6]
    · iapply T
      isplitl [H3]; · iexact H3
      isplitl [H4]; · iexact H4
      isplitl [H5]; · iexact H5
      isplitl [H0]; · iexact H0
      iexact H6
    · iintro %_ ⟨H3, H4, H5, H0, H6⟩
      isplitl [H3]; · iexact H3
      isplitl [H4]; · iexact H4
      isplitl [H5]; · iexact H5
      isplitl [H0]
      · iexists _; isplitl [H0]; · iexact H0
        ipureintro; rw [h0, ← View.writes_append]; rfl
      iexists _; isplitl [H6]; · iexact H6
      ipureintro; rw [h6, ← View.writes_append]
      exact congrArg _ (ysPieces_succ k0_off3 k0_off3_inb _ _ _ _ _ k).symm

/-- Before block `k` of loop 2. -/
abbrev inv2 (c : Dev nD) (arg17 : Memref sig .tc .vmem S2x64x2048 .f32) (arg20 arg21 : Memref sig .tc .vmem S256x2048 .f32)
    (arg22 : Memref sig .tc .vmem S256x256 .f32) (arg23 : Memref sig .tc .vmem S2048x2048 .f32) (f3 : Ct (F := F) arg20) (f4 : Ct (F := F) arg21)
    (f5 : Ct (F := F) arg22) (g0 : Ct (F := F) arg17) (g6 : Ct (F := F) arg23) (k : ℕ) : sProp 𝕄G :=
  iprop(pt c arg20 f3 ∗ pt c arg21 f4 ∗ pt c arg22 f5
    ∗ (∃ f, pt c arg17 f ∗ ⌜f = arg17.view.writes (Elt F) g0 (stPieces 1 inb_S2x64x2048_S1x64x2048_1_0_0 k0_pay352 (arg20.view.read (Elt F) f3) (arg21.view.read (Elt F) f4) (arg22.view.read (Elt F) f5) (st0At2 arg17 g0) k)⌝)
    ∗ (∃ f, pt c arg23 f ∗ ⌜f = arg23.view.writes (Elt F) g6 (ysPieces k0_off6 k0_off6_inb k0_pay352 (arg20.view.read (Elt F) f3) (arg21.view.read (Elt F) f4) (arg22.view.read (Elt F) f5) (st0At2 arg17 g0) k)⌝))

set_option warn.classDefReducibility false in
/-- The loop goes through by it. -/
@[sl_loop] def scanInv2 (c : Dev nD) (E : Set ℕ) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole) (v253 : FVec F S512x1024 .f32) (v258 : FVec F S512x64 .f32) (v259 : FVec F S512x64 .f32) (v267 : FVec F S512x1024 .f32) (v268 : FVec F S512x1024 .f32)
    (f3 : Ct (F := F) arg20) (f4 : Ct (F := F) arg21) (f5 : Ct (F := F) arg22) (g0 : Ct (F := F) arg17) (g6 : Ct (F := F) arg23) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v253 v258 v259 v267 v268 where
  inv k _ := inv2 c arg17 arg20 arg21 arg22 arg23 f3 f4 f5 g0 g6 k
  step k acc := by
    have hk : k.val < 8 := Nat.lt_of_lt_of_le k.isLt k0_t2_abs.2.1
    have eb : bctAt2 arg22 f5 k = k0_pay3 (blk (arg22.view.read (Elt F) f5) k.val) :=
      congrArg k0_pay3 (readAt_blk arg22 f5 k.val hk _ (k0_off4_eq k) _)
    have ed : rowsAt2 arg20 f3 k = blk (arg20.view.read (Elt F) f3) k.val := readAt_blk arg20 f3 k.val hk _ (k0_off5_eq k) _
    have eu : rowsAt2 arg21 f4 k = blk (arg21.view.read (Elt F) f4) k.val := readAt_blk arg21 f4 k.val hk _ (k0_off5_eq k) _
    iintro ⟨H3, H4, H5, ⟨%f0, H0, %h0⟩, ⟨%f6, H6, %h6⟩⟩
    have es : st0At2 arg17 f0 = chSt k0_pay352 (arg20.view.read (Elt F) f3) (arg21.view.read (Elt F) f4) (arg22.view.read (Elt F) f5) (st0At2 arg17 g0) k.val := by
      rw [h0]; exact st_read arg17.view g0 1 _ _ _ _ _ _ rfl k.val
    have T := (tripRun2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v253 v258 v259 v267 v268 f3 f4 f5 k).2.2 E f0 f6
    rw [tripRun2_out, tripRun2_state, eb, ed, eu, es] at T
    iapply (wp_wand_r Idealize.ShloMosaic.frame (wpE (defs₀ (F := F)) Variants.none (c : Thread nD τ) none) E)
    isplitl [H3 H4 H5 H0 H6]
    · iapply T
      isplitl [H3]; · iexact H3
      isplitl [H4]; · iexact H4
      isplitl [H5]; · iexact H5
      isplitl [H0]; · iexact H0
      iexact H6
    · iintro %_ ⟨H3, H4, H5, H0, H6⟩
      isplitl [H3]; · iexact H3
      isplitl [H4]; · iexact H4
      isplitl [H5]; · iexact H5
      isplitl [H0]
      · iexists _; isplitl [H0]; · iexact H0
        ipureintro; rw [h0, ← View.writes_append]; rfl
      iexists _; isplitl [H6]; · iexact H6
      ipureintro; rw [h6, ← View.writes_append]
      exact congrArg _ (ysPieces_succ k0_off6 k0_off6_inb _ _ _ _ _ k).symm

end Cert.Proof.KI

end
-- ==== Proof.ChunkRead.lean ====
/-
  What the scratch buffers read after a list of stores: the two pieces of the convolution's input, the two layers' states
  and tails, and a buffer stored whole.
-/
module

public import proofs.«01_k».proof.Proof.Chunk
public import proofs.«01_k».proof.Proof.Scan
public import Idealize.ShloMosaic.Lib.ValueLayout

@[expose] public section

noncomputable section

namespace Cert.Proof.KI

open Cert.KernelIdeal Cert.KernelIdeal.Gen
open Idealize.ShloMosaic Idealize.SL.Sem
open Idealize.ShloMosaic.ValueIdx (ix2 ix3 ix4)

variable {F : FTy → Type} [FloatOps F] [Named F]

theorem read_whole {sp : Space} {κ : Kind} {s : Shape} {e : EltTy} (v : View sig κ sp s e) (f : BufTy.Contents (Elt F) v.ty) (o : Fin s.rank → ℕ)
    (inb : ∀ a, o a + s.size a ≤ s.size a) (w : s.Idx → Elt F e) (L : List (View.Piece (Elt F) s e)) :
    v.read (Elt F) (v.writes (Elt F) f (⟨Rect.unit o s.size inb, w⟩ :: L)) = w := by
  funext y
  exact View.read_writes_cons_unit_of_mem v f _ _ _ y y rfl (fun a => by have := inb a; omega)

theorem read_xcat {sp : Space} {κ : Kind} (v : View sig κ sp S2x264x1024 .f32) (f : BufTy.Contents (Elt F) v.ty)
    (inb : ∀ a, ![0, 8, 0] a + S2x256x1024.size a ≤ S2x264x1024.size a) (inb' : ∀ a, ![0, 0, 0] a + S2x8x1024.size a ≤ S2x264x1024.size a)
    (x : S2x256x1024.Idx → Elt F .f32) (t : S2x8x1024.Idx → Elt F .f32) (L : List (View.Piece (Elt F) S2x264x1024 .f32)) :
    v.read (Elt F) (v.writes (Elt F) f (⟨Rect.unit (s := S2x264x1024) ![0, 8, 0] S2x256x1024.size inb, x⟩ ::
      ⟨Rect.unit (s := S2x264x1024) ![0, 0, 0] S2x8x1024.size inb', t⟩ :: L)) = xcat t x := by
  funext y
  have hy : (y 1).val < 264 := (y 1).isLt
  unfold xcat
  by_cases h : (y 1).val < 8
  · rw [dif_pos h, View.read_writes_cons_unit_of_not_mem v f _ _ _ y rfl 1 (.inl h)]
    exact View.read_writes_cons_unit_of_mem v f _ _ _ y _ rfl (Fin.forall_fin_succ.mpr ⟨by show (y 0).val = 0 + (y 0).val; omega,
      Fin.forall_fin_two.mpr ⟨by show (y 1).val = 0 + (y 1).val; omega, by show (y 2).val = 0 + (y 2).val; omega⟩⟩)
  · rw [dif_neg h]
    exact View.read_writes_cons_unit_of_mem v f _ _ _ y _ rfl (Fin.forall_fin_succ.mpr ⟨by show (y 0).val = 0 + (y 0).val; omega,
      Fin.forall_fin_two.mpr ⟨by show (y 1).val = 8 + ((y 1).val - 8); omega, by show (y 2).val = 0 + (y 2).val; omega⟩⟩)

theorem read_tails {sp : Space} {κ : Kind} (v : View sig κ sp S2x2x8x1024 .f32) (f : BufTy.Contents (Elt F) v.ty)
    (inb : ∀ a, ![1, 0, 0, 0] a + S1x2x8x1024.size a ≤ S2x2x8x1024.size a) (inb' : ∀ a, ![0, 0, 0, 0] a + S1x2x8x1024.size a ≤ S2x2x8x1024.size a)
    (a b : S2x8x1024.Idx → Elt F .f32) (h h' : S2x8x1024.ShapeCasts S1x2x8x1024) (L : List (View.Piece (Elt F) S2x2x8x1024 .f32)) :
    v.read (Elt F) (v.writes (Elt F) f (⟨Rect.unit (s := S2x2x8x1024) ![1, 0, 0, 0] S1x2x8x1024.size inb, shapeCast S1x2x8x1024 b h⟩ ::
      ⟨Rect.unit (s := S2x2x8x1024) ![0, 0, 0, 0] S1x2x8x1024.size inb', shapeCast S1x2x8x1024 a h'⟩ :: L))
      = fun y => if (y 0).val = 0 then a (ix3 (y 1) (y 2) (y 3)) else b (ix3 (y 1) (y 2) (y 3)) := by
  funext y
  have hy : (y 0).val < 2 := (y 0).isLt
  by_cases e : (y 0).val = 0
  · rw [if_pos e, View.read_writes_cons_unit_of_not_mem v f _ _ _ y rfl 0 (.inl (by show (y 0).val < 1; omega))]
    refine (View.read_writes_cons_unit_of_mem v f _ _ _ y (ix4 (0 : Fin 1) (y 1) (y 2) (y 3)) rfl (Fin.forall_fin_succ.mpr ⟨e, Fin.forall_fin_succ.mpr ⟨?_,
      Fin.forall_fin_two.mpr ⟨?_, ?_⟩⟩⟩)).trans (ValueIdx.shapeCast_abc_1abc_apply a _ _ _ _ _)
    · show (y 1).val = 0 + (y 1).val; omega
    · show (y 2).val = 0 + (y 2).val; omega
    · show (y 3).val = 0 + (y 3).val; omega
  · rw [if_neg e]
    refine (View.read_writes_cons_unit_of_mem v f _ _ _ y (ix4 (0 : Fin 1) (y 1) (y 2) (y 3)) rfl (Fin.forall_fin_succ.mpr ⟨?_, Fin.forall_fin_succ.mpr ⟨?_,
      Fin.forall_fin_two.mpr ⟨?_, ?_⟩⟩⟩)).trans (ValueIdx.shapeCast_abc_1abc_apply b _ _ _ _ _)
    · show (y 0).val = 1 + 0; omega
    · show (y 1).val = 0 + (y 1).val; omega
    · show (y 2).val = 0 + (y 2).val; omega
    · show (y 3).val = 0 + (y 3).val; omega

/-- Layer 1's tail where only layer 0's has been stored. -/
theorem read_tail_other {sp : Space} {κ : Kind} (v : View sig κ sp S2x2x8x1024 .f32) (f : BufTy.Contents (Elt F) v.ty)
    (inb : ∀ a, ![1, 0, 0, 0] a + S1x2x8x1024.size a ≤ S2x2x8x1024.size a) (inb' : ∀ a, ![0, 0, 0, 0] a + S1x2x8x1024.size a ≤ S2x2x8x1024.size a)
    (w : S1x2x8x1024.Idx → Elt F .f32) (L : List (View.Piece (Elt F) S2x2x8x1024 .f32)) :
    v.readAt (Elt F) (Rect.unit (s := S2x2x8x1024) ![1, 0, 0, 0] S1x2x8x1024.size inb).toLoadRect
      (v.writes (Elt F) f (⟨Rect.unit (s := S2x2x8x1024) ![0, 0, 0, 0] S1x2x8x1024.size inb', w⟩ :: L))
      = v.readAt (Elt F) (Rect.unit (s := S2x2x8x1024) ![1, 0, 0, 0] S1x2x8x1024.size inb).toLoadRect (v.writes (Elt F) f L) := by
  funext x
  rw [View.readAt_apply, View.readAt_apply]
  exact View.read_writes_cons_unit_of_not_mem v f _ _ _ _ rfl 0 (.inr (by show 0 + 1 ≤ 1 + 1 * (x 0).val; omega))

theorem stOf_read {sp : Space} {κ : Kind} (v : View sig κ sp S2x64x2048 .f32) (f : BufTy.Contents (Elt F) v.ty) (l : ℕ)
    (inb : ∀ a, ![l, 0, 0] a + S1x64x2048.size a ≤ S2x64x2048.size a) :
    shapeCast S64x2048 (v.readAt (Elt F) (Rect.unit (s := S2x64x2048) ![l, 0, 0] S1x64x2048.size inb).toLoadRect f) shapeCasts_S1x64x2048_S64x2048
      = stOf l inb (v.read (Elt F) f) := rfl

/-- Layer 1's state where only layer 0's has been stored. -/
theorem stOf_other {sp : Space} {κ : Kind} (v : View sig κ sp S2x64x2048 .f32) (f : BufTy.Contents (Elt F) v.ty)
    (a : FVec F S64x1 .f32) (d du : FVec F S256x2048 .f32) (bc : FVec F S256x256 .f32) (s : FVec F S64x2048 .f32) (k : ℕ) :
    stOf 1 inb_S2x64x2048_S1x64x2048_1_0_0 (v.read (Elt F) (v.writes (Elt F) f (stPieces 0 inb_S2x64x2048_S1x64x2048_0_0_0 a d du bc s k)))
      = stOf 1 inb_S2x64x2048_S1x64x2048_1_0_0 (v.read (Elt F) f) := by
  unfold stOf
  refine congrArg (fun x => shapeCast S64x2048 x shapeCasts_S1x64x2048_S64x2048) (funext fun x => ?_)
  exact st_read_other v f 0 _ a d du bc s _ (by show 1 + 1 * (x 0).val ≠ 0; omega) k

theorem stOf_at {α : Type} (l : ℕ) (hl : l < 2) (inb : ∀ a, ![l, 0, 0] a + S1x64x2048.size a ≤ S2x64x2048.size a) (s : S2x64x2048.Idx → α)
    (i : Fin 64) (j : Fin 2048) :
    shapeCast S64x2048 (ld (s := S2x64x2048) ![l, 0, 0] S1x64x2048.size inb s) shapeCasts_S1x64x2048_S64x2048 (ix2 i j) = s (ix3 (⟨l, hl⟩ : Fin 2) i j) := by
  refine (ValueIdx.shapeCast_1ab_ab_apply (a := 64) (b := 2048) _ _ i j).trans (congrArg s (funext fun a => Fin.ext ?_))
  match a with
  | ⟨0, _⟩ => show l + 1 * 0 = l; omega
  | ⟨1, _⟩ => show 0 + 1 * i.val = i.val; omega
  | ⟨2, _⟩ => show 0 + 1 * j.val = j.val; omega

/-- Both layers' states after their steps. -/
theorem read_states {sp : Space} {κ : Kind} (v : View sig κ sp S2x64x2048 .f32) (f : BufTy.Contents (Elt F) v.ty)
    (a a' : FVec F S64x1 .f32) (d du d' du' : FVec F S256x2048 .f32) (bc bc' : FVec F S256x256 .f32) (s s' : FVec F S64x2048 .f32)
    (hs : stOf 0 inb_S2x64x2048_S1x64x2048_0_0_0 (v.read (Elt F) f) = s) (hs' : stOf 1 inb_S2x64x2048_S1x64x2048_1_0_0 (v.read (Elt F) f) = s') (k k' : ℕ) :
    v.read (Elt F) (v.writes (Elt F) (v.writes (Elt F) f (stPieces 0 inb_S2x64x2048_S1x64x2048_0_0_0 a d du bc s k))
        (stPieces 1 inb_S2x64x2048_S1x64x2048_1_0_0 a' d' du' bc' s' k'))
      = fun y => if (y 0).val = 0 then chSt a d du bc s k (ix2 (y 1) (y 2)) else chSt a' d' du' bc' s' k' (ix2 (y 1) (y 2)) := by
  funext y
  have hy : (y 0).val < 2 := (y 0).isLt
  by_cases e : (y 0).val = 0
  · rw [if_pos e, st_read_other v _ 1 _ a' d' du' bc' s' y (by omega) k']
    have := congrFun (st_read v f 0 inb_S2x64x2048_S1x64x2048_0_0_0 a d du bc s hs k) (ix2 (y 1) (y 2))
    rw [← this]
    refine Eq.trans ?_ (stOf_at 0 (by decide) _ _ (y 1) (y 2)).symm
    exact congrArg _ ((ValueIdx.eq_ix3 y).trans (congrArg (fun i => ix3 i (y 1) (y 2)) (Fin.ext e)))
  · rw [if_neg e]
    have := congrFun (st_read v (v.writes (Elt F) f (stPieces 0 inb_S2x64x2048_S1x64x2048_0_0_0 a d du bc s k)) 1 inb_S2x64x2048_S1x64x2048_1_0_0 a' d' du' bc' s'
      ((stOf_other v f a d du bc s k).trans hs') k') (ix2 (y 1) (y 2))
    rw [← this]
    refine Eq.trans ?_ (stOf_at 1 (by decide) _ _ (y 1) (y 2)).symm
    exact congrArg _ ((ValueIdx.eq_ix3 y).trans (congrArg (fun i => ix3 i (y 1) (y 2)) (Fin.ext (by show (y 0).val = 1; omega))))

/-- The stored outputs, read whole. -/
theorem read_ys {sp : Space} {κ : Kind} (v : View sig κ sp S2048x2048 .f32) {N : ℕ} (hN : 8 ≤ N) (o : Fin N → BitVec 32 → Fin 2 → ℕ)
    (ho : ∀ (k : Fin N) (r : Fin 32), ∀ a, o k (BitVec.ofNat 32 r.val) a + S8x2048.size a ≤ S2048x2048.size a)
    (hoff : ∀ (k : Fin N) (r : Fin 32), o k (BitVec.ofNat 32 r.val) = ![256 * k.val + 8 * r.val, 0]) (a : FVec F S64x1 .f32)
    (d du : FVec F S256x2048 .f32) (bc : FVec F S256x256 .f32) (s : FVec F S64x2048 .f32) (L : List (View.Piece (Elt F) S2048x2048 .f32))
    (inb : ∀ a, ![0, 0] a + S2048x2048.size a ≤ S2048x2048.size a) :
    v.readCov (ysPieces o ho a d du bc s 8 ++ L) (Rect.unit (s := S2048x2048) ![0, 0] S2048x2048.size inb).toLoadRect = chY a d du bc s := by
  funext x
  show v.read (Elt F) (v.writes (Elt F) v.junk (ysPieces o ho a d du bc s 8 ++ L)) _ = _
  rw [View.writes_append]
  have e : (Rect.unit (s := S2048x2048) ![0, 0] S2048x2048.size inb).toLoadRect.idx x = x := funext fun a => Fin.ext (by
    match a with
    | ⟨0, _⟩ => show 0 + 1 * (x 0).val = (x 0).val; omega
    | ⟨1, _⟩ => show 0 + 1 * (x 1).val = (x 1).val; omega)
  rw [e]
  exact ys_read v _ o ho hoff a d du bc s x 8 hN (by have : (x 0).val < 2048 := (x 0).isLt; omega)

end Cert.Proof.KI

end
-- ==== Proof.Run.lean ====
/-
  The kernel's body, run: what it leaves in the buffers that it carries and in its output block.
-/
module

public import proofs.«01_k».proof.Proof.Scan

@[expose] public section

set_option maxRecDepth 16384
set_option maxHeartbeats 4000000

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄G" => MT nD τ sig Unit (Elt F) ℕ (UR sig nD τ) ℕ

/-- The contents of a memref's buffer, and its elements held at them. -/
abbrev Cw {S : Shape} {e : EltTy} (M : Memref sig .tc .vmem S e) : Type := BufTy.Contents (Elt F) M.view.ty
abbrev pw (c : Dev nD) {S : Shape} {e : EltTy} (M : Memref sig .tc .vmem S e) (f : Cw (F := F) M) : sProp 𝕄G :=
  M.view.loc (c : Thread nD τ) ↦[M.view.set]{fullShare} f

/-- The grid coordinate's comparison with zero, as the body computes it. -/
abbrev isFirst (i : grid0.Coords) : Prop :=
  Scalar.cmpi .ne (Scalar.extui (Scalar.cmpi .eq (BitVec.ofNat 32 (i 1).val) 0#32) : BitVec 32) 0#32 = 1#1

/-- At the first chunk. -/
def runFirst (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole)
    (h1 : isFirst i) (h2 : ¬ k0_cond2 i = 1#1) (w2 : Cw (F := F) arg2) (w3 : Cw (F := F) arg3) (w4 : Cw (F := F) arg4) (w5 : Cw (F := F) arg5) (w6 : Cw (F := F) arg6) (w7 : Cw (F := F) arg7) (w8 : Cw (F := F) arg8) (w9 : Cw (F := F) arg9) (w10 : Cw (F := F) arg10) (w11 : Cw (F := F) arg11) (w12 : Cw (F := F) arg12) (w13 : Cw (F := F) arg13) (w14 : Cw (F := F) arg14) (w15 : Cw (F := F) arg15) (w16 : Cw (F := F) arg16) (f0 : Cw (F := F) arg17) (f1 : Cw (F := F) arg18) (f2 : Cw (F := F) arg19) (f3 : Cw (F := F) arg20) (f4 : Cw (F := F) arg21) (f5 : Cw (F := F) arg22) (f6 : Cw (F := F) arg23) (f7 : Cw (F := F) arg24) :
    Σ' (g16 : Cw (F := F) arg16) (g0 : Cw (F := F) arg17) (g2 : Cw (F := F) arg19), { g7 : Cw (F := F) arg24 // ∀ E : Set ℕ,
      iprop(pw c arg2 w2 ∗ pw c arg3 w3 ∗ pw c arg4 w4 ∗ pw c arg5 w5 ∗ pw c arg6 w6 ∗ pw c arg7 w7 ∗ pw c arg8 w8 ∗ pw c arg9 w9 ∗ pw c arg10 w10 ∗ pw c arg11 w11 ∗ pw c arg12 w12 ∗ pw c arg13 w13 ∗ pw c arg14 w14 ∗ pw c arg15 w15 ∗ pw c arg16 w16 ∗ pw c arg17 f0 ∗ pw c arg18 f1 ∗ pw c arg19 f2 ∗ pw c arg20 f3 ∗ pw c arg21 f4 ∗ pw c arg22 f5 ∗ pw c arg23 f6 ∗ pw c arg24 f7)
      ⊢ wp frame (wpE (defs₀ (F := F)) Variants.none (c : Thread nD τ) none) E (cc0__expert_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
          (fun _ => iprop(pw c arg2 w2 ∗ pw c arg3 w3 ∗ pw c arg4 w4 ∗ pw c arg5 w5 ∗ pw c arg6 w6 ∗ pw c arg7 w7 ∗ pw c arg8 w8 ∗ pw c arg9 w9 ∗ pw c arg10 w10 ∗ pw c arg11 w11 ∗ pw c arg12 w12 ∗ pw c arg13 w13 ∗ pw c arg14 w14 ∗ pw c arg15 w15 ∗ pw c arg16 g16 ∗ pw c arg17 g0 ∗ pw c arg19 g2 ∗ pw c arg24 g7 ∗ (∃ f, pw c arg18 f) ∗ (∃ f, pw c arg20 f) ∗ (∃ f, pw c arg21 f) ∗ (∃ f, pw c arg22 f) ∗ (∃ f, pw c arg23 f))) } := by
  refine ⟨?_, ?_, ?_, ?_, fun E => ?run⟩
  case run =>
    iintro ⟨W2, W3, W4, W5, W6, W7, W8, W9, W10, W11, W12, W13, W14, W15, W16, S0, S1, S2, S3, S4, S5, S6, S7⟩
    sl_exec
    sl_step
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [W16]; · iexact W16
    isplitl [S0]; · iexact S0
    isplitl [S2]; · iexact S2
    isplitl [S7]; · iexact S7
    isplitl [S1]; · iexists _; iexact S1
    isplitl [S3]; · iexists _; iexact S3
    isplitl [S4]; · iexists _; iexact S4
    isplitl [S5]; · iexists _; iexact S5
    iexists _; iexact S6

/-- At a chunk between. -/
def runMid (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole)
    (h1 : ¬ isFirst i) (h2 : ¬ k0_cond2 i = 1#1) (w2 : Cw (F := F) arg2) (w3 : Cw (F := F) arg3) (w4 : Cw (F := F) arg4) (w5 : Cw (F := F) arg5) (w6 : Cw (F := F) arg6) (w7 : Cw (F := F) arg7) (w8 : Cw (F := F) arg8) (w9 : Cw (F := F) arg9) (w10 : Cw (F := F) arg10) (w11 : Cw (F := F) arg11) (w12 : Cw (F := F) arg12) (w13 : Cw (F := F) arg13) (w14 : Cw (F := F) arg14) (w15 : Cw (F := F) arg15) (w16 : Cw (F := F) arg16) (f0 : Cw (F := F) arg17) (f1 : Cw (F := F) arg18) (f2 : Cw (F := F) arg19) (f3 : Cw (F := F) arg20) (f4 : Cw (F := F) arg21) (f5 : Cw (F := F) arg22) (f6 : Cw (F := F) arg23) (f7 : Cw (F := F) arg24) :
    Σ' (g16 : Cw (F := F) arg16) (g0 : Cw (F := F) arg17) (g2 : Cw (F := F) arg19), { g7 : Cw (F := F) arg24 // ∀ E : Set ℕ,
      iprop(pw c arg2 w2 ∗ pw c arg3 w3 ∗ pw c arg4 w4 ∗ pw c arg5 w5 ∗ pw c arg6 w6 ∗ pw c arg7 w7 ∗ pw c arg8 w8 ∗ pw c arg9 w9 ∗ pw c arg10 w10 ∗ pw c arg11 w11 ∗ pw c arg12 w12 ∗ pw c arg13 w13 ∗ pw c arg14 w14 ∗ pw c arg15 w15 ∗ pw c arg16 w16 ∗ pw c arg17 f0 ∗ pw c arg18 f1 ∗ pw c arg19 f2 ∗ pw c arg20 f3 ∗ pw c arg21 f4 ∗ pw c arg22 f5 ∗ pw c arg23 f6 ∗ pw c arg24 f7)
      ⊢ wp frame (wpE (defs₀ (F := F)) Variants.none (c : Thread nD τ) none) E (cc0__expert_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
          (fun _ => iprop(pw c arg2 w2 ∗ pw c arg3 w3 ∗ pw c arg4 w4 ∗ pw c arg5 w5 ∗ pw c arg6 w6 ∗ pw c arg7 w7 ∗ pw c arg8 w8 ∗ pw c arg9 w9 ∗ pw c arg10 w10 ∗ pw c arg11 w11 ∗ pw c arg12 w12 ∗ pw c arg13 w13 ∗ pw c arg14 w14 ∗ pw c arg15 w15 ∗ pw c arg16 g16 ∗ pw c arg17 g0 ∗ pw c arg19 g2 ∗ pw c arg24 g7 ∗ (∃ f, pw c arg18 f) ∗ (∃ f, pw c arg20 f) ∗ (∃ f, pw c arg21 f) ∗ (∃ f, pw c arg22 f) ∗ (∃ f, pw c arg23 f))) } := by
  refine ⟨?_, ?_, ?_, ?_, fun E => ?run⟩
  case run =>
    iintro ⟨W2, W3, W4, W5, W6, W7, W8, W9, W10, W11, W12, W13, W14, W15, W16, S0, S1, S2, S3, S4, S5, S6, S7⟩
    sl_exec
    sl_step
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [W16]; · iexact W16
    isplitl [S0]; · iexact S0
    isplitl [S2]; · iexact S2
    isplitl [S7]; · iexact S7
    isplitl [S1]; · iexists _; iexact S1
    isplitl [S3]; · iexists _; iexact S3
    isplitl [S4]; · iexists _; iexact S4
    isplitl [S5]; · iexists _; iexact S5
    iexists _; iexact S6

/-- At the last chunk. -/
def runLast (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole)
    (h1 : ¬ isFirst i) (h2 : k0_cond2 i = 1#1) (w2 : Cw (F := F) arg2) (w3 : Cw (F := F) arg3) (w4 : Cw (F := F) arg4) (w5 : Cw (F := F) arg5) (w6 : Cw (F := F) arg6) (w7 : Cw (F := F) arg7) (w8 : Cw (F := F) arg8) (w9 : Cw (F := F) arg9) (w10 : Cw (F := F) arg10) (w11 : Cw (F := F) arg11) (w12 : Cw (F := F) arg12) (w13 : Cw (F := F) arg13) (w14 : Cw (F := F) arg14) (w15 : Cw (F := F) arg15) (w16 : Cw (F := F) arg16) (f0 : Cw (F := F) arg17) (f1 : Cw (F := F) arg18) (f2 : Cw (F := F) arg19) (f3 : Cw (F := F) arg20) (f4 : Cw (F := F) arg21) (f5 : Cw (F := F) arg22) (f6 : Cw (F := F) arg23) (f7 : Cw (F := F) arg24) :
    Σ' (g16 : Cw (F := F) arg16) (g0 : Cw (F := F) arg17) (g2 : Cw (F := F) arg19), { g7 : Cw (F := F) arg24 // ∀ E : Set ℕ,
      iprop(pw c arg2 w2 ∗ pw c arg3 w3 ∗ pw c arg4 w4 ∗ pw c arg5 w5 ∗ pw c arg6 w6 ∗ pw c arg7 w7 ∗ pw c arg8 w8 ∗ pw c arg9 w9 ∗ pw c arg10 w10 ∗ pw c arg11 w11 ∗ pw c arg12 w12 ∗ pw c arg13 w13 ∗ pw c arg14 w14 ∗ pw c arg15 w15 ∗ pw c arg16 w16 ∗ pw c arg17 f0 ∗ pw c arg18 f1 ∗ pw c arg19 f2 ∗ pw c arg20 f3 ∗ pw c arg21 f4 ∗ pw c arg22 f5 ∗ pw c arg23 f6 ∗ pw c arg24 f7)
      ⊢ wp frame (wpE (defs₀ (F := F)) Variants.none (c : Thread nD τ) none) E (cc0__expert_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
          (fun _ => iprop(pw c arg2 w2 ∗ pw c arg3 w3 ∗ pw c arg4 w4 ∗ pw c arg5 w5 ∗ pw c arg6 w6 ∗ pw c arg7 w7 ∗ pw c arg8 w8 ∗ pw c arg9 w9 ∗ pw c arg10 w10 ∗ pw c arg11 w11 ∗ pw c arg12 w12 ∗ pw c arg13 w13 ∗ pw c arg14 w14 ∗ pw c arg15 w15 ∗ pw c arg16 g16 ∗ pw c arg17 g0 ∗ pw c arg19 g2 ∗ pw c arg24 g7 ∗ (∃ f, pw c arg18 f) ∗ (∃ f, pw c arg20 f) ∗ (∃ f, pw c arg21 f) ∗ (∃ f, pw c arg22 f) ∗ (∃ f, pw c arg23 f))) } := by
  refine ⟨?_, ?_, ?_, ?_, fun E => ?run⟩
  case run =>
    iintro ⟨W2, W3, W4, W5, W6, W7, W8, W9, W10, W11, W12, W13, W14, W15, W16, S0, S1, S2, S3, S4, S5, S6, S7⟩
    sl_exec
    sl_step
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [W16]; · iexact W16
    isplitl [S0]; · iexact S0
    isplitl [S2]; · iexact S2
    isplitl [S7]; · iexact S7
    isplitl [S1]; · iexists _; iexact S1
    isplitl [S3]; · iexists _; iexact S3
    isplitl [S4]; · iexists _; iexact S4
    isplitl [S5]; · iexists _; iexact S5
    iexists _; iexact S6

end Cert.Proof.KI

end
-- ==== Proof.ChunkRun.lean ====
/-
  What the body's run leaves, as functions of whole arrays.
-/
module

public import proofs.«01_k».proof.Proof.ChunkRead
public import proofs.«01_k».proof.Proof.Run

@[expose] public section

set_option maxRecDepth 16384
set_option maxHeartbeats 1000000

noncomputable section

namespace Cert.Proof.KI

open Cert.KernelIdeal Cert.KernelIdeal.Gen
open Idealize.ShloMosaic Idealize.SL.Sem

variable {F : FTy → Type} [FloatOps F] [Named F]

/-- The blocks of a grid point, read from their buffers. -/
abbrev winOf (arg2 : Memref sig .tc .vmem S1x2x256x1024 .f32) (arg3 : Memref sig .tc .vmem S1x1024x512 .bf16) (arg4 : Memref sig .tc .vmem S1x1x512 .f32) (arg5 : Memref sig .tc .vmem S1x2x512x2048 .bf16) (arg6 : Memref sig .tc .vmem S1x2x4x1024 .f32) (arg7 : Memref sig .tc .vmem S1x2x1024 .f32) (arg8 : Memref sig .tc .vmem S1x2x1024x160 .f32) (arg9 : Memref sig .tc .vmem S1x2x32x1024 .f32) (arg10 : Memref sig .tc .vmem S1x2x1024 .f32) (arg11 : Memref sig .tc .vmem S1x2x1024 .f32) (arg12 : Memref sig .tc .vmem S1x2x1024x512 .bf16) (arg13 : Memref sig .tc .vmem S1x2x512 .f32) (arg14 : Memref sig .tc .vmem S1x512 .f32) (arg15 : Memref sig .tc .vmem S1x512 .f32)
    (w2 : Cw (F := F) arg2) (w3 : Cw (F := F) arg3) (w4 : Cw (F := F) arg4) (w5 : Cw (F := F) arg5) (w6 : Cw (F := F) arg6) (w7 : Cw (F := F) arg7) (w8 : Cw (F := F) arg8) (w9 : Cw (F := F) arg9) (w10 : Cw (F := F) arg10) (w11 : Cw (F := F) arg11) (w12 : Cw (F := F) arg12) (w13 : Cw (F := F) arg13) (w14 : Cw (F := F) arg14) (w15 : Cw (F := F) arg15) : Win F :=
  ⟨arg2.view.read (Elt F) w2, arg3.view.read (Elt F) w3, arg4.view.read (Elt F) w4, arg5.view.read (Elt F) w5, arg6.view.read (Elt F) w6, arg7.view.read (Elt F) w7, arg8.view.read (Elt F) w8, arg9.view.read (Elt F) w9, arg10.view.read (Elt F) w10, arg11.view.read (Elt F) w11, arg12.view.read (Elt F) w12, arg13.view.read (Elt F) w13, arg14.view.read (Elt F) w14, arg15.view.read (Elt F) w15⟩

/-- What is carried, read from its buffers. -/
abbrev carOf (arg17 : Memref sig .tc .vmem S2x64x2048 .f32) (arg19 : Memref sig .tc .vmem S2x2x8x1024 .f32) (arg24 : Memref sig .tc .vmem S2x512 .f32) (f0 : Cw (F := F) arg17) (f2 : Cw (F := F) arg19) (f7 : Cw (F := F) arg24) : Car F :=
  ⟨arg17.view.read (Elt F) f0, arg19.view.read (Elt F) f2, arg24.view.read (Elt F) f7⟩

theorem runMid_out (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole)
  (h1 : ¬ isFirst i) (h2 : ¬ k0_cond2 i = 1#1)
  (w2 : Cw (F := F) arg2) (w3 : Cw (F := F) arg3) (w4 : Cw (F := F) arg4) (w5 : Cw (F := F) arg5) (w6 : Cw (F := F) arg6) (w7 : Cw (F := F) arg7) (w8 : Cw (F := F) arg8) (w9 : Cw (F := F) arg9) (w10 : Cw (F := F) arg10) (w11 : Cw (F := F) arg11) (w12 : Cw (F := F) arg12) (w13 : Cw (F := F) arg13) (w14 : Cw (F := F) arg14) (w15 : Cw (F := F) arg15) (w16 : Cw (F := F) arg16)
  (f0 : Cw (F := F) arg17) (f1 : Cw (F := F) arg18) (f2 : Cw (F := F) arg19) (f3 : Cw (F := F) arg20) (f4 : Cw (F := F) arg21) (f5 : Cw (F := F) arg22) (f6 : Cw (F := F) arg23) (f7 : Cw (F := F) arg24) :
    arg17.view.read (Elt F) (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.1 = (Win.car (winOf arg2 arg3 arg4 arg5 arg6 arg7 arg8 arg9 arg10 arg11 arg12 arg13 arg14 arg15 w2 w3 w4 w5 w6 w7 w8 w9 w10 w11 w12 w13 w14 w15) (carOf arg17 arg19 arg24 f0 f2 f7)).st ∧ arg19.view.read (Elt F) (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.1 = (Win.car (winOf arg2 arg3 arg4 arg5 arg6 arg7 arg8 arg9 arg10 arg11 arg12 arg13 arg14 arg15 w2 w3 w4 w5 w6 w7 w8 w9 w10 w11 w12 w13 w14 w15) (carOf arg17 arg19 arg24 f0 f2 f7)).tl
      ∧ arg24.view.read (Elt F) (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.1 = (Win.car (winOf arg2 arg3 arg4 arg5 arg6 arg7 arg8 arg9 arg10 arg11 arg12 arg13 arg14 arg15 w2 w3 w4 w5 w6 w7 w8 w9 w10 w11 w12 w13 w14 w15) (carOf arg17 arg19 arg24 f0 f2 f7)).fa := by
  let W : Win F := winOf arg2 arg3 arg4 arg5 arg6 arg7 arg8 arg9 arg10 arg11 arg12 arg13 arg14 arg15 w2 w3 w4 w5 w6 w7 w8 w9 w10 w11 w12 w13 w14 w15
  let s : Car F := carOf arg17 arg19 arg24 f0 f2 f7
  have z0 : arg17.view.read (Elt F) f0 = s.st := rfl
  have z2 : arg19.view.read (Elt F) f2 = s.tl := rfl
  have z7 : arg24.view.read (Elt F) f7 = s.fa := rfl
  have t0 : (runMid.sl.v51 arg19 f2) = tailOf 0 inb_S2x2x8x1024_S1x2x8x1024_0_0_0_0 (arg19.view.read (Elt F) f2) := shapeCast_self (tailOf 0 inb_S2x2x8x1024_S1x2x8x1024_0_0_0_0 (arg19.view.read (Elt F) f2)) shapeCasts_S2x8x1024_S2x8x1024
  have a1 : (runMid.sl.v24 arg2 arg3 arg4 w2 w3 w4) = W.h0 := rfl
  have a2 : (runMid.sl.v34 arg2 arg3 arg4 w2 w3 w4) = kRn W.h0 := by rw [← a1]; rfl
  have a3 : (runMid.sl.v43 arg2 arg3 arg4 arg5 arg13 w2 w3 w4 w5 w13) = W.lay0.xz W.h0 := by
    show k0_pay311 (runMid.sl.v34 arg2 arg3 arg4 w2 w3 w4) _ _ = _
    rw [a2]; rfl
  have x0 : (runMid.sl.v54 arg2 arg3 arg4 arg5 arg13 w2 w3 w4 w5 w13) = kXc (W.lay0.xz W.h0) := by
    rw [← a3]; exact shapeCast_self (kXc (runMid.sl.v43 arg2 arg3 arg4 arg5 arg13 w2 w3 w4 w5 w13)) shapeCasts_S2x256x1024_S2x256x1024
  have xt0 : arg18.view.read (Elt F) (arg18.view.writes (Elt F) arg18.view.junk (runMid.sl.S1_2 arg2 arg3 arg4 arg5 arg13 arg19 w2 w3 w4 w5 w13 f2)) = W.xt0 s := by
    refine (read_xcat _ _ _ _ _ _ _).trans ?_
    rw [t0, x0, z2]; rfl
  have u0 : (runMid.sl.v99 arg2 arg3 arg4 arg5 arg6 arg7 arg13 arg18 arg19 w2 w3 w4 w5 w6 w7 w13 f2) = W.lay0.u (W.xt0 s) := by
    rw [← xt0]; rfl
  have b0 : (runMid.sl.v102 arg2 arg3 arg4 arg5 arg6 arg7 arg8 arg13 arg18 arg19 w2 w3 w4 w5 w6 w7 w8 w13 f2) = W.lay0.dblOf (W.xt0 s) := by
    show W.lay0.dbl (runMid.sl.v99 arg2 arg3 arg4 arg5 arg6 arg7 arg13 arg18 arg19 w2 w3 w4 w5 w6 w7 w13 f2) = _
    rw [u0]; rfl
  have l0 : (runMid.sl.v123 arg2 arg3 arg4 arg5 arg6 arg7 arg8 arg9 arg10 arg13 arg18 arg19 w2 w3 w4 w5 w6 w7 w8 w9 w10 w13 f2) = W.lay0.dlOf (W.xt0 s) := by
    show kSoft (W.lay0.dv (runMid.sl.v102 arg2 arg3 arg4 arg5 arg6 arg7 arg8 arg13 arg18 arg19 w2 w3 w4 w5 w6 w7 w8 w13 f2)) = _
    rw [b0]; rfl
  have m0 : (runMid.sl.v124 arg2 arg3 arg4 arg5 arg6 arg7 arg8 arg9 arg10 arg13 arg18 arg19 w2 w3 w4 w5 w6 w7 w8 w9 w10 w13 f2) = W.lay0.duOf (W.xt0 s) := by
    show mulf (runMid.sl.v123 arg2 arg3 arg4 arg5 arg6 arg7 arg8 arg9 arg10 arg13 arg18 arg19 w2 w3 w4 w5 w6 w7 w8 w9 w10 w13 f2) (runMid.sl.v99 arg2 arg3 arg4 arg5 arg6 arg7 arg13 arg18 arg19 w2 w3 w4 w5 w6 w7 w13 f2) = _
    rw [l0, u0]; rfl
  have e3 : arg20.view.read (Elt F) (arg20.view.writes (Elt F) arg20.view.junk (runMid.sl.S3_1 arg2 arg3 arg4 arg5 arg6 arg7 arg8 arg9 arg10 arg13 arg18 arg19 w2 w3 w4 w5 w6 w7 w8 w9 w10 w13 f2)) = kSide (W.lay0.dlOf (W.xt0 s)) := by
    refine (read_whole _ _ _ _ _ _).trans ?_
    show kSide (runMid.sl.v123 arg2 arg3 arg4 arg5 arg6 arg7 arg8 arg9 arg10 arg13 arg18 arg19 w2 w3 w4 w5 w6 w7 w8 w9 w10 w13 f2) = _
    rw [l0]
  have e4 : arg21.view.read (Elt F) (arg21.view.writes (Elt F) arg21.view.junk (runMid.sl.S4_1 arg2 arg3 arg4 arg5 arg6 arg7 arg8 arg9 arg10 arg13 arg18 arg19 w2 w3 w4 w5 w6 w7 w8 w9 w10 w13 f2)) = kSide (W.lay0.duOf (W.xt0 s)) := by
    refine (read_whole _ _ _ _ _ _).trans ?_
    show kSide (runMid.sl.v124 arg2 arg3 arg4 arg5 arg6 arg7 arg8 arg9 arg10 arg13 arg18 arg19 w2 w3 w4 w5 w6 w7 w8 w9 w10 w13 f2) = _
    rw [m0]
  have e5 : arg22.view.read (Elt F) (arg22.view.writes (Elt F) arg22.view.junk (runMid.sl.S5_1 arg2 arg3 arg4 arg5 arg6 arg7 arg8 arg13 arg18 arg19 w2 w3 w4 w5 w6 w7 w8 w13 f2)) = kBc (W.lay0.dblOf (W.xt0 s)) := by
    refine (read_whole _ _ _ _ _ _).trans ?_
    show kBc (runMid.sl.v102 arg2 arg3 arg4 arg5 arg6 arg7 arg8 arg13 arg18 arg19 w2 w3 w4 w5 w6 w7 w8 w13 f2) = _
    rw [b0]
  have e0 : st0At1 arg17 f0 = W.st0 s := by
    show stOf 0 _ (arg17.view.read (Elt F) _) = _
    rw [z0]; rfl
  have y0 : (runMid.sl.v154 arg2 arg3 arg4 arg5 arg6 arg7 arg8 arg9 arg10 arg13 arg17 arg18 arg19 arg20 arg21 arg22 arg23 w2 w3 w4 w5 w6 w7 w8 w9 w10 w13 f0 f2) = W.lay0.ysOf (W.xt0 s) (W.st0 s) := by
    unfold runMid.sl.v154
    rw [e3, e4, e5, e0]
    refine Eq.trans ?_ (read_ys arg23.view (by decide) k0_off3 k0_off3_inb k0_off3_eq _ _ _ _ _ [] inb_S2048x2048_S2048x2048_0_0)
    rw [List.append_nil]; rfl
  have H1 : (runMid.sl.v178 arg2 arg3 arg4 arg5 arg6 arg7 arg8 arg9 arg10 arg11 arg12 arg13 arg17 arg18 arg19 arg20 arg21 arg22 arg23 w2 w3 w4 w5 w6 w7 w8 w9 w10 w11 w12 w13 f0 f2) = W.h1 s := by
    show W.lay0.out (runMid.sl.v24 arg2 arg3 arg4 w2 w3 w4) (W.lay0.y (runMid.sl.v99 arg2 arg3 arg4 arg5 arg6 arg7 arg13 arg18 arg19 w2 w3 w4 w5 w6 w7 w13 f2) (runMid.sl.v154 arg2 arg3 arg4 arg5 arg6 arg7 arg8 arg9 arg10 arg13 arg17 arg18 arg19 arg20 arg21 arg22 arg23 w2 w3 w4 w5 w6 w7 w8 w9 w10 w13 f0 f2)) (kZ (runMid.sl.v43 arg2 arg3 arg4 arg5 arg13 w2 w3 w4 w5 w13)) = _
    rw [a1, a3, u0, y0]; rfl
  have t1 : (runMid.sl.v205 arg19 f2) = tailOf 1 inb_S2x2x8x1024_S1x2x8x1024_1_0_0_0 (arg19.view.read (Elt F) f2) := shapeCast_self (tailOf 1 inb_S2x2x8x1024_S1x2x8x1024_1_0_0_0 (arg19.view.read (Elt F) f2)) shapeCasts_S2x8x1024_S2x8x1024
  have a4 : (runMid.sl.v197 arg2 arg3 arg4 arg5 arg6 arg7 arg8 arg9 arg10 arg11 arg12 arg13 arg17 arg18 arg19 arg20 arg21 arg22 arg23 w2 w3 w4 w5 w6 w7 w8 w9 w10 w11 w12 w13 f0 f2) = W.lay1.xz (W.h1 s) := by
    rw [← H1]; rfl
  have x1 : (runMid.sl.v208 arg2 arg3 arg4 arg5 arg6 arg7 arg8 arg9 arg10 arg11 arg12 arg13 arg17 arg18 arg19 arg20 arg21 arg22 arg23 w2 w3 w4 w5 w6 w7 w8 w9 w10 w11 w12 w13 f0 f2) = kXc (W.lay1.xz (W.h1 s)) := by
    rw [← a4]; exact shapeCast_self (kXc (runMid.sl.v197 arg2 arg3 arg4 arg5 arg6 arg7 arg8 arg9 arg10 arg11 arg12 arg13 arg17 arg18 arg19 arg20 arg21 arg22 arg23 w2 w3 w4 w5 w6 w7 w8 w9 w10 w11 w12 w13 f0 f2)) shapeCasts_S2x256x1024_S2x256x1024
  have xt1 : arg18.view.read (Elt F) (arg18.view.writes (Elt F) arg18.view.junk (runMid.sl.S1_4 arg2 arg3 arg4 arg5 arg6 arg7 arg8 arg9 arg10 arg11 arg12 arg13 arg17 arg18 arg19 arg20 arg21 arg22 arg23 w2 w3 w4 w5 w6 w7 w8 w9 w10 w11 w12 w13 f0 f2)) = W.xt1 s := by
    refine (read_xcat _ _ _ _ _ _ _).trans ?_
    rw [t1, x1, z2]; rfl
  have u1 : (runMid.sl.v253 arg2 arg3 arg4 arg5 arg6 arg7 arg8 arg9 arg10 arg11 arg12 arg13 arg17 arg18 arg19 arg20 arg21 arg22 arg23 w2 w3 w4 w5 w6 w7 w8 w9 w10 w11 w12 w13 f0 f2) = W.lay1.u (W.xt1 s) := by
    rw [← xt1]; rfl
  have b1 : (runMid.sl.v256 arg2 arg3 arg4 arg5 arg6 arg7 arg8 arg9 arg10 arg11 arg12 arg13 arg17 arg18 arg19 arg20 arg21 arg22 arg23 w2 w3 w4 w5 w6 w7 w8 w9 w10 w11 w12 w13 f0 f2) = W.lay1.dblOf (W.xt1 s) := by
    show W.lay1.dbl (runMid.sl.v253 arg2 arg3 arg4 arg5 arg6 arg7 arg8 arg9 arg10 arg11 arg12 arg13 arg17 arg18 arg19 arg20 arg21 arg22 arg23 w2 w3 w4 w5 w6 w7 w8 w9 w10 w11 w12 w13 f0 f2) = _
    rw [u1]; rfl
  have l1 : kSoft (runMid.sl.v267 arg2 arg3 arg4 arg5 arg6 arg7 arg8 arg9 arg10 arg11 arg12 arg13 arg17 arg18 arg19 arg20 arg21 arg22 arg23 w2 w3 w4 w5 w6 w7 w8 w9 w10 w11 w12 w13 f0 f2) = W.lay1.dlOf (W.xt1 s) := by
    show kSoft (W.lay1.dv (runMid.sl.v256 arg2 arg3 arg4 arg5 arg6 arg7 arg8 arg9 arg10 arg11 arg12 arg13 arg17 arg18 arg19 arg20 arg21 arg22 arg23 w2 w3 w4 w5 w6 w7 w8 w9 w10 w11 w12 w13 f0 f2)) = _
    rw [b1]; rfl
  have g3 : arg20.view.read (Elt F) (arg20.view.writes (Elt F) arg20.view.junk (⟨Rect.unit ![0, 0] S256x2048.size inb_S256x2048_S256x2048_0_0, k0_pay349 (runMid.sl.v267 arg2 arg3 arg4 arg5 arg6 arg7 arg8 arg9 arg10 arg11 arg12 arg13 arg17 arg18 arg19 arg20 arg21 arg22 arg23 w2 w3 w4 w5 w6 w7 w8 w9 w10 w11 w12 w13 f0 f2) (runMid.sl.v268 )⟩ :: (runMid.sl.S3_1 arg2 arg3 arg4 arg5 arg6 arg7 arg8 arg9 arg10 arg13 arg18 arg19 w2 w3 w4 w5 w6 w7 w8 w9 w10 w13 f2))) = kSide (W.lay1.dlOf (W.xt1 s)) := by
    refine (read_whole _ _ _ _ _ _).trans ?_
    show kSide (kSoft (runMid.sl.v267 arg2 arg3 arg4 arg5 arg6 arg7 arg8 arg9 arg10 arg11 arg12 arg13 arg17 arg18 arg19 arg20 arg21 arg22 arg23 w2 w3 w4 w5 w6 w7 w8 w9 w10 w11 w12 w13 f0 f2)) = _
    rw [l1]
  have g4 : arg21.view.read (Elt F) (arg21.view.writes (Elt F) arg21.view.junk (⟨Rect.unit ![0, 0] S256x2048.size inb_S256x2048_S256x2048_0_0, k0_pay350 (runMid.sl.v253 arg2 arg3 arg4 arg5 arg6 arg7 arg8 arg9 arg10 arg11 arg12 arg13 arg17 arg18 arg19 arg20 arg21 arg22 arg23 w2 w3 w4 w5 w6 w7 w8 w9 w10 w11 w12 w13 f0 f2) (runMid.sl.v267 arg2 arg3 arg4 arg5 arg6 arg7 arg8 arg9 arg10 arg11 arg12 arg13 arg17 arg18 arg19 arg20 arg21 arg22 arg23 w2 w3 w4 w5 w6 w7 w8 w9 w10 w11 w12 w13 f0 f2) (runMid.sl.v268 )⟩ :: (runMid.sl.S4_1 arg2 arg3 arg4 arg5 arg6 arg7 arg8 arg9 arg10 arg13 arg18 arg19 w2 w3 w4 w5 w6 w7 w8 w9 w10 w13 f2))) = kSide (W.lay1.duOf (W.xt1 s)) := by
    refine (read_whole _ _ _ _ _ _).trans ?_
    show kSide (mulf (kSoft (runMid.sl.v267 arg2 arg3 arg4 arg5 arg6 arg7 arg8 arg9 arg10 arg11 arg12 arg13 arg17 arg18 arg19 arg20 arg21 arg22 arg23 w2 w3 w4 w5 w6 w7 w8 w9 w10 w11 w12 w13 f0 f2)) (runMid.sl.v253 arg2 arg3 arg4 arg5 arg6 arg7 arg8 arg9 arg10 arg11 arg12 arg13 arg17 arg18 arg19 arg20 arg21 arg22 arg23 w2 w3 w4 w5 w6 w7 w8 w9 w10 w11 w12 w13 f0 f2)) = _
    rw [l1, u1]; rfl
  have g5 : arg22.view.read (Elt F) (arg22.view.writes (Elt F) arg22.view.junk (⟨Rect.unit ![0, 0] S256x256.size inb_S256x256_S256x256_0_0, k0_pay351 (runMid.sl.v258 arg2 arg3 arg4 arg5 arg6 arg7 arg8 arg9 arg10 arg11 arg12 arg13 arg17 arg18 arg19 arg20 arg21 arg22 arg23 w2 w3 w4 w5 w6 w7 w8 w9 w10 w11 w12 w13 f0 f2) (runMid.sl.v259 arg2 arg3 arg4 arg5 arg6 arg7 arg8 arg9 arg10 arg11 arg12 arg13 arg17 arg18 arg19 arg20 arg21 arg22 arg23 w2 w3 w4 w5 w6 w7 w8 w9 w10 w11 w12 w13 f0 f2)⟩ :: (runMid.sl.S5_1 arg2 arg3 arg4 arg5 arg6 arg7 arg8 arg13 arg18 arg19 w2 w3 w4 w5 w6 w7 w8 w13 f2))) = kBc (W.lay1.dblOf (W.xt1 s)) := by
    refine (read_whole _ _ _ _ _ _).trans ?_
    show kBc (runMid.sl.v256 arg2 arg3 arg4 arg5 arg6 arg7 arg8 arg9 arg10 arg11 arg12 arg13 arg17 arg18 arg19 arg20 arg21 arg22 arg23 w2 w3 w4 w5 w6 w7 w8 w9 w10 w11 w12 w13 f0 f2) = _
    rw [b1]
  have g0 : st0At2 arg17 (arg17.view.writes (Elt F) f0 (stPieces 0 inb_S2x64x2048_S1x64x2048_0_0_0 k0_pay328 (arg20.view.read (Elt F) (arg20.view.writes (Elt F) arg20.view.junk (runMid.sl.S3_1 arg2 arg3 arg4 arg5 arg6 arg7 arg8 arg9 arg10 arg13 arg18 arg19 w2 w3 w4 w5 w6 w7 w8 w9 w10 w13 f2))) (arg21.view.read (Elt F) (arg21.view.writes (Elt F) arg21.view.junk (runMid.sl.S4_1 arg2 arg3 arg4 arg5 arg6 arg7 arg8 arg9 arg10 arg13 arg18 arg19 w2 w3 w4 w5 w6 w7 w8 w9 w10 w13 f2))) (arg22.view.read (Elt F) (arg22.view.writes (Elt F) arg22.view.junk (runMid.sl.S5_1 arg2 arg3 arg4 arg5 arg6 arg7 arg8 arg13 arg18 arg19 w2 w3 w4 w5 w6 w7 w8 w13 f2))) (st0At1 arg17 f0) (Scf.trips k0_t1_loop.lb k0_t1_loop.ub k0_t1_loop.st))) = W.st1 s := by
    show stOf 1 inb_S2x64x2048_S1x64x2048_1_0_0 (arg17.view.read (Elt F) _) = _
    rw [stOf_other, z0]; rfl
  have y1 : (runMid.sl.v308 arg2 arg3 arg4 arg5 arg6 arg7 arg8 arg9 arg10 arg11 arg12 arg13 arg17 arg18 arg19 arg20 arg21 arg22 arg23 w2 w3 w4 w5 w6 w7 w8 w9 w10 w11 w12 w13 f0 f2) = W.lay1.ysOf (W.xt1 s) (W.st1 s) := by
    unfold runMid.sl.v308
    rw [g3, g4, g5, g0]
    exact read_ys arg23.view (by decide) k0_off6 k0_off6_inb k0_off6_eq _ _ _ _ _ _ inb_S2048x2048_S2048x2048_0_0
  have H2 : kLn ((winOf arg2 arg3 arg4 arg5 arg6 arg7 arg8 arg9 arg10 arg11 arg12 arg13 arg14 arg15 w2 w3 w4 w5 w6 w7 w8 w9 w10 w11 w12 w13 w14 w15).lay1.out (runMid.sl.v178 arg2 arg3 arg4 arg5 arg6 arg7 arg8 arg9 arg10 arg11 arg12 arg13 arg17 arg18 arg19 arg20 arg21 arg22 arg23 w2 w3 w4 w5 w6 w7 w8 w9 w10 w11 w12 w13 f0 f2) (W.lay1.y (runMid.sl.v253 arg2 arg3 arg4 arg5 arg6 arg7 arg8 arg9 arg10 arg11 arg12 arg13 arg17 arg18 arg19 arg20 arg21 arg22 arg23 w2 w3 w4 w5 w6 w7 w8 w9 w10 w11 w12 w13 f0 f2) (runMid.sl.v308 arg2 arg3 arg4 arg5 arg6 arg7 arg8 arg9 arg10 arg11 arg12 arg13 arg17 arg18 arg19 arg20 arg21 arg22 arg23 w2 w3 w4 w5 w6 w7 w8 w9 w10 w11 w12 w13 f0 f2)) (kZ (runMid.sl.v197 arg2 arg3 arg4 arg5 arg6 arg7 arg8 arg9 arg10 arg11 arg12 arg13 arg17 arg18 arg19 arg20 arg21 arg22 arg23 w2 w3 w4 w5 w6 w7 w8 w9 w10 w11 w12 w13 f0 f2))) = kLn (W.h2 s) := by
    rw [H1, a4, u1, y1]; rfl
  have q0 : arg17.view.read (Elt F) (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.1 = (W.car s).st := by
    unfold runMid
    dsimp only
    rw [g0, g3, g4, g5, e0, e3, e4, e5, View.writes_append]
    exact read_states _ _ _ _ _ _ _ _ _ _ _ _ rfl rfl _ _
  have q2 : arg19.view.read (Elt F) (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.1 = (W.car s).tl := by
    unfold runMid
    dsimp only
    unfold runMid.sl.S2_2
    refine (read_tails arg19.view _ _ _ (runMid.sl.v55 arg2 arg3 arg4 arg5 arg13 arg18 arg19 w2 w3 w4 w5 w13 f2) (runMid.sl.v209 arg2 arg3 arg4 arg5 arg6 arg7 arg8 arg9 arg10 arg11 arg12 arg13 arg17 arg18 arg19 arg20 arg21 arg22 arg23 w2 w3 w4 w5 w6 w7 w8 w9 w10 w11 w12 w13 f0 f2) shapeCasts_S2x8x1024_S1x2x8x1024 shapeCasts_S2x8x1024_S1x2x8x1024 _).trans ?_
    have c0 : (runMid.sl.v55 arg2 arg3 arg4 arg5 arg13 arg18 arg19 w2 w3 w4 w5 w13 f2) = tlOf (W.xt0 s) := by rw [← xt0]; rfl
    have c1 : (runMid.sl.v209 arg2 arg3 arg4 arg5 arg6 arg7 arg8 arg9 arg10 arg11 arg12 arg13 arg17 arg18 arg19 arg20 arg21 arg22 arg23 w2 w3 w4 w5 w6 w7 w8 w9 w10 w11 w12 w13 f0 f2) = tlOf (W.xt1 s) := by rw [← xt1]; rfl
    rw [c0, c1]; rfl
  have q7 : arg24.view.read (Elt F) (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.1 = (W.car s).fa := by
    unfold runMid
    dsimp only

    refine (read_whole _ _ _ _ _ _).trans ?_
    show k0_pay1 (kLn ((winOf arg2 arg3 arg4 arg5 arg6 arg7 arg8 arg9 arg10 arg11 arg12 arg13 arg14 arg15 w2 w3 w4 w5 w6 w7 w8 w9 w10 w11 w12 w13 w14 w15).lay1.out (runMid.sl.v178 arg2 arg3 arg4 arg5 arg6 arg7 arg8 arg9 arg10 arg11 arg12 arg13 arg17 arg18 arg19 arg20 arg21 arg22 arg23 w2 w3 w4 w5 w6 w7 w8 w9 w10 w11 w12 w13 f0 f2) (W.lay1.y (runMid.sl.v253 arg2 arg3 arg4 arg5 arg6 arg7 arg8 arg9 arg10 arg11 arg12 arg13 arg17 arg18 arg19 arg20 arg21 arg22 arg23 w2 w3 w4 w5 w6 w7 w8 w9 w10 w11 w12 w13 f0 f2) (runMid.sl.v308 arg2 arg3 arg4 arg5 arg6 arg7 arg8 arg9 arg10 arg11 arg12 arg13 arg17 arg18 arg19 arg20 arg21 arg22 arg23 w2 w3 w4 w5 w6 w7 w8 w9 w10 w11 w12 w13 f0 f2)) (kZ (runMid.sl.v197 arg2 arg3 arg4 arg5 arg6 arg7 arg8 arg9 arg10 arg11 arg12 arg13 arg17 arg18 arg19 arg20 arg21 arg22 arg23 w2 w3 w4 w5 w6 w7 w8 w9 w10 w11 w12 w13 f0 f2)))) _ _ _ = _
    rw [H2]
    show k0_pay1 _ _ _ (ld (s := S2x512) ![0, 0] S2x512.size inb_S2x512_S2x512_0_0 (arg24.view.read (Elt F) f7)) = _
    rw [z7]; rfl
  exact ⟨q0, q2, q7⟩

theorem runLast_out (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole)
  (h1 : ¬ isFirst i) (h2 : k0_cond2 i = 1#1)
  (w2 : Cw (F := F) arg2) (w3 : Cw (F := F) arg3) (w4 : Cw (F := F) arg4) (w5 : Cw (F := F) arg5) (w6 : Cw (F := F) arg6) (w7 : Cw (F := F) arg7) (w8 : Cw (F := F) arg8) (w9 : Cw (F := F) arg9) (w10 : Cw (F := F) arg10) (w11 : Cw (F := F) arg11) (w12 : Cw (F := F) arg12) (w13 : Cw (F := F) arg13) (w14 : Cw (F := F) arg14) (w15 : Cw (F := F) arg15) (w16 : Cw (F := F) arg16)
  (f0 : Cw (F := F) arg17) (f1 : Cw (F := F) arg18) (f2 : Cw (F := F) arg19) (f3 : Cw (F := F) arg20) (f4 : Cw (F := F) arg21) (f5 : Cw (F := F) arg22) (f6 : Cw (F := F) arg23) (f7 : Cw (F := F) arg24) :
    arg17.view.read (Elt F) (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.1 = (Win.car (winOf arg2 arg3 arg4 arg5 arg6 arg7 arg8 arg9 arg10 arg11 arg12 arg13 arg14 arg15 w2 w3 w4 w5 w6 w7 w8 w9 w10 w11 w12 w13 w14 w15) (carOf arg17 arg19 arg24 f0 f2 f7)).st ∧ arg19.view.read (Elt F) (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.1 = (Win.car (winOf arg2 arg3 arg4 arg5 arg6 arg7 arg8 arg9 arg10 arg11 arg12 arg13 arg14 arg15 w2 w3 w4 w5 w6 w7 w8 w9 w10 w11 w12 w13 w14 w15) (carOf arg17 arg19 arg24 f0 f2 f7)).tl
      ∧ arg24.view.read (Elt F) (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.1 = (Win.car (winOf arg2 arg3 arg4 arg5 arg6 arg7 arg8 arg9 arg10 arg11 arg12 arg13 arg14 arg15 w2 w3 w4 w5 w6 w7 w8 w9 w10 w11 w12 w13 w14 w15) (carOf arg17 arg19 arg24 f0 f2 f7)).fa := by
  let W : Win F := winOf arg2 arg3 arg4 arg5 arg6 arg7 arg8 arg9 arg10 arg11 arg12 arg13 arg14 arg15 w2 w3 w4 w5 w6 w7 w8 w9 w10 w11 w12 w13 w14 w15
  let s : Car F := carOf arg17 arg19 arg24 f0 f2 f7
  have z0 : arg17.view.read (Elt F) f0 = s.st := rfl
  have z2 : arg19.view.read (Elt F) f2 = s.tl := rfl
  have z7 : arg24.view.read (Elt F) f7 = s.fa := rfl
  have t0 : (runLast.sl.v51 arg19 f2) = tailOf 0 inb_S2x2x8x1024_S1x2x8x1024_0_0_0_0 (arg19.view.read (Elt F) f2) := shapeCast_self (tailOf 0 inb_S2x2x8x1024_S1x2x8x1024_0_0_0_0 (arg19.view.read (Elt F) f2)) shapeCasts_S2x8x1024_S2x8x1024
  have a1 : (runLast.sl.v24 arg2 arg3 arg4 w2 w3 w4) = W.h0 := rfl
  have a2 : (runLast.sl.v34 arg2 arg3 arg4 w2 w3 w4) = kRn W.h0 := by rw [← a1]; rfl
  have a3 : (runLast.sl.v43 arg2 arg3 arg4 arg5 arg13 w2 w3 w4 w5 w13) = W.lay0.xz W.h0 := by
    show k0_pay311 (runLast.sl.v34 arg2 arg3 arg4 w2 w3 w4) _ _ = _
    rw [a2]; rfl
  have x0 : (runLast.sl.v54 arg2 arg3 arg4 arg5 arg13 w2 w3 w4 w5 w13) = kXc (W.lay0.xz W.h0) := by
    rw [← a3]; exact shapeCast_self (kXc (runLast.sl.v43 arg2 arg3 arg4 arg5 arg13 w2 w3 w4 w5 w13)) shapeCasts_S2x256x1024_S2x256x1024
  have xt0 : arg18.view.read (Elt F) (arg18.view.writes (Elt F) arg18.view.junk (runLast.sl.S1_2 arg2 arg3 arg4 arg5 arg13 arg19 w2 w3 w4 w5 w13 f2)) = W.xt0 s := by
    refine (read_xcat _ _ _ _ _ _ _).trans ?_
    rw [t0, x0, z2]; rfl
  have u0 : (runLast.sl.v99 arg2 arg3 arg4 arg5 arg6 arg7 arg13 arg18 arg19 w2 w3 w4 w5 w6 w7 w13 f2) = W.lay0.u (W.xt0 s) := by
    rw [← xt0]; rfl
  have b0 : (runLast.sl.v102 arg2 arg3 arg4 arg5 arg6 arg7 arg8 arg13 arg18 arg19 w2 w3 w4 w5 w6 w7 w8 w13 f2) = W.lay0.dblOf (W.xt0 s) := by
    show W.lay0.dbl (runLast.sl.v99 arg2 arg3 arg4 arg5 arg6 arg7 arg13 arg18 arg19 w2 w3 w4 w5 w6 w7 w13 f2) = _
    rw [u0]; rfl
  have l0 : (runLast.sl.v123 arg2 arg3 arg4 arg5 arg6 arg7 arg8 arg9 arg10 arg13 arg18 arg19 w2 w3 w4 w5 w6 w7 w8 w9 w10 w13 f2) = W.lay0.dlOf (W.xt0 s) := by
    show kSoft (W.lay0.dv (runLast.sl.v102 arg2 arg3 arg4 arg5 arg6 arg7 arg8 arg13 arg18 arg19 w2 w3 w4 w5 w6 w7 w8 w13 f2)) = _
    rw [b0]; rfl
  have m0 : (runLast.sl.v124 arg2 arg3 arg4 arg5 arg6 arg7 arg8 arg9 arg10 arg13 arg18 arg19 w2 w3 w4 w5 w6 w7 w8 w9 w10 w13 f2) = W.lay0.duOf (W.xt0 s) := by
    show mulf (runLast.sl.v123 arg2 arg3 arg4 arg5 arg6 arg7 arg8 arg9 arg10 arg13 arg18 arg19 w2 w3 w4 w5 w6 w7 w8 w9 w10 w13 f2) (runLast.sl.v99 arg2 arg3 arg4 arg5 arg6 arg7 arg13 arg18 arg19 w2 w3 w4 w5 w6 w7 w13 f2) = _
    rw [l0, u0]; rfl
  have e3 : arg20.view.read (Elt F) (arg20.view.writes (Elt F) arg20.view.junk (runLast.sl.S3_1 arg2 arg3 arg4 arg5 arg6 arg7 arg8 arg9 arg10 arg13 arg18 arg19 w2 w3 w4 w5 w6 w7 w8 w9 w10 w13 f2)) = kSide (W.lay0.dlOf (W.xt0 s)) := by
    refine (read_whole _ _ _ _ _ _).trans ?_
    show kSide (runLast.sl.v123 arg2 arg3 arg4 arg5 arg6 arg7 arg8 arg9 arg10 arg13 arg18 arg19 w2 w3 w4 w5 w6 w7 w8 w9 w10 w13 f2) = _
    rw [l0]
  have e4 : arg21.view.read (Elt F) (arg21.view.writes (Elt F) arg21.view.junk (runLast.sl.S4_1 arg2 arg3 arg4 arg5 arg6 arg7 arg8 arg9 arg10 arg13 arg18 arg19 w2 w3 w4 w5 w6 w7 w8 w9 w10 w13 f2)) = kSide (W.lay0.duOf (W.xt0 s)) := by
    refine (read_whole _ _ _ _ _ _).trans ?_
    show kSide (runLast.sl.v124 arg2 arg3 arg4 arg5 arg6 arg7 arg8 arg9 arg10 arg13 arg18 arg19 w2 w3 w4 w5 w6 w7 w8 w9 w10 w13 f2) = _
    rw [m0]
  have e5 : arg22.view.read (Elt F) (arg22.view.writes (Elt F) arg22.view.junk (runLast.sl.S5_1 arg2 arg3 arg4 arg5 arg6 arg7 arg8 arg13 arg18 arg19 w2 w3 w4 w5 w6 w7 w8 w13 f2)) = kBc (W.lay0.dblOf (W.xt0 s)) := by
    refine (read_whole _ _ _ _ _ _).trans ?_
    show kBc (runLast.sl.v102 arg2 arg3 arg4 arg5 arg6 arg7 arg8 arg13 arg18 arg19 w2 w3 w4 w5 w6 w7 w8 w13 f2) = _
    rw [b0]
  have e0 : st0At1 arg17 f0 = W.st0 s := by
    show stOf 0 _ (arg17.view.read (Elt F) _) = _
    rw [z0]; rfl
  have y0 : (runLast.sl.v154 arg2 arg3 arg4 arg5 arg6 arg7 arg8 arg9 arg10 arg13 arg17 arg18 arg19 arg20 arg21 arg22 arg23 w2 w3 w4 w5 w6 w7 w8 w9 w10 w13 f0 f2) = W.lay0.ysOf (W.xt0 s) (W.st0 s) := by
    unfold runLast.sl.v154
    rw [e3, e4, e5, e0]
    refine Eq.trans ?_ (read_ys arg23.view (by decide) k0_off3 k0_off3_inb k0_off3_eq _ _ _ _ _ [] inb_S2048x2048_S2048x2048_0_0)
    rw [List.append_nil]; rfl
  have H1 : (runLast.sl.v178 arg2 arg3 arg4 arg5 arg6 arg7 arg8 arg9 arg10 arg11 arg12 arg13 arg17 arg18 arg19 arg20 arg21 arg22 arg23 w2 w3 w4 w5 w6 w7 w8 w9 w10 w11 w12 w13 f0 f2) = W.h1 s := by
    show W.lay0.out (runLast.sl.v24 arg2 arg3 arg4 w2 w3 w4) (W.lay0.y (runLast.sl.v99 arg2 arg3 arg4 arg5 arg6 arg7 arg13 arg18 arg19 w2 w3 w4 w5 w6 w7 w13 f2) (runLast.sl.v154 arg2 arg3 arg4 arg5 arg6 arg7 arg8 arg9 arg10 arg13 arg17 arg18 arg19 arg20 arg21 arg22 arg23 w2 w3 w4 w5 w6 w7 w8 w9 w10 w13 f0 f2)) (kZ (runLast.sl.v43 arg2 arg3 arg4 arg5 arg13 w2 w3 w4 w5 w13)) = _
    rw [a1, a3, u0, y0]; rfl
  have t1 : (runLast.sl.v205 arg19 f2) = tailOf 1 inb_S2x2x8x1024_S1x2x8x1024_1_0_0_0 (arg19.view.read (Elt F) f2) := shapeCast_self (tailOf 1 inb_S2x2x8x1024_S1x2x8x1024_1_0_0_0 (arg19.view.read (Elt F) f2)) shapeCasts_S2x8x1024_S2x8x1024
  have a4 : (runLast.sl.v197 arg2 arg3 arg4 arg5 arg6 arg7 arg8 arg9 arg10 arg11 arg12 arg13 arg17 arg18 arg19 arg20 arg21 arg22 arg23 w2 w3 w4 w5 w6 w7 w8 w9 w10 w11 w12 w13 f0 f2) = W.lay1.xz (W.h1 s) := by
    rw [← H1]; rfl
  have x1 : (runLast.sl.v208 arg2 arg3 arg4 arg5 arg6 arg7 arg8 arg9 arg10 arg11 arg12 arg13 arg17 arg18 arg19 arg20 arg21 arg22 arg23 w2 w3 w4 w5 w6 w7 w8 w9 w10 w11 w12 w13 f0 f2) = kXc (W.lay1.xz (W.h1 s)) := by
    rw [← a4]; exact shapeCast_self (kXc (runLast.sl.v197 arg2 arg3 arg4 arg5 arg6 arg7 arg8 arg9 arg10 arg11 arg12 arg13 arg17 arg18 arg19 arg20 arg21 arg22 arg23 w2 w3 w4 w5 w6 w7 w8 w9 w10 w11 w12 w13 f0 f2)) shapeCasts_S2x256x1024_S2x256x1024
  have xt1 : arg18.view.read (Elt F) (arg18.view.writes (Elt F) arg18.view.junk (runLast.sl.S1_4 arg2 arg3 arg4 arg5 arg6 arg7 arg8 arg9 arg10 arg11 arg12 arg13 arg17 arg18 arg19 arg20 arg21 arg22 arg23 w2 w3 w4 w5 w6 w7 w8 w9 w10 w11 w12 w13 f0 f2)) = W.xt1 s := by
    refine (read_xcat _ _ _ _ _ _ _).trans ?_
    rw [t1, x1, z2]; rfl
  have u1 : (runLast.sl.v253 arg2 arg3 arg4 arg5 arg6 arg7 arg8 arg9 arg10 arg11 arg12 arg13 arg17 arg18 arg19 arg20 arg21 arg22 arg23 w2 w3 w4 w5 w6 w7 w8 w9 w10 w11 w12 w13 f0 f2) = W.lay1.u (W.xt1 s) := by
    rw [← xt1]; rfl
  have b1 : (runLast.sl.v256 arg2 arg3 arg4 arg5 arg6 arg7 arg8 arg9 arg10 arg11 arg12 arg13 arg17 arg18 arg19 arg20 arg21 arg22 arg23 w2 w3 w4 w5 w6 w7 w8 w9 w10 w11 w12 w13 f0 f2) = W.lay1.dblOf (W.xt1 s) := by
    show W.lay1.dbl (runLast.sl.v253 arg2 arg3 arg4 arg5 arg6 arg7 arg8 arg9 arg10 arg11 arg12 arg13 arg17 arg18 arg19 arg20 arg21 arg22 arg23 w2 w3 w4 w5 w6 w7 w8 w9 w10 w11 w12 w13 f0 f2) = _
    rw [u1]; rfl
  have l1 : kSoft (runLast.sl.v267 arg2 arg3 arg4 arg5 arg6 arg7 arg8 arg9 arg10 arg11 arg12 arg13 arg17 arg18 arg19 arg20 arg21 arg22 arg23 w2 w3 w4 w5 w6 w7 w8 w9 w10 w11 w12 w13 f0 f2) = W.lay1.dlOf (W.xt1 s) := by
    show kSoft (W.lay1.dv (runLast.sl.v256 arg2 arg3 arg4 arg5 arg6 arg7 arg8 arg9 arg10 arg11 arg12 arg13 arg17 arg18 arg19 arg20 arg21 arg22 arg23 w2 w3 w4 w5 w6 w7 w8 w9 w10 w11 w12 w13 f0 f2)) = _
    rw [b1]; rfl
  have g3 : arg20.view.read (Elt F) (arg20.view.writes (Elt F) arg20.view.junk (⟨Rect.unit ![0, 0] S256x2048.size inb_S256x2048_S256x2048_0_0, k0_pay349 (runLast.sl.v267 arg2 arg3 arg4 arg5 arg6 arg7 arg8 arg9 arg10 arg11 arg12 arg13 arg17 arg18 arg19 arg20 arg21 arg22 arg23 w2 w3 w4 w5 w6 w7 w8 w9 w10 w11 w12 w13 f0 f2) (runLast.sl.v268 )⟩ :: (runLast.sl.S3_1 arg2 arg3 arg4 arg5 arg6 arg7 arg8 arg9 arg10 arg13 arg18 arg19 w2 w3 w4 w5 w6 w7 w8 w9 w10 w13 f2))) = kSide (W.lay1.dlOf (W.xt1 s)) := by
    refine (read_whole _ _ _ _ _ _).trans ?_
    show kSide (kSoft (runLast.sl.v267 arg2 arg3 arg4 arg5 arg6 arg7 arg8 arg9 arg10 arg11 arg12 arg13 arg17 arg18 arg19 arg20 arg21 arg22 arg23 w2 w3 w4 w5 w6 w7 w8 w9 w10 w11 w12 w13 f0 f2)) = _
    rw [l1]
  have g4 : arg21.view.read (Elt F) (arg21.view.writes (Elt F) arg21.view.junk (⟨Rect.unit ![0, 0] S256x2048.size inb_S256x2048_S256x2048_0_0, k0_pay350 (runLast.sl.v253 arg2 arg3 arg4 arg5 arg6 arg7 arg8 arg9 arg10 arg11 arg12 arg13 arg17 arg18 arg19 arg20 arg21 arg22 arg23 w2 w3 w4 w5 w6 w7 w8 w9 w10 w11 w12 w13 f0 f2) (runLast.sl.v267 arg2 arg3 arg4 arg5 arg6 arg7 arg8 arg9 arg10 arg11 arg12 arg13 arg17 arg18 arg19 arg20 arg21 arg22 arg23 w2 w3 w4 w5 w6 w7 w8 w9 w10 w11 w12 w13 f0 f2) (runLast.sl.v268 )⟩ :: (runLast.sl.S4_1 arg2 arg3 arg4 arg5 arg6 arg7 arg8 arg9 arg10 arg13 arg18 arg19 w2 w3 w4 w5 w6 w7 w8 w9 w10 w13 f2))) = kSide (W.lay1.duOf (W.xt1 s)) := by
    refine (read_whole _ _ _ _ _ _).trans ?_
    show kSide (mulf (kSoft (runLast.sl.v267 arg2 arg3 arg4 arg5 arg6 arg7 arg8 arg9 arg10 arg11 arg12 arg13 arg17 arg18 arg19 arg20 arg21 arg22 arg23 w2 w3 w4 w5 w6 w7 w8 w9 w10 w11 w12 w13 f0 f2)) (runLast.sl.v253 arg2 arg3 arg4 arg5 arg6 arg7 arg8 arg9 arg10 arg11 arg12 arg13 arg17 arg18 arg19 arg20 arg21 arg22 arg23 w2 w3 w4 w5 w6 w7 w8 w9 w10 w11 w12 w13 f0 f2)) = _
    rw [l1, u1]; rfl
  have g5 : arg22.view.read (Elt F) (arg22.view.writes (Elt F) arg22.view.junk (⟨Rect.unit ![0, 0] S256x256.size inb_S256x256_S256x256_0_0, k0_pay351 (runLast.sl.v258 arg2 arg3 arg4 arg5 arg6 arg7 arg8 arg9 arg10 arg11 arg12 arg13 arg17 arg18 arg19 arg20 arg21 arg22 arg23 w2 w3 w4 w5 w6 w7 w8 w9 w10 w11 w12 w13 f0 f2) (runLast.sl.v259 arg2 arg3 arg4 arg5 arg6 arg7 arg8 arg9 arg10 arg11 arg12 arg13 arg17 arg18 arg19 arg20 arg21 arg22 arg23 w2 w3 w4 w5 w6 w7 w8 w9 w10 w11 w12 w13 f0 f2)⟩ :: (runLast.sl.S5_1 arg2 arg3 arg4 arg5 arg6 arg7 arg8 arg13 arg18 arg19 w2 w3 w4 w5 w6 w7 w8 w13 f2))) = kBc (W.lay1.dblOf (W.xt1 s)) := by
    refine (read_whole _ _ _ _ _ _).trans ?_
    show kBc (runLast.sl.v256 arg2 arg3 arg4 arg5 arg6 arg7 arg8 arg9 arg10 arg11 arg12 arg13 arg17 arg18 arg19 arg20 arg21 arg22 arg23 w2 w3 w4 w5 w6 w7 w8 w9 w10 w11 w12 w13 f0 f2) = _
    rw [b1]
  have g0 : st0At2 arg17 (arg17.view.writes (Elt F) f0 (stPieces 0 inb_S2x64x2048_S1x64x2048_0_0_0 k0_pay328 (arg20.view.read (Elt F) (arg20.view.writes (Elt F) arg20.view.junk (runLast.sl.S3_1 arg2 arg3 arg4 arg5 arg6 arg7 arg8 arg9 arg10 arg13 arg18 arg19 w2 w3 w4 w5 w6 w7 w8 w9 w10 w13 f2))) (arg21.view.read (Elt F) (arg21.view.writes (Elt F) arg21.view.junk (runLast.sl.S4_1 arg2 arg3 arg4 arg5 arg6 arg7 arg8 arg9 arg10 arg13 arg18 arg19 w2 w3 w4 w5 w6 w7 w8 w9 w10 w13 f2))) (arg22.view.read (Elt F) (arg22.view.writes (Elt F) arg22.view.junk (runLast.sl.S5_1 arg2 arg3 arg4 arg5 arg6 arg7 arg8 arg13 arg18 arg19 w2 w3 w4 w5 w6 w7 w8 w13 f2))) (st0At1 arg17 f0) (Scf.trips k0_t1_loop.lb k0_t1_loop.ub k0_t1_loop.st))) = W.st1 s := by
    show stOf 1 inb_S2x64x2048_S1x64x2048_1_0_0 (arg17.view.read (Elt F) _) = _
    rw [stOf_other, z0]; rfl
  have y1 : (runLast.sl.v308 arg2 arg3 arg4 arg5 arg6 arg7 arg8 arg9 arg10 arg11 arg12 arg13 arg17 arg18 arg19 arg20 arg21 arg22 arg23 w2 w3 w4 w5 w6 w7 w8 w9 w10 w11 w12 w13 f0 f2) = W.lay1.ysOf (W.xt1 s) (W.st1 s) := by
    unfold runLast.sl.v308
    rw [g3, g4, g5, g0]
    exact read_ys arg23.view (by decide) k0_off6 k0_off6_inb k0_off6_eq _ _ _ _ _ _ inb_S2048x2048_S2048x2048_0_0
  have H2 : kLn ((winOf arg2 arg3 arg4 arg5 arg6 arg7 arg8 arg9 arg10 arg11 arg12 arg13 arg14 arg15 w2 w3 w4 w5 w6 w7 w8 w9 w10 w11 w12 w13 w14 w15).lay1.out (runLast.sl.v178 arg2 arg3 arg4 arg5 arg6 arg7 arg8 arg9 arg10 arg11 arg12 arg13 arg17 arg18 arg19 arg20 arg21 arg22 arg23 w2 w3 w4 w5 w6 w7 w8 w9 w10 w11 w12 w13 f0 f2) (W.lay1.y (runLast.sl.v253 arg2 arg3 arg4 arg5 arg6 arg7 arg8 arg9 arg10 arg11 arg12 arg13 arg17 arg18 arg19 arg20 arg21 arg22 arg23 w2 w3 w4 w5 w6 w7 w8 w9 w10 w11 w12 w13 f0 f2) (runLast.sl.v308 arg2 arg3 arg4 arg5 arg6 arg7 arg8 arg9 arg10 arg11 arg12 arg13 arg17 arg18 arg19 arg20 arg21 arg22 arg23 w2 w3 w4 w5 w6 w7 w8 w9 w10 w11 w12 w13 f0 f2)) (kZ (runLast.sl.v197 arg2 arg3 arg4 arg5 arg6 arg7 arg8 arg9 arg10 arg11 arg12 arg13 arg17 arg18 arg19 arg20 arg21 arg22 arg23 w2 w3 w4 w5 w6 w7 w8 w9 w10 w11 w12 w13 f0 f2))) = kLn (W.h2 s) := by
    rw [H1, a4, u1, y1]; rfl
  have q0 : arg17.view.read (Elt F) (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.1 = (W.car s).st := by
    unfold runLast
    dsimp only
    rw [g0, g3, g4, g5, e0, e3, e4, e5, View.writes_append]
    exact read_states _ _ _ _ _ _ _ _ _ _ _ _ rfl rfl _ _
  have q2 : arg19.view.read (Elt F) (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.1 = (W.car s).tl := by
    unfold runLast
    dsimp only
    unfold runLast.sl.S2_2
    refine (read_tails arg19.view _ _ _ (runLast.sl.v55 arg2 arg3 arg4 arg5 arg13 arg18 arg19 w2 w3 w4 w5 w13 f2) (runLast.sl.v209 arg2 arg3 arg4 arg5 arg6 arg7 arg8 arg9 arg10 arg11 arg12 arg13 arg17 arg18 arg19 arg20 arg21 arg22 arg23 w2 w3 w4 w5 w6 w7 w8 w9 w10 w11 w12 w13 f0 f2) shapeCasts_S2x8x1024_S1x2x8x1024 shapeCasts_S2x8x1024_S1x2x8x1024 _).trans ?_
    have c0 : (runLast.sl.v55 arg2 arg3 arg4 arg5 arg13 arg18 arg19 w2 w3 w4 w5 w13 f2) = tlOf (W.xt0 s) := by rw [← xt0]; rfl
    have c1 : (runLast.sl.v209 arg2 arg3 arg4 arg5 arg6 arg7 arg8 arg9 arg10 arg11 arg12 arg13 arg17 arg18 arg19 arg20 arg21 arg22 arg23 w2 w3 w4 w5 w6 w7 w8 w9 w10 w11 w12 w13 f0 f2) = tlOf (W.xt1 s) := by rw [← xt1]; rfl
    rw [c0, c1]; rfl
  have q7 : arg24.view.read (Elt F) (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.1 = (W.car s).fa := by
    unfold runLast
    dsimp only
    unfold runLast.sl.S7_1
    refine (read_whole _ _ _ _ _ _).trans ?_
    show k0_pay1 (kLn ((winOf arg2 arg3 arg4 arg5 arg6 arg7 arg8 arg9 arg10 arg11 arg12 arg13 arg14 arg15 w2 w3 w4 w5 w6 w7 w8 w9 w10 w11 w12 w13 w14 w15).lay1.out (runLast.sl.v178 arg2 arg3 arg4 arg5 arg6 arg7 arg8 arg9 arg10 arg11 arg12 arg13 arg17 arg18 arg19 arg20 arg21 arg22 arg23 w2 w3 w4 w5 w6 w7 w8 w9 w10 w11 w12 w13 f0 f2) (W.lay1.y (runLast.sl.v253 arg2 arg3 arg4 arg5 arg6 arg7 arg8 arg9 arg10 arg11 arg12 arg13 arg17 arg18 arg19 arg20 arg21 arg22 arg23 w2 w3 w4 w5 w6 w7 w8 w9 w10 w11 w12 w13 f0 f2) (runLast.sl.v308 arg2 arg3 arg4 arg5 arg6 arg7 arg8 arg9 arg10 arg11 arg12 arg13 arg17 arg18 arg19 arg20 arg21 arg22 arg23 w2 w3 w4 w5 w6 w7 w8 w9 w10 w11 w12 w13 f0 f2)) (kZ (runLast.sl.v197 arg2 arg3 arg4 arg5 arg6 arg7 arg8 arg9 arg10 arg11 arg12 arg13 arg17 arg18 arg19 arg20 arg21 arg22 arg23 w2 w3 w4 w5 w6 w7 w8 w9 w10 w11 w12 w13 f0 f2)))) _ _ _ = _
    rw [H2]
    show k0_pay1 _ _ _ (ld (s := S2x512) ![0, 0] S2x512.size inb_S2x512_S2x512_0_0 (arg24.view.read (Elt F) f7)) = _
    rw [z7]; rfl
  exact ⟨q0, q2, q7⟩

theorem runFirst_out (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole)
  (h1 : isFirst i) (h2 : ¬ k0_cond2 i = 1#1)
  (w2 : Cw (F := F) arg2) (w3 : Cw (F := F) arg3) (w4 : Cw (F := F) arg4) (w5 : Cw (F := F) arg5) (w6 : Cw (F := F) arg6) (w7 : Cw (F := F) arg7) (w8 : Cw (F := F) arg8) (w9 : Cw (F := F) arg9) (w10 : Cw (F := F) arg10) (w11 : Cw (F := F) arg11) (w12 : Cw (F := F) arg12) (w13 : Cw (F := F) arg13) (w14 : Cw (F := F) arg14) (w15 : Cw (F := F) arg15) (w16 : Cw (F := F) arg16)
  (f0 : Cw (F := F) arg17) (f1 : Cw (F := F) arg18) (f2 : Cw (F := F) arg19) (f3 : Cw (F := F) arg20) (f4 : Cw (F := F) arg21) (f5 : Cw (F := F) arg22) (f6 : Cw (F := F) arg23) (f7 : Cw (F := F) arg24) :
    arg17.view.read (Elt F) (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.1 = (Win.car (winOf arg2 arg3 arg4 arg5 arg6 arg7 arg8 arg9 arg10 arg11 arg12 arg13 arg14 arg15 w2 w3 w4 w5 w6 w7 w8 w9 w10 w11 w12 w13 w14 w15) car0).st ∧ arg19.view.read (Elt F) (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.1 = (Win.car (winOf arg2 arg3 arg4 arg5 arg6 arg7 arg8 arg9 arg10 arg11 arg12 arg13 arg14 arg15 w2 w3 w4 w5 w6 w7 w8 w9 w10 w11 w12 w13 w14 w15) car0).tl
      ∧ arg24.view.read (Elt F) (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.1 = (Win.car (winOf arg2 arg3 arg4 arg5 arg6 arg7 arg8 arg9 arg10 arg11 arg12 arg13 arg14 arg15 w2 w3 w4 w5 w6 w7 w8 w9 w10 w11 w12 w13 w14 w15) car0).fa := by
  let W : Win F := winOf arg2 arg3 arg4 arg5 arg6 arg7 arg8 arg9 arg10 arg11 arg12 arg13 arg14 arg15 w2 w3 w4 w5 w6 w7 w8 w9 w10 w11 w12 w13 w14 w15
  let s : Car F := car0
  have z0 : arg17.view.read (Elt F) (arg17.view.writes (Elt F) arg17.view.junk (runFirst.sl.S0_1 )) = s.st := read_whole _ _ _ _ _ _
  have z2 : arg19.view.read (Elt F) (arg19.view.writes (Elt F) arg19.view.junk (runFirst.sl.S2_1 )) = s.tl := read_whole _ _ _ _ _ _
  have z7 : arg24.view.read (Elt F) (arg24.view.writes (Elt F) arg24.view.junk (runFirst.sl.S7_1 )) = s.fa := read_whole _ _ _ _ _ _
  have t0 : (runFirst.sl.v51 arg19) = tailOf 0 inb_S2x2x8x1024_S1x2x8x1024_0_0_0_0 (arg19.view.read (Elt F) (arg19.view.writes (Elt F) arg19.view.junk (runFirst.sl.S2_1 ))) := shapeCast_self (tailOf 0 inb_S2x2x8x1024_S1x2x8x1024_0_0_0_0 (arg19.view.read (Elt F) (arg19.view.writes (Elt F) arg19.view.junk (runFirst.sl.S2_1 )))) shapeCasts_S2x8x1024_S2x8x1024
  have a1 : (runFirst.sl.v24 arg2 arg3 arg4 w2 w3 w4) = W.h0 := rfl
  have a2 : (runFirst.sl.v34 arg2 arg3 arg4 w2 w3 w4) = kRn W.h0 := by rw [← a1]; rfl
  have a3 : (runFirst.sl.v43 arg2 arg3 arg4 arg5 arg13 w2 w3 w4 w5 w13) = W.lay0.xz W.h0 := by
    show k0_pay311 (runFirst.sl.v34 arg2 arg3 arg4 w2 w3 w4) _ _ = _
    rw [a2]; rfl
  have x0 : (runFirst.sl.v54 arg2 arg3 arg4 arg5 arg13 w2 w3 w4 w5 w13) = kXc (W.lay0.xz W.h0) := by
    rw [← a3]; exact shapeCast_self (kXc (runFirst.sl.v43 arg2 arg3 arg4 arg5 arg13 w2 w3 w4 w5 w13)) shapeCasts_S2x256x1024_S2x256x1024
  have xt0 : arg18.view.read (Elt F) (arg18.view.writes (Elt F) arg18.view.junk (runFirst.sl.S1_2 arg2 arg3 arg4 arg5 arg13 arg19 w2 w3 w4 w5 w13)) = W.xt0 s := by
    refine (read_xcat _ _ _ _ _ _ _).trans ?_
    rw [t0, x0, z2]; rfl
  have u0 : (runFirst.sl.v99 arg2 arg3 arg4 arg5 arg6 arg7 arg13 arg18 arg19 w2 w3 w4 w5 w6 w7 w13) = W.lay0.u (W.xt0 s) := by
    rw [← xt0]; rfl
  have b0 : (runFirst.sl.v102 arg2 arg3 arg4 arg5 arg6 arg7 arg8 arg13 arg18 arg19 w2 w3 w4 w5 w6 w7 w8 w13) = W.lay0.dblOf (W.xt0 s) := by
    show W.lay0.dbl (runFirst.sl.v99 arg2 arg3 arg4 arg5 arg6 arg7 arg13 arg18 arg19 w2 w3 w4 w5 w6 w7 w13) = _
    rw [u0]; rfl
  have l0 : (runFirst.sl.v123 arg2 arg3 arg4 arg5 arg6 arg7 arg8 arg9 arg10 arg13 arg18 arg19 w2 w3 w4 w5 w6 w7 w8 w9 w10 w13) = W.lay0.dlOf (W.xt0 s) := by
    show kSoft (W.lay0.dv (runFirst.sl.v102 arg2 arg3 arg4 arg5 arg6 arg7 arg8 arg13 arg18 arg19 w2 w3 w4 w5 w6 w7 w8 w13)) = _
    rw [b0]; rfl
  have m0 : (runFirst.sl.v124 arg2 arg3 arg4 arg5 arg6 arg7 arg8 arg9 arg10 arg13 arg18 arg19 w2 w3 w4 w5 w6 w7 w8 w9 w10 w13) = W.lay0.duOf (W.xt0 s) := by
    show mulf (runFirst.sl.v123 arg2 arg3 arg4 arg5 arg6 arg7 arg8 arg9 arg10 arg13 arg18 arg19 w2 w3 w4 w5 w6 w7 w8 w9 w10 w13) (runFirst.sl.v99 arg2 arg3 arg4 arg5 arg6 arg7 arg13 arg18 arg19 w2 w3 w4 w5 w6 w7 w13) = _
    rw [l0, u0]; rfl
  have e3 : arg20.view.read (Elt F) (arg20.view.writes (Elt F) arg20.view.junk (runFirst.sl.S3_1 arg2 arg3 arg4 arg5 arg6 arg7 arg8 arg9 arg10 arg13 arg18 arg19 w2 w3 w4 w5 w6 w7 w8 w9 w10 w13)) = kSide (W.lay0.dlOf (W.xt0 s)) := by
    refine (read_whole _ _ _ _ _ _).trans ?_
    show kSide (runFirst.sl.v123 arg2 arg3 arg4 arg5 arg6 arg7 arg8 arg9 arg10 arg13 arg18 arg19 w2 w3 w4 w5 w6 w7 w8 w9 w10 w13) = _
    rw [l0]
  have e4 : arg21.view.read (Elt F) (arg21.view.writes (Elt F) arg21.view.junk (runFirst.sl.S4_1 arg2 arg3 arg4 arg5 arg6 arg7 arg8 arg9 arg10 arg13 arg18 arg19 w2 w3 w4 w5 w6 w7 w8 w9 w10 w13)) = kSide (W.lay0.duOf (W.xt0 s)) := by
    refine (read_whole _ _ _ _ _ _).trans ?_
    show kSide (runFirst.sl.v124 arg2 arg3 arg4 arg5 arg6 arg7 arg8 arg9 arg10 arg13 arg18 arg19 w2 w3 w4 w5 w6 w7 w8 w9 w10 w13) = _
    rw [m0]
  have e5 : arg22.view.read (Elt F) (arg22.view.writes (Elt F) arg22.view.junk (runFirst.sl.S5_1 arg2 arg3 arg4 arg5 arg6 arg7 arg8 arg13 arg18 arg19 w2 w3 w4 w5 w6 w7 w8 w13)) = kBc (W.lay0.dblOf (W.xt0 s)) := by
    refine (read_whole _ _ _ _ _ _).trans ?_
    show kBc (runFirst.sl.v102 arg2 arg3 arg4 arg5 arg6 arg7 arg8 arg13 arg18 arg19 w2 w3 w4 w5 w6 w7 w8 w13) = _
    rw [b0]
  have e0 : st0At1 arg17 (arg17.view.writes (Elt F) arg17.view.junk (runFirst.sl.S0_1 )) = W.st0 s := by
    show stOf 0 _ (arg17.view.read (Elt F) _) = _
    rw [z0]; rfl
  have y0 : (runFirst.sl.v154 arg2 arg3 arg4 arg5 arg6 arg7 arg8 arg9 arg10 arg13 arg17 arg18 arg19 arg20 arg21 arg22 arg23 w2 w3 w4 w5 w6 w7 w8 w9 w10 w13) = W.lay0.ysOf (W.xt0 s) (W.st0 s) := by
    unfold runFirst.sl.v154
    rw [e3, e4, e5, e0]
    refine Eq.trans ?_ (read_ys arg23.view (by decide) k0_off3 k0_off3_inb k0_off3_eq _ _ _ _ _ [] inb_S2048x2048_S2048x2048_0_0)
    rw [List.append_nil]; rfl
  have H1 : (runFirst.sl.v178 arg2 arg3 arg4 arg5 arg6 arg7 arg8 arg9 arg10 arg11 arg12 arg13 arg17 arg18 arg19 arg20 arg21 arg22 arg23 w2 w3 w4 w5 w6 w7 w8 w9 w10 w11 w12 w13) = W.h1 s := by
    show W.lay0.out (runFirst.sl.v24 arg2 arg3 arg4 w2 w3 w4) (W.lay0.y (runFirst.sl.v99 arg2 arg3 arg4 arg5 arg6 arg7 arg13 arg18 arg19 w2 w3 w4 w5 w6 w7 w13) (runFirst.sl.v154 arg2 arg3 arg4 arg5 arg6 arg7 arg8 arg9 arg10 arg13 arg17 arg18 arg19 arg20 arg21 arg22 arg23 w2 w3 w4 w5 w6 w7 w8 w9 w10 w13)) (kZ (runFirst.sl.v43 arg2 arg3 arg4 arg5 arg13 w2 w3 w4 w5 w13)) = _
    rw [a1, a3, u0, y0]; rfl
  have t1 : (runFirst.sl.v205 arg2 arg3 arg4 arg5 arg13 arg18 arg19 w2 w3 w4 w5 w13) = tailOf 1 inb_S2x2x8x1024_S1x2x8x1024_1_0_0_0 (arg19.view.read (Elt F) (arg19.view.writes (Elt F) arg19.view.junk (runFirst.sl.S2_1 ))) := by
    refine (shapeCast_self _ _).trans ?_
    exact congrArg (fun x => shapeCast S2x8x1024 x shapeCasts_S1x2x8x1024_S2x8x1024) (read_tail_other arg19.view arg19.view.junk _ _ _ _)
  have a4 : (runFirst.sl.v197 arg2 arg3 arg4 arg5 arg6 arg7 arg8 arg9 arg10 arg11 arg12 arg13 arg17 arg18 arg19 arg20 arg21 arg22 arg23 w2 w3 w4 w5 w6 w7 w8 w9 w10 w11 w12 w13) = W.lay1.xz (W.h1 s) := by
    rw [← H1]; rfl
  have x1 : (runFirst.sl.v208 arg2 arg3 arg4 arg5 arg6 arg7 arg8 arg9 arg10 arg11 arg12 arg13 arg17 arg18 arg19 arg20 arg21 arg22 arg23 w2 w3 w4 w5 w6 w7 w8 w9 w10 w11 w12 w13) = kXc (W.lay1.xz (W.h1 s)) := by
    rw [← a4]; exact shapeCast_self (kXc (runFirst.sl.v197 arg2 arg3 arg4 arg5 arg6 arg7 arg8 arg9 arg10 arg11 arg12 arg13 arg17 arg18 arg19 arg20 arg21 arg22 arg23 w2 w3 w4 w5 w6 w7 w8 w9 w10 w11 w12 w13)) shapeCasts_S2x256x1024_S2x256x1024
  have xt1 : arg18.view.read (Elt F) (arg18.view.writes (Elt F) arg18.view.junk (runFirst.sl.S1_4 arg2 arg3 arg4 arg5 arg6 arg7 arg8 arg9 arg10 arg11 arg12 arg13 arg17 arg18 arg19 arg20 arg21 arg22 arg23 w2 w3 w4 w5 w6 w7 w8 w9 w10 w11 w12 w13)) = W.xt1 s := by
    refine (read_xcat _ _ _ _ _ _ _).trans ?_
    rw [t1, x1, z2]; rfl
  have u1 : (runFirst.sl.v253 arg2 arg3 arg4 arg5 arg6 arg7 arg8 arg9 arg10 arg11 arg12 arg13 arg17 arg18 arg19 arg20 arg21 arg22 arg23 w2 w3 w4 w5 w6 w7 w8 w9 w10 w11 w12 w13) = W.lay1.u (W.xt1 s) := by
    rw [← xt1]; rfl
  have b1 : (runFirst.sl.v256 arg2 arg3 arg4 arg5 arg6 arg7 arg8 arg9 arg10 arg11 arg12 arg13 arg17 arg18 arg19 arg20 arg21 arg22 arg23 w2 w3 w4 w5 w6 w7 w8 w9 w10 w11 w12 w13) = W.lay1.dblOf (W.xt1 s) := by
    show W.lay1.dbl (runFirst.sl.v253 arg2 arg3 arg4 arg5 arg6 arg7 arg8 arg9 arg10 arg11 arg12 arg13 arg17 arg18 arg19 arg20 arg21 arg22 arg23 w2 w3 w4 w5 w6 w7 w8 w9 w10 w11 w12 w13) = _
    rw [u1]; rfl
  have l1 : kSoft (runFirst.sl.v267 arg2 arg3 arg4 arg5 arg6 arg7 arg8 arg9 arg10 arg11 arg12 arg13 arg17 arg18 arg19 arg20 arg21 arg22 arg23 w2 w3 w4 w5 w6 w7 w8 w9 w10 w11 w12 w13) = W.lay1.dlOf (W.xt1 s) := by
    show kSoft (W.lay1.dv (runFirst.sl.v256 arg2 arg3 arg4 arg5 arg6 arg7 arg8 arg9 arg10 arg11 arg12 arg13 arg17 arg18 arg19 arg20 arg21 arg22 arg23 w2 w3 w4 w5 w6 w7 w8 w9 w10 w11 w12 w13)) = _
    rw [b1]; rfl
  have g3 : arg20.view.read (Elt F) (arg20.view.writes (Elt F) arg20.view.junk (⟨Rect.unit ![0, 0] S256x2048.size inb_S256x2048_S256x2048_0_0, k0_pay349 (runFirst.sl.v267 arg2 arg3 arg4 arg5 arg6 arg7 arg8 arg9 arg10 arg11 arg12 arg13 arg17 arg18 arg19 arg20 arg21 arg22 arg23 w2 w3 w4 w5 w6 w7 w8 w9 w10 w11 w12 w13) (runFirst.sl.v268 )⟩ :: (runFirst.sl.S3_1 arg2 arg3 arg4 arg5 arg6 arg7 arg8 arg9 arg10 arg13 arg18 arg19 w2 w3 w4 w5 w6 w7 w8 w9 w10 w13))) = kSide (W.lay1.dlOf (W.xt1 s)) := by
    refine (read_whole _ _ _ _ _ _).trans ?_
    show kSide (kSoft (runFirst.sl.v267 arg2 arg3 arg4 arg5 arg6 arg7 arg8 arg9 arg10 arg11 arg12 arg13 arg17 arg18 arg19 arg20 arg21 arg22 arg23 w2 w3 w4 w5 w6 w7 w8 w9 w10 w11 w12 w13)) = _
    rw [l1]
  have g4 : arg21.view.read (Elt F) (arg21.view.writes (Elt F) arg21.view.junk (⟨Rect.unit ![0, 0] S256x2048.size inb_S256x2048_S256x2048_0_0, k0_pay350 (runFirst.sl.v253 arg2 arg3 arg4 arg5 arg6 arg7 arg8 arg9 arg10 arg11 arg12 arg13 arg17 arg18 arg19 arg20 arg21 arg22 arg23 w2 w3 w4 w5 w6 w7 w8 w9 w10 w11 w12 w13) (runFirst.sl.v267 arg2 arg3 arg4 arg5 arg6 arg7 arg8 arg9 arg10 arg11 arg12 arg13 arg17 arg18 arg19 arg20 arg21 arg22 arg23 w2 w3 w4 w5 w6 w7 w8 w9 w10 w11 w12 w13) (runFirst.sl.v268 )⟩ :: (runFirst.sl.S4_1 arg2 arg3 arg4 arg5 arg6 arg7 arg8 arg9 arg10 arg13 arg18 arg19 w2 w3 w4 w5 w6 w7 w8 w9 w10 w13))) = kSide (W.lay1.duOf (W.xt1 s)) := by
    refine (read_whole _ _ _ _ _ _).trans ?_
    show kSide (mulf (kSoft (runFirst.sl.v267 arg2 arg3 arg4 arg5 arg6 arg7 arg8 arg9 arg10 arg11 arg12 arg13 arg17 arg18 arg19 arg20 arg21 arg22 arg23 w2 w3 w4 w5 w6 w7 w8 w9 w10 w11 w12 w13)) (runFirst.sl.v253 arg2 arg3 arg4 arg5 arg6 arg7 arg8 arg9 arg10 arg11 arg12 arg13 arg17 arg18 arg19 arg20 arg21 arg22 arg23 w2 w3 w4 w5 w6 w7 w8 w9 w10 w11 w12 w13)) = _
    rw [l1, u1]; rfl
  have g5 : arg22.view.read (Elt F) (arg22.view.writes (Elt F) arg22.view.junk (⟨Rect.unit ![0, 0] S256x256.size inb_S256x256_S256x256_0_0, k0_pay351 (runFirst.sl.v258 arg2 arg3 arg4 arg5 arg6 arg7 arg8 arg9 arg10 arg11 arg12 arg13 arg17 arg18 arg19 arg20 arg21 arg22 arg23 w2 w3 w4 w5 w6 w7 w8 w9 w10 w11 w12 w13) (runFirst.sl.v259 arg2 arg3 arg4 arg5 arg6 arg7 arg8 arg9 arg10 arg11 arg12 arg13 arg17 arg18 arg19 arg20 arg21 arg22 arg23 w2 w3 w4 w5 w6 w7 w8 w9 w10 w11 w12 w13)⟩ :: (runFirst.sl.S5_1 arg2 arg3 arg4 arg5 arg6 arg7 arg8 arg13 arg18 arg19 w2 w3 w4 w5 w6 w7 w8 w13))) = kBc (W.lay1.dblOf (W.xt1 s)) := by
    refine (read_whole _ _ _ _ _ _).trans ?_
    show kBc (runFirst.sl.v256 arg2 arg3 arg4 arg5 arg6 arg7 arg8 arg9 arg10 arg11 arg12 arg13 arg17 arg18 arg19 arg20 arg21 arg22 arg23 w2 w3 w4 w5 w6 w7 w8 w9 w10 w11 w12 w13) = _
    rw [b1]
  have g0 : st0At2 arg17 (arg17.view.writes (Elt F) arg17.view.junk (stPieces 0 inb_S2x64x2048_S1x64x2048_0_0_0 k0_pay328 (arg20.view.read (Elt F) (arg20.view.writes (Elt F) arg20.view.junk (runFirst.sl.S3_1 arg2 arg3 arg4 arg5 arg6 arg7 arg8 arg9 arg10 arg13 arg18 arg19 w2 w3 w4 w5 w6 w7 w8 w9 w10 w13))) (arg21.view.read (Elt F) (arg21.view.writes (Elt F) arg21.view.junk (runFirst.sl.S4_1 arg2 arg3 arg4 arg5 arg6 arg7 arg8 arg9 arg10 arg13 arg18 arg19 w2 w3 w4 w5 w6 w7 w8 w9 w10 w13))) (arg22.view.read (Elt F) (arg22.view.writes (Elt F) arg22.view.junk (runFirst.sl.S5_1 arg2 arg3 arg4 arg5 arg6 arg7 arg8 arg13 arg18 arg19 w2 w3 w4 w5 w6 w7 w8 w13))) (st0At1 arg17 (arg17.view.writes (Elt F) arg17.view.junk (runFirst.sl.S0_1 ))) (Scf.trips k0_t1_loop.lb k0_t1_loop.ub k0_t1_loop.st) ++ (runFirst.sl.S0_1 ))) = W.st1 s := by
    rw [View.writes_append]; show stOf 1 inb_S2x64x2048_S1x64x2048_1_0_0 (arg17.view.read (Elt F) _) = _
    rw [stOf_other, z0]; rfl
  have y1 : (runFirst.sl.v308 arg2 arg3 arg4 arg5 arg6 arg7 arg8 arg9 arg10 arg11 arg12 arg13 arg17 arg18 arg19 arg20 arg21 arg22 arg23 w2 w3 w4 w5 w6 w7 w8 w9 w10 w11 w12 w13) = W.lay1.ysOf (W.xt1 s) (W.st1 s) := by
    unfold runFirst.sl.v308
    rw [g3, g4, g5, g0]
    exact read_ys arg23.view (by decide) k0_off6 k0_off6_inb k0_off6_eq _ _ _ _ _ _ inb_S2048x2048_S2048x2048_0_0
  have H2 : kLn ((winOf arg2 arg3 arg4 arg5 arg6 arg7 arg8 arg9 arg10 arg11 arg12 arg13 arg14 arg15 w2 w3 w4 w5 w6 w7 w8 w9 w10 w11 w12 w13 w14 w15).lay1.out (runFirst.sl.v178 arg2 arg3 arg4 arg5 arg6 arg7 arg8 arg9 arg10 arg11 arg12 arg13 arg17 arg18 arg19 arg20 arg21 arg22 arg23 w2 w3 w4 w5 w6 w7 w8 w9 w10 w11 w12 w13) (W.lay1.y (runFirst.sl.v253 arg2 arg3 arg4 arg5 arg6 arg7 arg8 arg9 arg10 arg11 arg12 arg13 arg17 arg18 arg19 arg20 arg21 arg22 arg23 w2 w3 w4 w5 w6 w7 w8 w9 w10 w11 w12 w13) (runFirst.sl.v308 arg2 arg3 arg4 arg5 arg6 arg7 arg8 arg9 arg10 arg11 arg12 arg13 arg17 arg18 arg19 arg20 arg21 arg22 arg23 w2 w3 w4 w5 w6 w7 w8 w9 w10 w11 w12 w13)) (kZ (runFirst.sl.v197 arg2 arg3 arg4 arg5 arg6 arg7 arg8 arg9 arg10 arg11 arg12 arg13 arg17 arg18 arg19 arg20 arg21 arg22 arg23 w2 w3 w4 w5 w6 w7 w8 w9 w10 w11 w12 w13))) = kLn (W.h2 s) := by
    rw [H1, a4, u1, y1]; rfl
  have q0 : arg17.view.read (Elt F) (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.1 = (W.car s).st := by
    unfold runFirst
    dsimp only
    rw [g0, g3, g4, g5, e0, e3, e4, e5, ← List.append_assoc, View.writes_append, View.writes_append]
    exact read_states _ _ _ _ _ _ _ _ _ _ _ _ (by rw [z0]; rfl) (by rw [z0]; rfl) _ _
  have q2 : arg19.view.read (Elt F) (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.1 = (W.car s).tl := by
    unfold runFirst
    dsimp only

    refine (read_tails arg19.view _ _ _ (runFirst.sl.v55 arg2 arg3 arg4 arg5 arg13 arg18 arg19 w2 w3 w4 w5 w13) (runFirst.sl.v209 arg2 arg3 arg4 arg5 arg6 arg7 arg8 arg9 arg10 arg11 arg12 arg13 arg17 arg18 arg19 arg20 arg21 arg22 arg23 w2 w3 w4 w5 w6 w7 w8 w9 w10 w11 w12 w13) shapeCasts_S2x8x1024_S1x2x8x1024 shapeCasts_S2x8x1024_S1x2x8x1024 _).trans ?_
    have c0 : (runFirst.sl.v55 arg2 arg3 arg4 arg5 arg13 arg18 arg19 w2 w3 w4 w5 w13) = tlOf (W.xt0 s) := by rw [← xt0]; rfl
    have c1 : (runFirst.sl.v209 arg2 arg3 arg4 arg5 arg6 arg7 arg8 arg9 arg10 arg11 arg12 arg13 arg17 arg18 arg19 arg20 arg21 arg22 arg23 w2 w3 w4 w5 w6 w7 w8 w9 w10 w11 w12 w13) = tlOf (W.xt1 s) := by rw [← xt1]; rfl
    rw [c0, c1]; rfl
  have q7 : arg24.view.read (Elt F) (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.1 = (W.car s).fa := by
    unfold runFirst
    dsimp only

    refine (read_whole _ _ _ _ _ _).trans ?_
    show k0_pay1 (kLn ((winOf arg2 arg3 arg4 arg5 arg6 arg7 arg8 arg9 arg10 arg11 arg12 arg13 arg14 arg15 w2 w3 w4 w5 w6 w7 w8 w9 w10 w11 w12 w13 w14 w15).lay1.out (runFirst.sl.v178 arg2 arg3 arg4 arg5 arg6 arg7 arg8 arg9 arg10 arg11 arg12 arg13 arg17 arg18 arg19 arg20 arg21 arg22 arg23 w2 w3 w4 w5 w6 w7 w8 w9 w10 w11 w12 w13) (W.lay1.y (runFirst.sl.v253 arg2 arg3 arg4 arg5 arg6 arg7 arg8 arg9 arg10 arg11 arg12 arg13 arg17 arg18 arg19 arg20 arg21 arg22 arg23 w2 w3 w4 w5 w6 w7 w8 w9 w10 w11 w12 w13) (runFirst.sl.v308 arg2 arg3 arg4 arg5 arg6 arg7 arg8 arg9 arg10 arg11 arg12 arg13 arg17 arg18 arg19 arg20 arg21 arg22 arg23 w2 w3 w4 w5 w6 w7 w8 w9 w10 w11 w12 w13)) (kZ (runFirst.sl.v197 arg2 arg3 arg4 arg5 arg6 arg7 arg8 arg9 arg10 arg11 arg12 arg13 arg17 arg18 arg19 arg20 arg21 arg22 arg23 w2 w3 w4 w5 w6 w7 w8 w9 w10 w11 w12 w13)))) _ _ _ = _
    rw [H2]
    show k0_pay1 _ _ _ (ld (s := S2x512) ![0, 0] S2x512.size inb_S2x512_S2x512_0_0 (arg24.view.read (Elt F) (arg24.view.writes (Elt F) arg24.view.junk (runFirst.sl.S7_1 )))) = _
    rw [z7]; rfl
  exact ⟨q0, q2, q7⟩

end Cert.Proof.KI

end
-- ==== Proof.Owns.lean ====
/-
  The kernel's body at a first, an inner and a last chunk, stated over what the windows and the carried buffers hold.
-/
module

public import proofs.«01_k».proof.Proof.ChunkRun

@[expose] public section

set_option maxRecDepth 16384
set_option maxHeartbeats 4000000

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄G" => MT nD τ sig Unit (Elt F) ℕ (UR sig nD τ) ℕ

/-- A triple, with the rest of what is held carried to the postcondition by a wand. -/
theorem wp_wand_of {c : Dev nD} {E : Set ℕ} {p : Prog (TpuEff nD τ sig (Elt F) Λ₀ .tc) PUnit} {P : sProp 𝕄G} {Q Q' : PUnit → sProp 𝕄G}
    (h : P ⊢ wp frame (wpE (defs₀ (F := F)) Variants.none (c : Thread nD τ) none) E p Q) :
    iprop(P ∗ (∀ a, Q a -∗ Q' a)) ⊢ wp frame (wpE (defs₀ (F := F)) Variants.none (c : Thread nD τ) none) E p Q' :=
  (BI.sep_mono_l h).trans (wp_wand_r _ _ _)

/-- A whole buffer stored and loaded again. -/
theorem cov_ld {sp : Space} {κ : Kind} (v : View sig κ sp S2x512 .f32) (f : BufTy.Contents (Elt F) v.ty)
    (inb : ∀ a, ![0, 0] a + S2x512.size a ≤ S2x512.size a) (inb' : ∀ a, ![0, 0] a + S2x512.size a ≤ S2x512.size a) (w : S2x512.Idx → Elt F .f32) :
    v.readCov [⟨Rect.unit ![0, 0] S2x512.size inb, w⟩] (Rect.unit ![0, 0] S2x512.size inb').toLoadRect
      = ld (s := S2x512) ![0, 0] S2x512.size inb' (v.read (Elt F) (v.writes (Elt F) f [⟨Rect.unit ![0, 0] S2x512.size inb, w⟩])) := by
  unfold View.readCov
  rw [read_whole]
  show (fun j => v.read (Elt F) (v.writes (Elt F) v.junk [⟨Rect.unit ![0, 0] S2x512.size inb, w⟩]) _) = _
  rw [read_whole]
  rfl

/-- What the last chunk leaves in the output block: the accumulated sum, scaled. -/
theorem runLast_out16 (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole)
    (h1 : ¬ isFirst i) (h2 : k0_cond2 i = 1#1) (w2 : Cw (F := F) arg2) (w3 : Cw (F := F) arg3) (w4 : Cw (F := F) arg4) (w5 : Cw (F := F) arg5) (w6 : Cw (F := F) arg6) (w7 : Cw (F := F) arg7) (w8 : Cw (F := F) arg8) (w9 : Cw (F := F) arg9) (w10 : Cw (F := F) arg10) (w11 : Cw (F := F) arg11) (w12 : Cw (F := F) arg12) (w13 : Cw (F := F) arg13) (w14 : Cw (F := F) arg14) (w15 : Cw (F := F) arg15) (w16 : Cw (F := F) arg16) (f0 : Cw (F := F) arg17) (f1 : Cw (F := F) arg18) (f2 : Cw (F := F) arg19) (f3 : Cw (F := F) arg20) (f4 : Cw (F := F) arg21) (f5 : Cw (F := F) arg22) (f6 : Cw (F := F) arg23) (f7 : Cw (F := F) arg24) :
    arg16.view.read (Elt F) (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).1
      = k0_pay2 (ld (s := S2x512) ![0, 0] S2x512.size inb_S2x512_S2x512_0_0 (arg24.view.read (Elt F) (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.1)) := by
  unfold runLast
  dsimp only
  refine (read_whole _ _ _ _ _ _).trans ?_
  unfold runLast.sl.v376 runLast.sl.S7_1
  exact congrArg k0_pay2 (cov_ld _ _ _ _ _)

/-- The output block of an expert, from what its last chunk leaves. -/
def outOf (s : Car F) : FVec F S1x2x512 .f32 := k0_pay2 (ld (s := S2x512) ![0, 0] S2x512.size inb_S2x512_S2x512_0_0 s.fa)

/-- What the body leaves at a first chunk, and that it runs to it. -/
theorem exFirst (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole)
    (h1 : isFirst i) (h2 : ¬ k0_cond2 i = 1#1) (w2 : Cw (F := F) arg2) (w3 : Cw (F := F) arg3) (w4 : Cw (F := F) arg4) (w5 : Cw (F := F) arg5) (w6 : Cw (F := F) arg6) (w7 : Cw (F := F) arg7) (w8 : Cw (F := F) arg8) (w9 : Cw (F := F) arg9) (w10 : Cw (F := F) arg10) (w11 : Cw (F := F) arg11) (w12 : Cw (F := F) arg12) (w13 : Cw (F := F) arg13) (w14 : Cw (F := F) arg14) (w15 : Cw (F := F) arg15) (w16 : Cw (F := F) arg16) (f0 : Cw (F := F) arg17) (f1 : Cw (F := F) arg18) (f2 : Cw (F := F) arg19) (f3 : Cw (F := F) arg20) (f4 : Cw (F := F) arg21) (f5 : Cw (F := F) arg22) (f6 : Cw (F := F) arg23) (f7 : Cw (F := F) arg24) :
    ∃ (g16 : Cw (F := F) arg16) (g0 : Cw (F := F) arg17) (g2 : Cw (F := F) arg19) (g7 : Cw (F := F) arg24),
      (arg16.view.read (Elt F) g16 = arg16.view.read (Elt F) w16 ∧ arg17.view.read (Elt F) g0 = ((winOf arg2 arg3 arg4 arg5 arg6 arg7 arg8 arg9 arg10 arg11 arg12 arg13 arg14 arg15 w2 w3 w4 w5 w6 w7 w8 w9 w10 w11 w12 w13 w14 w15).car (car0)).st ∧ arg19.view.read (Elt F) g2 = ((winOf arg2 arg3 arg4 arg5 arg6 arg7 arg8 arg9 arg10 arg11 arg12 arg13 arg14 arg15 w2 w3 w4 w5 w6 w7 w8 w9 w10 w11 w12 w13 w14 w15).car (car0)).tl ∧ arg24.view.read (Elt F) g7 = ((winOf arg2 arg3 arg4 arg5 arg6 arg7 arg8 arg9 arg10 arg11 arg12 arg13 arg14 arg15 w2 w3 w4 w5 w6 w7 w8 w9 w10 w11 w12 w13 w14 w15).car (car0)).fa) ∧
      ∀ E : Set ℕ, iprop(pw c arg2 w2 ∗ pw c arg3 w3 ∗ pw c arg4 w4 ∗ pw c arg5 w5 ∗ pw c arg6 w6 ∗ pw c arg7 w7 ∗ pw c arg8 w8 ∗ pw c arg9 w9 ∗ pw c arg10 w10 ∗ pw c arg11 w11 ∗ pw c arg12 w12 ∗ pw c arg13 w13 ∗ pw c arg14 w14 ∗ pw c arg15 w15 ∗ pw c arg16 w16 ∗ pw c arg17 f0 ∗ pw c arg18 f1 ∗ pw c arg19 f2 ∗ pw c arg20 f3 ∗ pw c arg21 f4 ∗ pw c arg22 f5 ∗ pw c arg23 f6 ∗ pw c arg24 f7)
      ⊢ wp frame (wpE (defs₀ (F := F)) Variants.none (c : Thread nD τ) none) E (cc0__expert_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
          (fun _ => iprop(pw c arg2 w2 ∗ pw c arg3 w3 ∗ pw c arg4 w4 ∗ pw c arg5 w5 ∗ pw c arg6 w6 ∗ pw c arg7 w7 ∗ pw c arg8 w8 ∗ pw c arg9 w9 ∗ pw c arg10 w10 ∗ pw c arg11 w11 ∗ pw c arg12 w12 ∗ pw c arg13 w13 ∗ pw c arg14 w14 ∗ pw c arg15 w15 ∗ pw c arg16 g16 ∗ pw c arg17 g0 ∗ pw c arg19 g2 ∗ pw c arg24 g7 ∗ (∃ f, pw c arg18 f) ∗ (∃ f, pw c arg20 f) ∗ (∃ f, pw c arg21 f) ∗ (∃ f, pw c arg22 f) ∗ (∃ f, pw c arg23 f))) := by
  have H := runFirst_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7
  exact ⟨(runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).1, (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.1, (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.1, (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.1, ⟨rfl, H.1, H.2.1, H.2.2⟩, (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.2⟩

/-- The body at a first chunk. -/
theorem bodyFirst (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole)
    (h1 : isFirst i) (h2 : ¬ k0_cond2 i = 1#1) (X2 : Vec F S1x2x256x1024 .f32) (X3 : Vec F S1x1024x512 .bf16) (X4 : Vec F S1x1x512 .f32) (X5 : Vec F S1x2x512x2048 .bf16) (X6 : Vec F S1x2x4x1024 .f32) (X7 : Vec F S1x2x1024 .f32) (X8 : Vec F S1x2x1024x160 .f32) (X9 : Vec F S1x2x32x1024 .f32) (X10 : Vec F S1x2x1024 .f32) (X11 : Vec F S1x2x1024 .f32) (X12 : Vec F S1x2x1024x512 .bf16) (X13 : Vec F S1x2x512 .f32) (X14 : Vec F S1x512 .f32) (X15 : Vec F S1x512 .f32) (X16 : Vec F S1x2x512 .f32) (st : Vec F S2x64x2048 .f32) (tl : Vec F S2x2x8x1024 .f32) (fa : Vec F S2x512 .f32) (S : Car F) (hS : S = (Win.car (Win.mk X2 X3 X4 X5 X6 X7 X8 X9 X10 X11 X12 X13 X14 X15) car0)) (E : Set ℕ) :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare st ∗ (∃ X, owns (c : Thread nD τ) arg18 fullShare X) ∗ owns (c : Thread nD τ) arg19 fullShare tl ∗ (∃ X, owns (c : Thread nD τ) arg20 fullShare X) ∗ (∃ X, owns (c : Thread nD τ) arg21 fullShare X) ∗ (∃ X, owns (c : Thread nD τ) arg22 fullShare X) ∗ (∃ X, owns (c : Thread nD τ) arg23 fullShare X) ∗ owns (c : Thread nD τ) arg24 fullShare fa) : sProp 𝕄G)
      ⊢ wp frame (wpE (defs₀ (F := F)) Variants.none (c : Thread nD τ) none) E (cc0__expert_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
          (fun _ => iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare S.st ∗ (∃ X, owns (c : Thread nD τ) arg18 fullShare X) ∗ owns (c : Thread nD τ) arg19 fullShare S.tl ∗ (∃ X, owns (c : Thread nD τ) arg20 fullShare X) ∗ (∃ X, owns (c : Thread nD τ) arg21 fullShare X) ∗ (∃ X, owns (c : Thread nD τ) arg22 fullShare X) ∗ (∃ X, owns (c : Thread nD τ) arg23 fullShare X) ∗ owns (c : Thread nD τ) arg24 fullShare S.fa)) := by
  subst hS
  unfold owns
  iintro ⟨⟨%w2, %e2, H2⟩, ⟨%w3, %e3, H3⟩, ⟨%w4, %e4, H4⟩, ⟨%w5, %e5, H5⟩, ⟨%w6, %e6, H6⟩, ⟨%w7, %e7, H7⟩, ⟨%w8, %e8, H8⟩, ⟨%w9, %e9, H9⟩, ⟨%w10, %e10, H10⟩, ⟨%w11, %e11, H11⟩, ⟨%w12, %e12, H12⟩, ⟨%w13, %e13, H13⟩, ⟨%w14, %e14, H14⟩, ⟨%w15, %e15, H15⟩, ⟨%w16, %e16, H16⟩, ⟨%f0, %g0, S0⟩, ⟨%Y1, %f1, %g1, S1⟩, ⟨%f2, %g2, S2⟩, ⟨%Y3, %f3, %g3, S3⟩, ⟨%Y4, %f4, %g4, S4⟩, ⟨%Y5, %f5, %g5, S5⟩, ⟨%Y6, %f6, %g6, S6⟩, ⟨%f7, %g7, S7⟩⟩
  obtain ⟨g16, g17, g19, g24, ⟨q16, q0, q2, q7⟩, R⟩ := exFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7
  subst e2 e3 e4 e5 e6 e7 e8 e9 e10 e11 e12 e13 e14 e15 e16 g0 g2 g7
  iapply (wp_wand_of (R E))
  isplitl [H2 H3 H4 H5 H6 H7 H8 H9 H10 H11 H12 H13 H14 H15 H16 S0 S1 S2 S3 S4 S5 S6 S7]
  · isplitl [H2]; (· iexact H2); isplitl [H3]; (· iexact H3); isplitl [H4]; (· iexact H4); isplitl [H5]; (· iexact H5); isplitl [H6]; (· iexact H6); isplitl [H7]; (· iexact H7); isplitl [H8]; (· iexact H8); isplitl [H9]; (· iexact H9); isplitl [H10]; (· iexact H10); isplitl [H11]; (· iexact H11); isplitl [H12]; (· iexact H12); isplitl [H13]; (· iexact H13); isplitl [H14]; (· iexact H14); isplitl [H15]; (· iexact H15); isplitl [H16]; (· iexact H16); isplitl [S0]; (· iexact S0); isplitl [S1]; (· iexact S1); isplitl [S2]; (· iexact S2); isplitl [S3]; (· iexact S3); isplitl [S4]; (· iexact S4); isplitl [S5]; (· iexact S5); isplitl [S6]; (· iexact S6); iexact S7
  iintro %_ ⟨H2, H3, H4, H5, H6, H7, H8, H9, H10, H11, H12, H13, H14, H15, H16, S0, S2, S7, ⟨%y1, S1⟩, ⟨%y3, S3⟩, ⟨%y4, S4⟩, ⟨%y5, S5⟩, ⟨%y6, S6⟩⟩
  isplitl [H2]; · iexists w2; isplitr; (· ipureintro; rfl); iexact H2
  isplitl [H3]; · iexists w3; isplitr; (· ipureintro; rfl); iexact H3
  isplitl [H4]; · iexists w4; isplitr; (· ipureintro; rfl); iexact H4
  isplitl [H5]; · iexists w5; isplitr; (· ipureintro; rfl); iexact H5
  isplitl [H6]; · iexists w6; isplitr; (· ipureintro; rfl); iexact H6
  isplitl [H7]; · iexists w7; isplitr; (· ipureintro; rfl); iexact H7
  isplitl [H8]; · iexists w8; isplitr; (· ipureintro; rfl); iexact H8
  isplitl [H9]; · iexists w9; isplitr; (· ipureintro; rfl); iexact H9
  isplitl [H10]; · iexists w10; isplitr; (· ipureintro; rfl); iexact H10
  isplitl [H11]; · iexists w11; isplitr; (· ipureintro; rfl); iexact H11
  isplitl [H12]; · iexists w12; isplitr; (· ipureintro; rfl); iexact H12
  isplitl [H13]; · iexists w13; isplitr; (· ipureintro; rfl); iexact H13
  isplitl [H14]; · iexists w14; isplitr; (· ipureintro; rfl); iexact H14
  isplitl [H15]; · iexists w15; isplitr; (· ipureintro; rfl); iexact H15
  isplitl [H16]; · iexists g16; isplitr; (· ipureintro; exact q16); iexact H16
  isplitl [S0]; · iexists g17; isplitr; (· ipureintro; exact q0); iexact S0
  isplitl [S1]; · iexists _; iexists y1; isplitr; (· ipureintro; rfl); iexact S1
  isplitl [S2]; · iexists g19; isplitr; (· ipureintro; exact q2); iexact S2
  isplitl [S3]; · iexists _; iexists y3; isplitr; (· ipureintro; rfl); iexact S3
  isplitl [S4]; · iexists _; iexists y4; isplitr; (· ipureintro; rfl); iexact S4
  isplitl [S5]; · iexists _; iexists y5; isplitr; (· ipureintro; rfl); iexact S5
  isplitl [S6]; · iexists _; iexists y6; isplitr; (· ipureintro; rfl); iexact S6
  iexists g24; isplitr; (· ipureintro; exact q7); iexact S7

/-- What the body leaves at an inner chunk, and that it runs to it. -/
theorem exMid (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole)
    (h1 : ¬ isFirst i) (h2 : ¬ k0_cond2 i = 1#1) (w2 : Cw (F := F) arg2) (w3 : Cw (F := F) arg3) (w4 : Cw (F := F) arg4) (w5 : Cw (F := F) arg5) (w6 : Cw (F := F) arg6) (w7 : Cw (F := F) arg7) (w8 : Cw (F := F) arg8) (w9 : Cw (F := F) arg9) (w10 : Cw (F := F) arg10) (w11 : Cw (F := F) arg11) (w12 : Cw (F := F) arg12) (w13 : Cw (F := F) arg13) (w14 : Cw (F := F) arg14) (w15 : Cw (F := F) arg15) (w16 : Cw (F := F) arg16) (f0 : Cw (F := F) arg17) (f1 : Cw (F := F) arg18) (f2 : Cw (F := F) arg19) (f3 : Cw (F := F) arg20) (f4 : Cw (F := F) arg21) (f5 : Cw (F := F) arg22) (f6 : Cw (F := F) arg23) (f7 : Cw (F := F) arg24) :
    ∃ (g16 : Cw (F := F) arg16) (g0 : Cw (F := F) arg17) (g2 : Cw (F := F) arg19) (g7 : Cw (F := F) arg24),
      (arg16.view.read (Elt F) g16 = arg16.view.read (Elt F) w16 ∧ arg17.view.read (Elt F) g0 = ((winOf arg2 arg3 arg4 arg5 arg6 arg7 arg8 arg9 arg10 arg11 arg12 arg13 arg14 arg15 w2 w3 w4 w5 w6 w7 w8 w9 w10 w11 w12 w13 w14 w15).car (carOf arg17 arg19 arg24 f0 f2 f7)).st ∧ arg19.view.read (Elt F) g2 = ((winOf arg2 arg3 arg4 arg5 arg6 arg7 arg8 arg9 arg10 arg11 arg12 arg13 arg14 arg15 w2 w3 w4 w5 w6 w7 w8 w9 w10 w11 w12 w13 w14 w15).car (carOf arg17 arg19 arg24 f0 f2 f7)).tl ∧ arg24.view.read (Elt F) g7 = ((winOf arg2 arg3 arg4 arg5 arg6 arg7 arg8 arg9 arg10 arg11 arg12 arg13 arg14 arg15 w2 w3 w4 w5 w6 w7 w8 w9 w10 w11 w12 w13 w14 w15).car (carOf arg17 arg19 arg24 f0 f2 f7)).fa) ∧
      ∀ E : Set ℕ, iprop(pw c arg2 w2 ∗ pw c arg3 w3 ∗ pw c arg4 w4 ∗ pw c arg5 w5 ∗ pw c arg6 w6 ∗ pw c arg7 w7 ∗ pw c arg8 w8 ∗ pw c arg9 w9 ∗ pw c arg10 w10 ∗ pw c arg11 w11 ∗ pw c arg12 w12 ∗ pw c arg13 w13 ∗ pw c arg14 w14 ∗ pw c arg15 w15 ∗ pw c arg16 w16 ∗ pw c arg17 f0 ∗ pw c arg18 f1 ∗ pw c arg19 f2 ∗ pw c arg20 f3 ∗ pw c arg21 f4 ∗ pw c arg22 f5 ∗ pw c arg23 f6 ∗ pw c arg24 f7)
      ⊢ wp frame (wpE (defs₀ (F := F)) Variants.none (c : Thread nD τ) none) E (cc0__expert_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
          (fun _ => iprop(pw c arg2 w2 ∗ pw c arg3 w3 ∗ pw c arg4 w4 ∗ pw c arg5 w5 ∗ pw c arg6 w6 ∗ pw c arg7 w7 ∗ pw c arg8 w8 ∗ pw c arg9 w9 ∗ pw c arg10 w10 ∗ pw c arg11 w11 ∗ pw c arg12 w12 ∗ pw c arg13 w13 ∗ pw c arg14 w14 ∗ pw c arg15 w15 ∗ pw c arg16 g16 ∗ pw c arg17 g0 ∗ pw c arg19 g2 ∗ pw c arg24 g7 ∗ (∃ f, pw c arg18 f) ∗ (∃ f, pw c arg20 f) ∗ (∃ f, pw c arg21 f) ∗ (∃ f, pw c arg22 f) ∗ (∃ f, pw c arg23 f))) := by
  have H := runMid_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7
  exact ⟨(runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).1, (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.1, (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.1, (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.1, ⟨rfl, H.1, H.2.1, H.2.2⟩, (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.2⟩

/-- The body at an inner chunk. -/
theorem bodyMid (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole)
    (h1 : ¬ isFirst i) (h2 : ¬ k0_cond2 i = 1#1) (X2 : Vec F S1x2x256x1024 .f32) (X3 : Vec F S1x1024x512 .bf16) (X4 : Vec F S1x1x512 .f32) (X5 : Vec F S1x2x512x2048 .bf16) (X6 : Vec F S1x2x4x1024 .f32) (X7 : Vec F S1x2x1024 .f32) (X8 : Vec F S1x2x1024x160 .f32) (X9 : Vec F S1x2x32x1024 .f32) (X10 : Vec F S1x2x1024 .f32) (X11 : Vec F S1x2x1024 .f32) (X12 : Vec F S1x2x1024x512 .bf16) (X13 : Vec F S1x2x512 .f32) (X14 : Vec F S1x512 .f32) (X15 : Vec F S1x512 .f32) (X16 : Vec F S1x2x512 .f32) (st : Vec F S2x64x2048 .f32) (tl : Vec F S2x2x8x1024 .f32) (fa : Vec F S2x512 .f32) (S : Car F) (hS : S = (Win.car (Win.mk X2 X3 X4 X5 X6 X7 X8 X9 X10 X11 X12 X13 X14 X15) ⟨st, tl, fa⟩)) (E : Set ℕ) :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare st ∗ (∃ X, owns (c : Thread nD τ) arg18 fullShare X) ∗ owns (c : Thread nD τ) arg19 fullShare tl ∗ (∃ X, owns (c : Thread nD τ) arg20 fullShare X) ∗ (∃ X, owns (c : Thread nD τ) arg21 fullShare X) ∗ (∃ X, owns (c : Thread nD τ) arg22 fullShare X) ∗ (∃ X, owns (c : Thread nD τ) arg23 fullShare X) ∗ owns (c : Thread nD τ) arg24 fullShare fa) : sProp 𝕄G)
      ⊢ wp frame (wpE (defs₀ (F := F)) Variants.none (c : Thread nD τ) none) E (cc0__expert_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
          (fun _ => iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare S.st ∗ (∃ X, owns (c : Thread nD τ) arg18 fullShare X) ∗ owns (c : Thread nD τ) arg19 fullShare S.tl ∗ (∃ X, owns (c : Thread nD τ) arg20 fullShare X) ∗ (∃ X, owns (c : Thread nD τ) arg21 fullShare X) ∗ (∃ X, owns (c : Thread nD τ) arg22 fullShare X) ∗ (∃ X, owns (c : Thread nD τ) arg23 fullShare X) ∗ owns (c : Thread nD τ) arg24 fullShare S.fa)) := by
  subst hS
  unfold owns
  iintro ⟨⟨%w2, %e2, H2⟩, ⟨%w3, %e3, H3⟩, ⟨%w4, %e4, H4⟩, ⟨%w5, %e5, H5⟩, ⟨%w6, %e6, H6⟩, ⟨%w7, %e7, H7⟩, ⟨%w8, %e8, H8⟩, ⟨%w9, %e9, H9⟩, ⟨%w10, %e10, H10⟩, ⟨%w11, %e11, H11⟩, ⟨%w12, %e12, H12⟩, ⟨%w13, %e13, H13⟩, ⟨%w14, %e14, H14⟩, ⟨%w15, %e15, H15⟩, ⟨%w16, %e16, H16⟩, ⟨%f0, %g0, S0⟩, ⟨%Y1, %f1, %g1, S1⟩, ⟨%f2, %g2, S2⟩, ⟨%Y3, %f3, %g3, S3⟩, ⟨%Y4, %f4, %g4, S4⟩, ⟨%Y5, %f5, %g5, S5⟩, ⟨%Y6, %f6, %g6, S6⟩, ⟨%f7, %g7, S7⟩⟩
  obtain ⟨g16, g17, g19, g24, ⟨q16, q0, q2, q7⟩, R⟩ := exMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7
  subst e2 e3 e4 e5 e6 e7 e8 e9 e10 e11 e12 e13 e14 e15 e16 g0 g2 g7
  iapply (wp_wand_of (R E))
  isplitl [H2 H3 H4 H5 H6 H7 H8 H9 H10 H11 H12 H13 H14 H15 H16 S0 S1 S2 S3 S4 S5 S6 S7]
  · isplitl [H2]; (· iexact H2); isplitl [H3]; (· iexact H3); isplitl [H4]; (· iexact H4); isplitl [H5]; (· iexact H5); isplitl [H6]; (· iexact H6); isplitl [H7]; (· iexact H7); isplitl [H8]; (· iexact H8); isplitl [H9]; (· iexact H9); isplitl [H10]; (· iexact H10); isplitl [H11]; (· iexact H11); isplitl [H12]; (· iexact H12); isplitl [H13]; (· iexact H13); isplitl [H14]; (· iexact H14); isplitl [H15]; (· iexact H15); isplitl [H16]; (· iexact H16); isplitl [S0]; (· iexact S0); isplitl [S1]; (· iexact S1); isplitl [S2]; (· iexact S2); isplitl [S3]; (· iexact S3); isplitl [S4]; (· iexact S4); isplitl [S5]; (· iexact S5); isplitl [S6]; (· iexact S6); iexact S7
  iintro %_ ⟨H2, H3, H4, H5, H6, H7, H8, H9, H10, H11, H12, H13, H14, H15, H16, S0, S2, S7, ⟨%y1, S1⟩, ⟨%y3, S3⟩, ⟨%y4, S4⟩, ⟨%y5, S5⟩, ⟨%y6, S6⟩⟩
  isplitl [H2]; · iexists w2; isplitr; (· ipureintro; rfl); iexact H2
  isplitl [H3]; · iexists w3; isplitr; (· ipureintro; rfl); iexact H3
  isplitl [H4]; · iexists w4; isplitr; (· ipureintro; rfl); iexact H4
  isplitl [H5]; · iexists w5; isplitr; (· ipureintro; rfl); iexact H5
  isplitl [H6]; · iexists w6; isplitr; (· ipureintro; rfl); iexact H6
  isplitl [H7]; · iexists w7; isplitr; (· ipureintro; rfl); iexact H7
  isplitl [H8]; · iexists w8; isplitr; (· ipureintro; rfl); iexact H8
  isplitl [H9]; · iexists w9; isplitr; (· ipureintro; rfl); iexact H9
  isplitl [H10]; · iexists w10; isplitr; (· ipureintro; rfl); iexact H10
  isplitl [H11]; · iexists w11; isplitr; (· ipureintro; rfl); iexact H11
  isplitl [H12]; · iexists w12; isplitr; (· ipureintro; rfl); iexact H12
  isplitl [H13]; · iexists w13; isplitr; (· ipureintro; rfl); iexact H13
  isplitl [H14]; · iexists w14; isplitr; (· ipureintro; rfl); iexact H14
  isplitl [H15]; · iexists w15; isplitr; (· ipureintro; rfl); iexact H15
  isplitl [H16]; · iexists g16; isplitr; (· ipureintro; exact q16); iexact H16
  isplitl [S0]; · iexists g17; isplitr; (· ipureintro; exact q0); iexact S0
  isplitl [S1]; · iexists _; iexists y1; isplitr; (· ipureintro; rfl); iexact S1
  isplitl [S2]; · iexists g19; isplitr; (· ipureintro; exact q2); iexact S2
  isplitl [S3]; · iexists _; iexists y3; isplitr; (· ipureintro; rfl); iexact S3
  isplitl [S4]; · iexists _; iexists y4; isplitr; (· ipureintro; rfl); iexact S4
  isplitl [S5]; · iexists _; iexists y5; isplitr; (· ipureintro; rfl); iexact S5
  isplitl [S6]; · iexists _; iexists y6; isplitr; (· ipureintro; rfl); iexact S6
  iexists g24; isplitr; (· ipureintro; exact q7); iexact S7

/-- What the body leaves at the last chunk, and that it runs to it. -/
theorem exLast (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole)
    (h1 : ¬ isFirst i) (h2 : k0_cond2 i = 1#1) (w2 : Cw (F := F) arg2) (w3 : Cw (F := F) arg3) (w4 : Cw (F := F) arg4) (w5 : Cw (F := F) arg5) (w6 : Cw (F := F) arg6) (w7 : Cw (F := F) arg7) (w8 : Cw (F := F) arg8) (w9 : Cw (F := F) arg9) (w10 : Cw (F := F) arg10) (w11 : Cw (F := F) arg11) (w12 : Cw (F := F) arg12) (w13 : Cw (F := F) arg13) (w14 : Cw (F := F) arg14) (w15 : Cw (F := F) arg15) (w16 : Cw (F := F) arg16) (f0 : Cw (F := F) arg17) (f1 : Cw (F := F) arg18) (f2 : Cw (F := F) arg19) (f3 : Cw (F := F) arg20) (f4 : Cw (F := F) arg21) (f5 : Cw (F := F) arg22) (f6 : Cw (F := F) arg23) (f7 : Cw (F := F) arg24) :
    ∃ (g16 : Cw (F := F) arg16) (g0 : Cw (F := F) arg17) (g2 : Cw (F := F) arg19) (g7 : Cw (F := F) arg24),
      (arg16.view.read (Elt F) g16 = outOf ((winOf arg2 arg3 arg4 arg5 arg6 arg7 arg8 arg9 arg10 arg11 arg12 arg13 arg14 arg15 w2 w3 w4 w5 w6 w7 w8 w9 w10 w11 w12 w13 w14 w15).car (carOf arg17 arg19 arg24 f0 f2 f7)) ∧ arg17.view.read (Elt F) g0 = ((winOf arg2 arg3 arg4 arg5 arg6 arg7 arg8 arg9 arg10 arg11 arg12 arg13 arg14 arg15 w2 w3 w4 w5 w6 w7 w8 w9 w10 w11 w12 w13 w14 w15).car (carOf arg17 arg19 arg24 f0 f2 f7)).st ∧ arg19.view.read (Elt F) g2 = ((winOf arg2 arg3 arg4 arg5 arg6 arg7 arg8 arg9 arg10 arg11 arg12 arg13 arg14 arg15 w2 w3 w4 w5 w6 w7 w8 w9 w10 w11 w12 w13 w14 w15).car (carOf arg17 arg19 arg24 f0 f2 f7)).tl ∧ arg24.view.read (Elt F) g7 = ((winOf arg2 arg3 arg4 arg5 arg6 arg7 arg8 arg9 arg10 arg11 arg12 arg13 arg14 arg15 w2 w3 w4 w5 w6 w7 w8 w9 w10 w11 w12 w13 w14 w15).car (carOf arg17 arg19 arg24 f0 f2 f7)).fa) ∧
      ∀ E : Set ℕ, iprop(pw c arg2 w2 ∗ pw c arg3 w3 ∗ pw c arg4 w4 ∗ pw c arg5 w5 ∗ pw c arg6 w6 ∗ pw c arg7 w7 ∗ pw c arg8 w8 ∗ pw c arg9 w9 ∗ pw c arg10 w10 ∗ pw c arg11 w11 ∗ pw c arg12 w12 ∗ pw c arg13 w13 ∗ pw c arg14 w14 ∗ pw c arg15 w15 ∗ pw c arg16 w16 ∗ pw c arg17 f0 ∗ pw c arg18 f1 ∗ pw c arg19 f2 ∗ pw c arg20 f3 ∗ pw c arg21 f4 ∗ pw c arg22 f5 ∗ pw c arg23 f6 ∗ pw c arg24 f7)
      ⊢ wp frame (wpE (defs₀ (F := F)) Variants.none (c : Thread nD τ) none) E (cc0__expert_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
          (fun _ => iprop(pw c arg2 w2 ∗ pw c arg3 w3 ∗ pw c arg4 w4 ∗ pw c arg5 w5 ∗ pw c arg6 w6 ∗ pw c arg7 w7 ∗ pw c arg8 w8 ∗ pw c arg9 w9 ∗ pw c arg10 w10 ∗ pw c arg11 w11 ∗ pw c arg12 w12 ∗ pw c arg13 w13 ∗ pw c arg14 w14 ∗ pw c arg15 w15 ∗ pw c arg16 g16 ∗ pw c arg17 g0 ∗ pw c arg19 g2 ∗ pw c arg24 g7 ∗ (∃ f, pw c arg18 f) ∗ (∃ f, pw c arg20 f) ∗ (∃ f, pw c arg21 f) ∗ (∃ f, pw c arg22 f) ∗ (∃ f, pw c arg23 f))) := by
  have H := runLast_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7
  exact ⟨(runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).1, (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.1, (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.1, (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.1, ⟨(runLast_out16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).trans (by rw [H.2.2]; rfl), H.1, H.2.1, H.2.2⟩, (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.2⟩

/-- The body at the last chunk. -/
theorem bodyLast (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole)
    (h1 : ¬ isFirst i) (h2 : k0_cond2 i = 1#1) (X2 : Vec F S1x2x256x1024 .f32) (X3 : Vec F S1x1024x512 .bf16) (X4 : Vec F S1x1x512 .f32) (X5 : Vec F S1x2x512x2048 .bf16) (X6 : Vec F S1x2x4x1024 .f32) (X7 : Vec F S1x2x1024 .f32) (X8 : Vec F S1x2x1024x160 .f32) (X9 : Vec F S1x2x32x1024 .f32) (X10 : Vec F S1x2x1024 .f32) (X11 : Vec F S1x2x1024 .f32) (X12 : Vec F S1x2x1024x512 .bf16) (X13 : Vec F S1x2x512 .f32) (X14 : Vec F S1x512 .f32) (X15 : Vec F S1x512 .f32) (X16 : Vec F S1x2x512 .f32) (st : Vec F S2x64x2048 .f32) (tl : Vec F S2x2x8x1024 .f32) (fa : Vec F S2x512 .f32) (S : Car F) (hS : S = (Win.car (Win.mk X2 X3 X4 X5 X6 X7 X8 X9 X10 X11 X12 X13 X14 X15) ⟨st, tl, fa⟩)) (E : Set ℕ) :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare st ∗ (∃ X, owns (c : Thread nD τ) arg18 fullShare X) ∗ owns (c : Thread nD τ) arg19 fullShare tl ∗ (∃ X, owns (c : Thread nD τ) arg20 fullShare X) ∗ (∃ X, owns (c : Thread nD τ) arg21 fullShare X) ∗ (∃ X, owns (c : Thread nD τ) arg22 fullShare X) ∗ (∃ X, owns (c : Thread nD τ) arg23 fullShare X) ∗ owns (c : Thread nD τ) arg24 fullShare fa) : sProp 𝕄G)
      ⊢ wp frame (wpE (defs₀ (F := F)) Variants.none (c : Thread nD τ) none) E (cc0__expert_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
          (fun _ => iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare (outOf S) ∗ owns (c : Thread nD τ) arg17 fullShare S.st ∗ (∃ X, owns (c : Thread nD τ) arg18 fullShare X) ∗ owns (c : Thread nD τ) arg19 fullShare S.tl ∗ (∃ X, owns (c : Thread nD τ) arg20 fullShare X) ∗ (∃ X, owns (c : Thread nD τ) arg21 fullShare X) ∗ (∃ X, owns (c : Thread nD τ) arg22 fullShare X) ∗ (∃ X, owns (c : Thread nD τ) arg23 fullShare X) ∗ owns (c : Thread nD τ) arg24 fullShare S.fa)) := by
  subst hS
  unfold owns
  iintro ⟨⟨%w2, %e2, H2⟩, ⟨%w3, %e3, H3⟩, ⟨%w4, %e4, H4⟩, ⟨%w5, %e5, H5⟩, ⟨%w6, %e6, H6⟩, ⟨%w7, %e7, H7⟩, ⟨%w8, %e8, H8⟩, ⟨%w9, %e9, H9⟩, ⟨%w10, %e10, H10⟩, ⟨%w11, %e11, H11⟩, ⟨%w12, %e12, H12⟩, ⟨%w13, %e13, H13⟩, ⟨%w14, %e14, H14⟩, ⟨%w15, %e15, H15⟩, ⟨%w16, %e16, H16⟩, ⟨%f0, %g0, S0⟩, ⟨%Y1, %f1, %g1, S1⟩, ⟨%f2, %g2, S2⟩, ⟨%Y3, %f3, %g3, S3⟩, ⟨%Y4, %f4, %g4, S4⟩, ⟨%Y5, %f5, %g5, S5⟩, ⟨%Y6, %f6, %g6, S6⟩, ⟨%f7, %g7, S7⟩⟩
  obtain ⟨g16, g17, g19, g24, ⟨q16, q0, q2, q7⟩, R⟩ := exLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7
  subst e2 e3 e4 e5 e6 e7 e8 e9 e10 e11 e12 e13 e14 e15 e16 g0 g2 g7
  iapply (wp_wand_of (R E))
  isplitl [H2 H3 H4 H5 H6 H7 H8 H9 H10 H11 H12 H13 H14 H15 H16 S0 S1 S2 S3 S4 S5 S6 S7]
  · isplitl [H2]; (· iexact H2); isplitl [H3]; (· iexact H3); isplitl [H4]; (· iexact H4); isplitl [H5]; (· iexact H5); isplitl [H6]; (· iexact H6); isplitl [H7]; (· iexact H7); isplitl [H8]; (· iexact H8); isplitl [H9]; (· iexact H9); isplitl [H10]; (· iexact H10); isplitl [H11]; (· iexact H11); isplitl [H12]; (· iexact H12); isplitl [H13]; (· iexact H13); isplitl [H14]; (· iexact H14); isplitl [H15]; (· iexact H15); isplitl [H16]; (· iexact H16); isplitl [S0]; (· iexact S0); isplitl [S1]; (· iexact S1); isplitl [S2]; (· iexact S2); isplitl [S3]; (· iexact S3); isplitl [S4]; (· iexact S4); isplitl [S5]; (· iexact S5); isplitl [S6]; (· iexact S6); iexact S7
  iintro %_ ⟨H2, H3, H4, H5, H6, H7, H8, H9, H10, H11, H12, H13, H14, H15, H16, S0, S2, S7, ⟨%y1, S1⟩, ⟨%y3, S3⟩, ⟨%y4, S4⟩, ⟨%y5, S5⟩, ⟨%y6, S6⟩⟩
  isplitl [H2]; · iexists w2; isplitr; (· ipureintro; rfl); iexact H2
  isplitl [H3]; · iexists w3; isplitr; (· ipureintro; rfl); iexact H3
  isplitl [H4]; · iexists w4; isplitr; (· ipureintro; rfl); iexact H4
  isplitl [H5]; · iexists w5; isplitr; (· ipureintro; rfl); iexact H5
  isplitl [H6]; · iexists w6; isplitr; (· ipureintro; rfl); iexact H6
  isplitl [H7]; · iexists w7; isplitr; (· ipureintro; rfl); iexact H7
  isplitl [H8]; · iexists w8; isplitr; (· ipureintro; rfl); iexact H8
  isplitl [H9]; · iexists w9; isplitr; (· ipureintro; rfl); iexact H9
  isplitl [H10]; · iexists w10; isplitr; (· ipureintro; rfl); iexact H10
  isplitl [H11]; · iexists w11; isplitr; (· ipureintro; rfl); iexact H11
  isplitl [H12]; · iexists w12; isplitr; (· ipureintro; rfl); iexact H12
  isplitl [H13]; · iexists w13; isplitr; (· ipureintro; rfl); iexact H13
  isplitl [H14]; · iexists w14; isplitr; (· ipureintro; rfl); iexact H14
  isplitl [H15]; · iexists w15; isplitr; (· ipureintro; rfl); iexact H15
  isplitl [H16]; · iexists g16; isplitr; (· ipureintro; exact q16); iexact H16
  isplitl [S0]; · iexists g17; isplitr; (· ipureintro; exact q0); iexact S0
  isplitl [S1]; · iexists _; iexists y1; isplitr; (· ipureintro; rfl); iexact S1
  isplitl [S2]; · iexists g19; isplitr; (· ipureintro; exact q2); iexact S2
  isplitl [S3]; · iexists _; iexists y3; isplitr; (· ipureintro; rfl); iexact S3
  isplitl [S4]; · iexists _; iexists y4; isplitr; (· ipureintro; rfl); iexact S4
  isplitl [S5]; · iexists _; iexists y5; isplitr; (· ipureintro; rfl); iexact S5
  isplitl [S6]; · iexists _; iexists y6; isplitr; (· ipureintro; rfl); iexact S6
  iexists g24; isplitr; (· ipureintro; exact q7); iexact S7

end Cert.Proof.KI

end
-- ==== Proof.Region.lean ====
/-
  The launch: the data that the pipeline carries from a grid point to the next, and the run of the whole program.
-/
module

public import proofs.«01_k».proof.Proof.Owns
public import proofs.«01_k».proof.Proof.Gen.KernelIdeal.Frame
public import Idealize.ShloMosaic.Lib.Claim

@[expose] public section

set_option maxRecDepth 16384
set_option maxHeartbeats 1000000

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-- The grid point at place `n` of the order. -/
def point (n : ℕ) : Fin cfg0.N := ⟨n % 64, lt_of_lt_of_eq (Nat.mod_lt n (by decide)) N_0.symm⟩

theorem point_val (t : Fin cfg0.N) : point t.val = t := Fin.ext (Nat.mod_eq_of_lt (lt_of_lt_of_eq t.isLt N_0))

/-- The windows' blocks at a grid point. -/
def winAt (c : Dev nD) (t : Fin cfg0.N) : Win F := Win.mk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- What is carried into the grid point at place `n`: nothing at an expert's first chunk. -/
def carIn (n : ℕ) (s : Car F) : Car F := if n % 8 = 0 then car0 else s

theorem car_eta (s : Car F) : s = ⟨s.st, s.tl, s.fa⟩ := by cases s; rfl

/-- What is carried after `n` grid points. -/
def carry (c : Dev nD) : ℕ → Car F
  | 0 => car0
  | n + 1 => (winAt m c (point n)).car (carIn n (carry c n))

theorem carry_succ (c : Dev nD) (t : Fin cfg0.N) : carry m c (t.val + 1) = (winAt m c t).car (carIn t.val (carry m c t.val)) := by
  show (winAt m c (point t.val)).car _ = _
  rw [point_val]

/-- The buffers that the body keeps for itself, before the grid point at place `n`. -/
def kept (c : Dev nD) (n : ℕ) : sProp 𝕄 :=
  iprop(∃ st tl fa, ⌜n % 8 ≠ 0 → carry m c n = ⟨st, tl, fa⟩⌝
    ∗ owns (c : Thread nD τ) (Memref.whole cc0_scratch0) fullShare st
    ∗ (∃ X, owns (c : Thread nD τ) (Memref.whole cc0_scratch1) fullShare X)
    ∗ owns (c : Thread nD τ) (Memref.whole cc0_scratch2) fullShare tl
    ∗ (∃ X, owns (c : Thread nD τ) (Memref.whole cc0_scratch3) fullShare X)
    ∗ (∃ X, owns (c : Thread nD τ) (Memref.whole cc0_scratch4) fullShare X)
    ∗ (∃ X, owns (c : Thread nD τ) (Memref.whole cc0_scratch5) fullShare X)
    ∗ (∃ X, owns (c : Thread nD τ) (Memref.whole cc0_scratch6) fullShare X)
    ∗ owns (c : Thread nD τ) (Memref.whole cc0_scratch7) fullShare fa
    ∗ ∃ r, prngReg c r)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outOf (carry m c (t.val + 1))
  Φ t := kept m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = outOf (carry m c (t.val + 1)) := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d
theorem before11 (c : Dev nD) (t : Fin cfg0.N) (d) : (dats m 0 c).before 11 t d = iblk m c 11 t := before0_11_of m (dats m 0 c) (A_eq m c 11) (after11 m c) t d
theorem before12 (c : Dev nD) (t : Fin cfg0.N) (d) : (dats m 0 c).before 12 t d = iblk m c 12 t := before0_12_of m (dats m 0 c) (A_eq m c 12) (after12 m c) t d
theorem before13 (c : Dev nD) (t : Fin cfg0.N) (d) : (dats m 0 c).before 13 t d = iblk m c 13 t := before0_13_of m (dats m 0 c) (A_eq m c 13) (after13 m c) t d

theorem isFirst_iff : ∀ t : Fin cfg0.N, isFirst (grid0.coords t) ↔ t.val % 8 = 0 :=
  (by decide +kernel : ∀ t : Fin grid0.N, isFirst (grid0.coords t) ↔ t.val % 8 = 0)

theorem isLast_iff : ∀ t : Fin cfg0.N, k0_cond2 (grid0.coords t) = 1#1 ↔ t.val % 8 = 7 :=
  (by decide +kernel : ∀ t : Fin grid0.N, k0_cond2 (grid0.coords t) = 1#1 ↔ t.val % 8 = 7)

theorem idle14 (t : Fin cfg0.N) : cfg0.idle 14 (cfg0.grid.coords t) = !(k0_cond2 (grid0.coords t) == 1#1) := rfl

theorem leaves_live (c : Dev nD) (t : Fin cfg0.N) (h : cfg0.idle 14 (cfg0.grid.coords t) = false) :
    (dats m 0 c).leavesExact 14 t = owns (c : Thread nD τ) (st0_14 t) fullShare ((dats m 0 c).after 14 t) := by
  unfold Dat.leavesExact; rw [h]

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ (dats m 0 c).leavesExact 14 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).Φ t.castSucc = kept m c t.val from rfl, show (dats m 0 c).Φ t.succ = kept m c (t.val + 1) from rfl,
    show (dats m 0 c).owesAt () t.succ = (dats m 0 c).owesAt () t.castSucc from rfl,
    after0, after1, after2, after3, after4, after5, after6, after7, after8, after9, after10, after11, after12, after13]
  have hS := carry_succ m c t
  unfold winAt at hS
  unfold kept
  iintro ⟨⟨%st, %tl, %fa, %hc, S0, S1, S2, S3, S4, S5, S6, S7, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  by_cases h8 : t.val % 8 = 0
  · have h2 : ¬ k0_cond2 (grid0.coords t) = 1#1 := fun h => by have := (isLast_iff t).mp h; omega
    rw [(dats m 0 c).leavesExact_idle 14 t (by rw [idle14]; simp [h2]) (by
      have := flush0_14 t; cases hf : (cfg0.win 14).flush t with
      | false => rfl
      | true => exact absurd (this.mp hf) (by omega))]
    rw [carIn, if_pos h8] at hS
    iapply (wp_wand_of (bodyFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) ((isFirst_iff t).mpr h8) h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((dats m 0 c).before 14 t d14) st tl fa (carry m c (t.val + 1)) hS Set.univ))
    isplitl [H0 H1 H2 H3 H4 H5 H6 H7 H8 H9 H10 H11 H12 H13 H14 S0 S1 S2 S3 S4 S5 S6 S7]
    · isplitl [H0]; (· iexact H0); isplitl [H1]; (· iexact H1); isplitl [H2]; (· iexact H2); isplitl [H3]; (· iexact H3); isplitl [H4]; (· iexact H4); isplitl [H5]; (· iexact H5); isplitl [H6]; (· iexact H6); isplitl [H7]; (· iexact H7); isplitl [H8]; (· iexact H8); isplitl [H9]; (· iexact H9); isplitl [H10]; (· iexact H10); isplitl [H11]; (· iexact H11); isplitl [H12]; (· iexact H12); isplitl [H13]; (· iexact H13); isplitl [H14]; (· iexact H14); isplitl [S0]; (· iexact S0); isplitl [S1]; (· iexact S1); isplitl [S2]; (· iexact S2); isplitl [S3]; (· iexact S3); isplitl [S4]; (· iexact S4); isplitl [S5]; (· iexact S5); isplitl [S6]; (· iexact S6); iexact S7
    iintro %_ ⟨H0, H1, H2, H3, H4, H5, H6, H7, H8, H9, H10, H11, H12, H13, H14, S0, S1, S2, S3, S4, S5, S6, S7⟩
    isplitl [HP S0 S1 S2 S3 S4 S5 S6 S7]
    · iexists (carry m c (t.val + 1)).st, (carry m c (t.val + 1)).tl, (carry m c (t.val + 1)).fa; isplitr; (· ipureintro; intro _; exact car_eta _); isplitl [S0]; (· iexact S0); isplitl [S1]; (· iexact S1); isplitl [S2]; (· iexact S2); isplitl [S3]; (· iexact S3); isplitl [S4]; (· iexact S4); isplitl [S5]; (· iexact S5); isplitl [S6]; (· iexact S6); isplitl [S7]; (· iexact S7); iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists d14; iexact H14
  have h1 : ¬ isFirst (grid0.coords t) := fun h => h8 ((isFirst_iff t).mp h)
  rw [carIn, if_neg h8, hc h8] at hS
  by_cases h7 : t.val % 8 = 7
  · rw [leaves_live m c t (by rw [idle14]; simp [(isLast_iff t).mpr h7]), after14]
    iapply (wp_wand_of (bodyLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 ((isLast_iff t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((dats m 0 c).before 14 t d14) st tl fa (carry m c (t.val + 1)) hS Set.univ))
    isplitl [H0 H1 H2 H3 H4 H5 H6 H7 H8 H9 H10 H11 H12 H13 H14 S0 S1 S2 S3 S4 S5 S6 S7]
    · isplitl [H0]; (· iexact H0); isplitl [H1]; (· iexact H1); isplitl [H2]; (· iexact H2); isplitl [H3]; (· iexact H3); isplitl [H4]; (· iexact H4); isplitl [H5]; (· iexact H5); isplitl [H6]; (· iexact H6); isplitl [H7]; (· iexact H7); isplitl [H8]; (· iexact H8); isplitl [H9]; (· iexact H9); isplitl [H10]; (· iexact H10); isplitl [H11]; (· iexact H11); isplitl [H12]; (· iexact H12); isplitl [H13]; (· iexact H13); isplitl [H14]; (· iexact H14); isplitl [S0]; (· iexact S0); isplitl [S1]; (· iexact S1); isplitl [S2]; (· iexact S2); isplitl [S3]; (· iexact S3); isplitl [S4]; (· iexact S4); isplitl [S5]; (· iexact S5); isplitl [S6]; (· iexact S6); iexact S7
    iintro %_ ⟨H0, H1, H2, H3, H4, H5, H6, H7, H8, H9, H10, H11, H12, H13, H14, S0, S1, S2, S3, S4, S5, S6, S7⟩
    isplitl [HP S0 S1 S2 S3 S4 S5 S6 S7]
    · iexists (carry m c (t.val + 1)).st, (carry m c (t.val + 1)).tl, (carry m c (t.val + 1)).fa; isplitr; (· ipureintro; intro _; exact car_eta _); isplitl [S0]; (· iexact S0); isplitl [S1]; (· iexact S1); isplitl [S2]; (· iexact S2); isplitl [S3]; (· iexact S3); isplitl [S4]; (· iexact S4); isplitl [S5]; (· iexact S5); isplitl [S6]; (· iexact S6); isplitl [S7]; (· iexact S7); iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · have h2 : ¬ k0_cond2 (grid0.coords t) = 1#1 := fun h => h7 ((isLast_iff t).mp h)
    rw [(dats m 0 c).leavesExact_idle 14 t (by rw [idle14]; simp [h2]) (by
      have := flush0_14 t; cases hf : (cfg0.win 14).flush t with
      | false => rfl
      | true => exact absurd (this.mp hf) h7)]
    iapply (wp_wand_of (bodyMid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((dats m 0 c).before 14 t d14) st tl fa (carry m c (t.val + 1)) hS Set.univ))
    isplitl [H0 H1 H2 H3 H4 H5 H6 H7 H8 H9 H10 H11 H12 H13 H14 S0 S1 S2 S3 S4 S5 S6 S7]
    · isplitl [H0]; (· iexact H0); isplitl [H1]; (· iexact H1); isplitl [H2]; (· iexact H2); isplitl [H3]; (· iexact H3); isplitl [H4]; (· iexact H4); isplitl [H5]; (· iexact H5); isplitl [H6]; (· iexact H6); isplitl [H7]; (· iexact H7); isplitl [H8]; (· iexact H8); isplitl [H9]; (· iexact H9); isplitl [H10]; (· iexact H10); isplitl [H11]; (· iexact H11); isplitl [H12]; (· iexact H12); isplitl [H13]; (· iexact H13); isplitl [H14]; (· iexact H14); isplitl [S0]; (· iexact S0); isplitl [S1]; (· iexact S1); isplitl [S2]; (· iexact S2); isplitl [S3]; (· iexact S3); isplitl [S4]; (· iexact S4); isplitl [S5]; (· iexact S5); isplitl [S6]; (· iexact S6); iexact S7
    iintro %_ ⟨H0, H1, H2, H3, H4, H5, H6, H7, H8, H9, H10, H11, H12, H13, H14, S0, S1, S2, S3, S4, S5, S6, S7⟩
    isplitl [HP S0 S1 S2 S3 S4 S5 S6 S7]
    · iexists (carry m c (t.val + 1)).st, (carry m c (t.val + 1)).tl, (carry m c (t.val + 1)).fa; isplitr; (· ipureintro; intro _; exact car_eta _); isplitl [S0]; (· iexact S0); isplitl [S1]; (· iexact S1); isplitl [S2]; (· iexact S2); isplitl [S3]; (· iexact S3); isplitl [S4]; (· iexact S4); isplitl [S5]; (· iexact S5); isplitl [S6]; (· iexact S6); isplitl [S7]; (· iexact S7); iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists d14; iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem kept_in (c : Dev nD) : Pipeline.ΦA spec0 c ⊢ (dats m 0 c).Φ 0 := by
  rw [show (dats m 0 c).Φ 0 = kept m c 0 from rfl]
  unfold Pipeline.ΦA kept
  rw [scopedRest0_eq]
  simp only [owns_whole]
  iintro ⟨⟨⟨%f0, S0⟩, ⟨%f1, S1⟩, ⟨%f2, S2⟩, ⟨%f3, S3⟩, ⟨%f4, S4⟩, ⟨%f5, S5⟩, ⟨%f6, S6⟩, ⟨%f7, S7⟩⟩, HP⟩
  iexists f0, f2, f7
  isplitr; · ipureintro; intro h; exact absurd rfl h
  isplitl [S0]; · iexact S0
  isplitl [S1]; · iexists f1; iexact S1
  isplitl [S2]; · iexact S2
  isplitl [S3]; · iexists f3; iexact S3
  isplitl [S4]; · iexists f4; iexact S4
  isplitl [S5]; · iexists f5; iexact S5
  isplitl [S6]; · iexists f6; iexact S6
  isplitl [S7]; · iexact S7
  iexact HP

theorem kept_out (c : Dev nD) (n : ℕ) : kept m c n ⊢ Pipeline.ΦA spec0 c := by
  unfold Pipeline.ΦA kept
  rw [scopedRest0_eq]
  simp only [owns_whole]
  iintro ⟨%f0, %f2, %f7, -, S0, ⟨%f1, S1⟩, S2, ⟨%f3, S3⟩, ⟨%f4, S4⟩, ⟨%f5, S5⟩, ⟨%f6, S6⟩, S7, HP⟩
  isplitr [HP]
  · isplitl [S0]; · iexists f0; iexact S0
    isplitl [S1]; · iexists f1; iexact S1
    isplitl [S2]; · iexists f2; iexact S2
    isplitl [S3]; · iexists f3; iexact S3
    isplitl [S4]; · iexists f4; iexact S4
    isplitl [S5]; · iexists f5; iexact S5
    isplitl [S6]; · iexists f6; iexact S6
    iexists f7; iexact S7
  iexact HP

set_option backward.isDefEq.respectTransparency.types false in
/-- The launch: every run ends, with every array at what the proof data say and every counter at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := kept_in m) (hout := fun c => kept_out m c _)

end Cert.Proof.KI

end
-- ==== Proof.Bits.Trip.lean ====
/-
  One trip of each of the kernel's two scan loops, run, with what it writes named by `stAt` and `outPieces`.
-/
module

public import proofs.«01_k».proof.Proof.Bits.Step
public import proofs.«01_k».proof.Proof.Gen.Kernel.Launch
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The contents of a memref's buffer. -/
abbrev Ct {S : Shape} (M : Memref sig .tc .vmem S .f32) : Type := BufTy.Contents (Elt F) M.view.ty
/-- A memref's elements held at `f`. -/
abbrev pt (c : Dev nD) {S : Shape} (M : Memref sig .tc .vmem S .f32) (f : Ct (F := F) M) : sProp 𝕄G :=
  M.view.loc (c : Thread nD τ) ↦[M.view.set]{fullShare} f

/-- What trip `k` of loop 1 writes, and that it runs. -/
def tripRun1 (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole) (v10 : FVec F S256x2048 .f32) (v46 : FVec F S512x1024 .f32) (v99 : FVec F S512x1024 .f32) (v104 : FVec F S512x64 .f32) (v105 : FVec F S512x64 .f32) (v133 : FVec F S256x2048 .f32)
    (f3 : Ct (F := F) arg20) (f4 : Ct (F := F) arg21) (f5 : Ct (F := F) arg22) (k : Fin k0_t1_loop.trips) :
    Σ' (g0 : Ct (F := F) arg17 → Ct (F := F) arg23 → List (View.Piece (Elt F) S2x64x2048 .f32)),
      { g6 : Ct (F := F) arg17 → Ct (F := F) arg23 → List (View.Piece (Elt F) S2048x2048 .f32) // ∀ (E : Set ℕ) (f0 : Ct (F := F) arg17) (f6 : Ct (F := F) arg23),
      iprop(pt c arg20 f3 ∗ pt c arg21 f4 ∗ pt c arg22 f5 ∗ pt c arg17 f0 ∗ pt c arg23 f6)
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v10 v46 v99 v104 v105 v133 k PUnit.unit)
          (fun _ => iprop(pt c arg20 f3 ∗ pt c arg21 f4 ∗ pt c arg22 f5 ∗ pt c arg17 (arg17.view.writes (Elt F) f0 (g0 f0 f6))
            ∗ pt c arg23 (arg23.view.writes (Elt F) f6 (g6 f0 f6)))) } := by
  have hk : k.val < 8 := Nat.lt_of_lt_of_le k.isLt k0_t1_abs.2.1
  refine ⟨?_, ?_, fun E f0 f6 => ?run⟩
  case run =>
    unfold k0_t1_body
    iintro ⟨H3, H4, H5, H0, H6⟩
    sl_exec
    sl_step
    sl_close

/-- What trip `k` of loop 2 writes, and that it runs. -/
def tripRun2 (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole) (v253 : FVec F S512x1024 .f32) (v258 : FVec F S512x64 .f32) (v259 : FVec F S512x64 .f32) (v267 : FVec F S512x1024 .f32) (v268 : FVec F S512x1024 .f32)
    (f3 : Ct (F := F) arg20) (f4 : Ct (F := F) arg21) (f5 : Ct (F := F) arg22) (k : Fin k0_t2_loop.trips) :
    Σ' (g0 : Ct (F := F) arg17 → Ct (F := F) arg23 → List (View.Piece (Elt F) S2x64x2048 .f32)),
      { g6 : Ct (F := F) arg17 → Ct (F := F) arg23 → List (View.Piece (Elt F) S2048x2048 .f32) // ∀ (E : Set ℕ) (f0 : Ct (F := F) arg17) (f6 : Ct (F := F) arg23),
      iprop(pt c arg20 f3 ∗ pt c arg21 f4 ∗ pt c arg22 f5 ∗ pt c arg17 f0 ∗ pt c arg23 f6)
      ⊢ wp frame (wpE (defs₀ (F := F)) Variants.none (c : Thread nD τ) none) E
          (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v253 v258 v259 v267 v268 k PUnit.unit)
          (fun _ => iprop(pt c arg20 f3 ∗ pt c arg21 f4 ∗ pt c arg22 f5 ∗ pt c arg17 (arg17.view.writes (Elt F) f0 (g0 f0 f6))
            ∗ pt c arg23 (arg23.view.writes (Elt F) f6 (g6 f0 f6)))) } := by
  have hk : k.val < 8 := Nat.lt_of_lt_of_le k.isLt k0_t2_abs.2.1
  refine ⟨?_, ?_, fun E f0 f6 => ?run⟩
  case run =>
    unfold k0_t2_body
    iintro ⟨H3, H4, H5, H0, H6⟩
    sl_exec
    sl_step
    sl_close

end Cert.Proof.KB

end
-- ==== Proof.Bits.TripRead.lean ====
/-
  What a trip of a scan loop writes: the block's 32 outputs and the state after them.
-/
module

public import proofs.«01_k».proof.Proof.Bits.Trip

@[expose] public section

set_option maxRecDepth 16384
set_option maxHeartbeats 4000000

noncomputable section

namespace Cert.Proof.KB

open Cert.Kernel Cert.Kernel.Gen
open Idealize.ShloMosaic Idealize.ShloMosaic.TcCoe Idealize.SL.Sem

variable {F : FTy → Type} [FloatOps F]

/-- The transposed block of input and output columns that trip `k` of loop 1 reads. -/
abbrev bctAt1 (arg22 : Memref sig .tc .vmem S256x256 .f32) (f5 : Ct (F := F) arg22) (k : Fin k0_t1_loop.trips) : FVec F S256x32 .f32 :=
  k0_pay3 (arg22.view.readAt (Elt F) (Rect.unit (s := S256x256) (k0_off1 k) S32x256.size (k0_off1_inb k)).toLoadRect f5)
/-- Its block of 32 rows of a buffer of 256. -/
abbrev rowsAt1 (M : Memref sig .tc .vmem S256x2048 .f32) (f : Ct (F := F) M) (k : Fin k0_t1_loop.trips) : FVec F S32x2048 .f32 :=
  M.view.readAt (Elt F) (Rect.unit (s := S256x2048) (k0_off2 k) S32x2048.size (k0_off2_inb k)).toLoadRect f
/-- The state it starts from. -/
abbrev st0At1 (M : Memref sig .tc .vmem S2x64x2048 .f32) (f : Ct (F := F) M) : FVec F S64x2048 .f32 :=
  shapeCast S64x2048 (M.view.readAt (Elt F) (Rect.unit (s := S2x64x2048) ![0, 0, 0] S1x64x2048.size inb_S2x64x2048_S1x64x2048_0_0_0).toLoadRect f) shapeCasts_S1x64x2048_S64x2048

theorem tripRun1_out (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole) (v10 : FVec F S256x2048 .f32) (v46 : FVec F S512x1024 .f32) (v99 : FVec F S512x1024 .f32) (v104 : FVec F S512x64 .f32) (v105 : FVec F S512x64 .f32) (v133 : FVec F S256x2048 .f32)
    (f3 : Ct (F := F) arg20) (f4 : Ct (F := F) arg21) (f5 : Ct (F := F) arg22) (k : Fin k0_t1_loop.trips) (f0 : Ct (F := F) arg17) (f6 : Ct (F := F) arg23) :
    (tripRun1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v10 v46 v99 v104 v105 v133 f3 f4 f5 k).2.1 f0 f6
      = outPieces k0_pay328 (bctAt1 arg22 f5 k) (rowsAt1 arg20 f3 k) (rowsAt1 arg21 f4 k) (st0At1 arg17 f0) (k0_off3 k) (k0_off3_inb k) 32 (Nat.le_refl 32) := rfl

theorem tripRun1_state (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole) (v10 : FVec F S256x2048 .f32) (v46 : FVec F S512x1024 .f32) (v99 : FVec F S512x1024 .f32) (v104 : FVec F S512x64 .f32) (v105 : FVec F S512x64 .f32) (v133 : FVec F S256x2048 .f32)
    (f3 : Ct (F := F) arg20) (f4 : Ct (F := F) arg21) (f5 : Ct (F := F) arg22) (k : Fin k0_t1_loop.trips) (f0 : Ct (F := F) arg17) (f6 : Ct (F := F) arg23) :
    (tripRun1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v10 v46 v99 v104 v105 v133 f3 f4 f5 k).1 f0 f6
      = [⟨Rect.unit (s := S2x64x2048) ![0, 0, 0] S1x64x2048.size inb_S2x64x2048_S1x64x2048_0_0_0,
          shapeCast S1x64x2048 (stAt k0_pay328 (bctAt1 arg22 f5 k) (rowsAt1 arg20 f3 k) (rowsAt1 arg21 f4 k) (st0At1 arg17 f0) 32 (Nat.le_refl 32)) shapeCasts_S64x2048_S1x64x2048⟩] := rfl

/-- The transposed block of input and output columns that trip `k` of loop 2 reads. -/
abbrev bctAt2 (arg22 : Memref sig .tc .vmem S256x256 .f32) (f5 : Ct (F := F) arg22) (k : Fin k0_t2_loop.trips) : FVec F S256x32 .f32 :=
  k0_pay3 (arg22.view.readAt (Elt F) (Rect.unit (s := S256x256) (k0_off4 k) S32x256.size (k0_off4_inb k)).toLoadRect f5)
/-- Its block of 32 rows of a buffer of 256. -/
abbrev rowsAt2 (M : Memref sig .tc .vmem S256x2048 .f32) (f : Ct (F := F) M) (k : Fin k0_t2_loop.trips) : FVec F S32x2048 .f32 :=
  M.view.readAt (Elt F) (Rect.unit (s := S256x2048) (k0_off5 k) S32x2048.size (k0_off5_inb k)).toLoadRect f
/-- The state it starts from. -/
abbrev st0At2 (M : Memref sig .tc .vmem S2x64x2048 .f32) (f : Ct (F := F) M) : FVec F S64x2048 .f32 :=
  shapeCast S64x2048 (M.view.readAt (Elt F) (Rect.unit (s := S2x64x2048) ![1, 0, 0] S1x64x2048.size inb_S2x64x2048_S1x64x2048_1_0_0).toLoadRect f) shapeCasts_S1x64x2048_S64x2048

theorem tripRun2_out (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole) (v253 : FVec F S512x1024 .f32) (v258 : FVec F S512x64 .f32) (v259 : FVec F S512x64 .f32) (v267 : FVec F S512x1024 .f32) (v268 : FVec F S512x1024 .f32)
    (f3 : Ct (F := F) arg20) (f4 : Ct (F := F) arg21) (f5 : Ct (F := F) arg22) (k : Fin k0_t2_loop.trips) (f0 : Ct (F := F) arg17) (f6 : Ct (F := F) arg23) :
    (tripRun2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v253 v258 v259 v267 v268 f3 f4 f5 k).2.1 f0 f6
      = outPieces k0_pay352 (bctAt2 arg22 f5 k) (rowsAt2 arg20 f3 k) (rowsAt2 arg21 f4 k) (st0At2 arg17 f0) (k0_off6 k) (k0_off6_inb k) 32 (Nat.le_refl 32) := rfl

theorem tripRun2_state (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole) (v253 : FVec F S512x1024 .f32) (v258 : FVec F S512x64 .f32) (v259 : FVec F S512x64 .f32) (v267 : FVec F S512x1024 .f32) (v268 : FVec F S512x1024 .f32)
    (f3 : Ct (F := F) arg20) (f4 : Ct (F := F) arg21) (f5 : Ct (F := F) arg22) (k : Fin k0_t2_loop.trips) (f0 : Ct (F := F) arg17) (f6 : Ct (F := F) arg23) :
    (tripRun2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v253 v258 v259 v267 v268 f3 f4 f5 k).1 f0 f6
      = [⟨Rect.unit (s := S2x64x2048) ![1, 0, 0] S1x64x2048.size inb_S2x64x2048_S1x64x2048_1_0_0,
          shapeCast S1x64x2048 (stAt k0_pay352 (bctAt2 arg22 f5 k) (rowsAt2 arg20 f3 k) (rowsAt2 arg21 f4 k) (st0At2 arg17 f0) 32 (Nat.le_refl 32)) shapeCasts_S64x2048_S1x64x2048⟩] := rfl

end Cert.Proof.KB

end
-- ==== Proof.Bits.Frame.lean ====
/-
  The kernel's body in its own arithmetic, stated over what the input windows hold and saying nothing of what it leaves in
  its output block and in the buffers that it keeps; the launch; and that every run leaves the arguments as they were.
-/
module

public import proofs.«01_k».proof.Proof.Bits.Run
public import proofs.«01_k».proof.Proof.Gen.Kernel.Frame
public import Idealize.ShloMosaic.Lib.Claim

@[expose] public section

set_option maxRecDepth 16384
set_option maxHeartbeats 4000000

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]
local notation "𝕄G" => MT nD τ sig Unit (Elt F) ℕ (UR sig nD τ) ℕ

/-- A triple, with the rest of what is held carried to the postcondition by a wand. -/
theorem wp_wand_of {c : Dev nD} {E : Set ℕ} {p : Prog (TpuEff nD τ sig (Elt F) Λ₀ .tc) PUnit} {P : sProp 𝕄G} {Q Q' : PUnit → sProp 𝕄G}
    (h : P ⊢ wp frame (wpE (defs₀ (F := F)) Variants.none (c : Thread nD τ) none) E p Q) :
    iprop(P ∗ (∀ a, Q a -∗ Q' a)) ⊢ wp frame (wpE (defs₀ (F := F)) Variants.none (c : Thread nD τ) none) E p Q' :=
  (BI.sep_mono_l h).trans (wp_wand_r _ _ _)

/-- At every grid point the body runs, to some contents of what it writes. -/
theorem body_ends (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole)
    (h : ¬ (isFirst i ∧ k0_cond2 i = 1#1)) (w2 : Cw (F := F) arg2) (w3 : Cw (F := F) arg3) (w4 : Cw (F := F) arg4) (w5 : Cw (F := F) arg5) (w6 : Cw (F := F) arg6) (w7 : Cw (F := F) arg7) (w8 : Cw (F := F) arg8) (w9 : Cw (F := F) arg9) (w10 : Cw (F := F) arg10) (w11 : Cw (F := F) arg11) (w12 : Cw (F := F) arg12) (w13 : Cw (F := F) arg13) (w14 : Cw (F := F) arg14) (w15 : Cw (F := F) arg15) (w16 : Cw (F := F) arg16) (f0 : Cw (F := F) arg17) (f1 : Cw (F := F) arg18) (f2 : Cw (F := F) arg19) (f3 : Cw (F := F) arg20) (f4 : Cw (F := F) arg21) (f5 : Cw (F := F) arg22) (f6 : Cw (F := F) arg23) (f7 : Cw (F := F) arg24) :
    ∃ (g16 : Cw (F := F) arg16) (g0 : Cw (F := F) arg17) (g2 : Cw (F := F) arg19) (g7 : Cw (F := F) arg24),
      ∀ E : Set ℕ, iprop(pw c arg2 w2 ∗ pw c arg3 w3 ∗ pw c arg4 w4 ∗ pw c arg5 w5 ∗ pw c arg6 w6 ∗ pw c arg7 w7 ∗ pw c arg8 w8 ∗ pw c arg9 w9 ∗ pw c arg10 w10 ∗ pw c arg11 w11 ∗ pw c arg12 w12 ∗ pw c arg13 w13 ∗ pw c arg14 w14 ∗ pw c arg15 w15 ∗ pw c arg16 w16 ∗ pw c arg17 f0 ∗ pw c arg18 f1 ∗ pw c arg19 f2 ∗ pw c arg20 f3 ∗ pw c arg21 f4 ∗ pw c arg22 f5 ∗ pw c arg23 f6 ∗ pw c arg24 f7)
      ⊢ wp frame (wpE (defs₀ (F := F)) Variants.none (c : Thread nD τ) none) E (cc0__expert_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
          (fun _ => iprop(pw c arg2 w2 ∗ pw c arg3 w3 ∗ pw c arg4 w4 ∗ pw c arg5 w5 ∗ pw c arg6 w6 ∗ pw c arg7 w7 ∗ pw c arg8 w8 ∗ pw c arg9 w9 ∗ pw c arg10 w10 ∗ pw c arg11 w11 ∗ pw c arg12 w12 ∗ pw c arg13 w13 ∗ pw c arg14 w14 ∗ pw c arg15 w15 ∗ pw c arg16 g16 ∗ pw c arg17 g0 ∗ pw c arg19 g2 ∗ pw c arg24 g7 ∗ (∃ f, pw c arg18 f) ∗ (∃ f, pw c arg20 f) ∗ (∃ f, pw c arg21 f) ∗ (∃ f, pw c arg22 f) ∗ (∃ f, pw c arg23 f))) := by
  by_cases h1 : isFirst i
  · have h2 : ¬ k0_cond2 i = 1#1 := fun e => h ⟨h1, e⟩
    exact ⟨(runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).1, (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.1, (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.1, (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.1, (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.2⟩
  by_cases h2 : k0_cond2 i = 1#1
  · exact ⟨(runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).1, (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.1, (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.1, (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.1, (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.2⟩
  · exact ⟨(runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).1, (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.1, (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.1, (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.1, (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h1 h2 w2 w3 w4 w5 w6 w7 w8 w9 w10 w11 w12 w13 w14 w15 w16 f0 f1 f2 f3 f4 f5 f6 f7).2.2.2.2⟩

/-- The body, over what the input windows hold. -/
theorem body (c : Dev nD) (i : grid0.Coords) (arg2 : Memref sig .tc .vmem S1x2x256x1024 .f32) (harg2 : arg2.IsWhole) (arg3 : Memref sig .tc .vmem S1x1024x512 .bf16) (harg3 : arg3.IsWhole) (arg4 : Memref sig .tc .vmem S1x1x512 .f32) (harg4 : arg4.IsWhole) (arg5 : Memref sig .tc .vmem S1x2x512x2048 .bf16) (harg5 : arg5.IsWhole) (arg6 : Memref sig .tc .vmem S1x2x4x1024 .f32) (harg6 : arg6.IsWhole) (arg7 : Memref sig .tc .vmem S1x2x1024 .f32) (harg7 : arg7.IsWhole) (arg8 : Memref sig .tc .vmem S1x2x1024x160 .f32) (harg8 : arg8.IsWhole) (arg9 : Memref sig .tc .vmem S1x2x32x1024 .f32) (harg9 : arg9.IsWhole) (arg10 : Memref sig .tc .vmem S1x2x1024 .f32) (harg10 : arg10.IsWhole) (arg11 : Memref sig .tc .vmem S1x2x1024 .f32) (harg11 : arg11.IsWhole) (arg12 : Memref sig .tc .vmem S1x2x1024x512 .bf16) (harg12 : arg12.IsWhole) (arg13 : Memref sig .tc .vmem S1x2x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x2x512 .f32) (harg16 : arg16.IsWhole) (arg17 : Memref sig .tc .vmem S2x64x2048 .f32) (harg17 : arg17.IsWhole) (arg18 : Memref sig .tc .vmem S2x264x1024 .f32) (harg18 : arg18.IsWhole) (arg19 : Memref sig .tc .vmem S2x2x8x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x256 .f32) (harg22 : arg22.IsWhole) (arg23 : Memref sig .tc .vmem S2048x2048 .f32) (harg23 : arg23.IsWhole) (arg24 : Memref sig .tc .vmem S2x512 .f32) (harg24 : arg24.IsWhole)
    (h : ¬ (isFirst i ∧ k0_cond2 i = 1#1)) (X2 : Vec F S1x2x256x1024 .f32) (X3 : Vec F S1x1024x512 .bf16) (X4 : Vec F S1x1x512 .f32) (X5 : Vec F S1x2x512x2048 .bf16) (X6 : Vec F S1x2x4x1024 .f32) (X7 : Vec F S1x2x1024 .f32) (X8 : Vec F S1x2x1024x160 .f32) (X9 : Vec F S1x2x32x1024 .f32) (X10 : Vec F S1x2x1024 .f32) (X11 : Vec F S1x2x1024 .f32) (X12 : Vec F S1x2x1024x512 .bf16) (X13 : Vec F S1x2x512 .f32) (X14 : Vec F S1x512 .f32) (X15 : Vec F S1x512 .f32) (E : Set ℕ) :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ (∃ X, owns (c : Thread nD τ) arg22 fullShare X) ∗ (∃ X, owns (c : Thread nD τ) arg23 fullShare X) ∗ (∃ X, owns (c : Thread nD τ) arg24 fullShare X)) : sProp 𝕄G)
      ⊢ wp frame (wpE (defs₀ (F := F)) Variants.none (c : Thread nD τ) none) E (cc0__expert_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
          (fun _ => iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ (∃ X, owns (c : Thread nD τ) arg22 fullShare X) ∗ (∃ X, owns (c : Thread nD τ) arg23 fullShare X) ∗ (∃ X, owns (c : Thread nD τ) arg24 fullShare X))) := by
  unfold owns
  iintro ⟨⟨%w2, %e2, H2⟩, ⟨%w3, %e3, H3⟩, ⟨%w4, %e4, H4⟩, ⟨%w5, %e5, H5⟩, ⟨%w6, %e6, H6⟩, ⟨%w7, %e7, H7⟩, ⟨%w8, %e8, H8⟩, ⟨%w9, %e9, H9⟩, ⟨%w10, %e10, H10⟩, ⟨%w11, %e11, H11⟩, ⟨%w12, %e12, H12⟩, ⟨%w13, %e13, H13⟩, ⟨%w14, %e14, H14⟩, ⟨%w15, %e15, H15⟩, ⟨%Y16, %w16, %e16, H16⟩, ⟨%Y0, %f0, %g0, S0⟩, ⟨%Y1, %f1, %g1, S1⟩, ⟨%Y2, %f2, %g2, S2⟩, ⟨%Y3, %f3, %g3, S3⟩, ⟨%Y4, %f4, %g4, S4⟩, ⟨%Y5, %f5, %g5, S5⟩, ⟨%Y6, %f6, %g6, S6⟩, ⟨%Y7, %f7, %g7, S7⟩⟩
  obtain ⟨g16, g17, g19, g24, R⟩ := body_ends c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h w2 w3 w4 w5 w6 w7 w8 w9 w10 w11 w12 w13 w14 w15 w16 f0 f1 f2 f3 f4 f5 f6 f7
  subst e2 e3 e4 e5 e6 e7 e8 e9 e10 e11 e12 e13 e14 e15
  iapply (wp_wand_of (R E))
  isplitl [H2 H3 H4 H5 H6 H7 H8 H9 H10 H11 H12 H13 H14 H15 H16 S0 S1 S2 S3 S4 S5 S6 S7]
  · isplitl [H2]; (· iexact H2); isplitl [H3]; (· iexact H3); isplitl [H4]; (· iexact H4); isplitl [H5]; (· iexact H5); isplitl [H6]; (· iexact H6); isplitl [H7]; (· iexact H7); isplitl [H8]; (· iexact H8); isplitl [H9]; (· iexact H9); isplitl [H10]; (· iexact H10); isplitl [H11]; (· iexact H11); isplitl [H12]; (· iexact H12); isplitl [H13]; (· iexact H13); isplitl [H14]; (· iexact H14); isplitl [H15]; (· iexact H15); isplitl [H16]; (· iexact H16); isplitl [S0]; (· iexact S0); isplitl [S1]; (· iexact S1); isplitl [S2]; (· iexact S2); isplitl [S3]; (· iexact S3); isplitl [S4]; (· iexact S4); isplitl [S5]; (· iexact S5); isplitl [S6]; (· iexact S6); iexact S7
  iintro %_ ⟨H2, H3, H4, H5, H6, H7, H8, H9, H10, H11, H12, H13, H14, H15, H16, S0, S2, S7, ⟨%y1, S1⟩, ⟨%y3, S3⟩, ⟨%y4, S4⟩, ⟨%y5, S5⟩, ⟨%y6, S6⟩⟩
  isplitl [H2]; · iexists w2; isplitr; (· ipureintro; rfl); iexact H2
  isplitl [H3]; · iexists w3; isplitr; (· ipureintro; rfl); iexact H3
  isplitl [H4]; · iexists w4; isplitr; (· ipureintro; rfl); iexact H4
  isplitl [H5]; · iexists w5; isplitr; (· ipureintro; rfl); iexact H5
  isplitl [H6]; · iexists w6; isplitr; (· ipureintro; rfl); iexact H6
  isplitl [H7]; · iexists w7; isplitr; (· ipureintro; rfl); iexact H7
  isplitl [H8]; · iexists w8; isplitr; (· ipureintro; rfl); iexact H8
  isplitl [H9]; · iexists w9; isplitr; (· ipureintro; rfl); iexact H9
  isplitl [H10]; · iexists w10; isplitr; (· ipureintro; rfl); iexact H10
  isplitl [H11]; · iexists w11; isplitr; (· ipureintro; rfl); iexact H11
  isplitl [H12]; · iexists w12; isplitr; (· ipureintro; rfl); iexact H12
  isplitl [H13]; · iexists w13; isplitr; (· ipureintro; rfl); iexact H13
  isplitl [H14]; · iexists w14; isplitr; (· ipureintro; rfl); iexact H14
  isplitl [H15]; · iexists w15; isplitr; (· ipureintro; rfl); iexact H15
  isplitl [H16]; · iexists _, g16; isplitr; (· ipureintro; rfl); iexact H16
  isplitl [S0]; · iexists _, g17; isplitr; (· ipureintro; rfl); iexact S0
  isplitl [S1]; · iexists _, y1; isplitr; (· ipureintro; rfl); iexact S1
  isplitl [S2]; · iexists _, g19; isplitr; (· ipureintro; rfl); iexact S2
  isplitl [S3]; · iexists _, y3; isplitr; (· ipureintro; rfl); iexact S3
  isplitl [S4]; · iexists _, y4; isplitr; (· ipureintro; rfl); iexact S4
  isplitl [S5]; · iexists _, y5; isplitr; (· ipureintro; rfl); iexact S5
  isplitl [S6]; · iexists _, y6; isplitr; (· ipureintro; rfl); iexact S6
  iexists _, g24; isplitr; (· ipureintro; rfl); iexact S7

variable (m : (ℓ : Loc nD τ sig) → Buf (Elt F) ℓ) (ρ : Dev nD → PrngReg)

/-- The buffers that the body keeps for itself. -/
def kept (c : Dev nD) : sProp 𝕄G := iprop(((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X)) ∗ ∃ r, prngReg c r)

theorem kept_eq (c : Dev nD) : (Pipeline.ΦA spec0 c : sProp 𝕄G) = kept c := by
  unfold Pipeline.ΦA kept
  rw [scopedRest0_eq]
  simp only [owns_whole]

/-- The proof data: the input windows' blocks; of the output window's nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d
theorem before11 (c : Dev nD) (t : Fin cfg0.N) (d) : (dats m 0 c).before 11 t d = iblk m c 11 t := before0_11_of m (dats m 0 c) (A_eq m c 11) (after11 m c) t d
theorem before12 (c : Dev nD) (t : Fin cfg0.N) (d) : (dats m 0 c).before 12 t d = iblk m c 12 t := before0_12_of m (dats m 0 c) (A_eq m c 12) (after12 m c) t d
theorem before13 (c : Dev nD) (t : Fin cfg0.N) (d) : (dats m 0 c).before 13 t d = iblk m c 13 t := before0_13_of m (dats m 0 c) (A_eq m c 13) (after13 m c) t d

/-- No grid point is an expert's first chunk and its last. -/
theorem not_both : ∀ t : Fin cfg0.N, ¬ (isFirst (grid0.coords t) ∧ k0_cond2 (grid0.coords t) = 1#1) :=
  (by decide +kernel : ∀ t : Fin grid0.N, ¬ (isFirst (grid0.coords t) ∧ k0_cond2 (grid0.coords t) = 1#1))

/-- The window whose blocks nothing is said of. -/
abbrev unsaid (w : Fin cfg0.W) : Bool := w.val == 14

/-- What the body is called with at point `t`, -/
def bodyPre (c : Dev nD) (t : Fin cfg0.N) : sProp 𝕄G :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ X, owns (c : Thread nD τ) (st0_14 t) fullShare X))

/-- and what it returns. -/
def bodyPost (c : Dev nD) (t : Fin cfg0.N) : sProp 𝕄G :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ (∃ X, owns (c : Thread nD τ) (st0_14 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, kept_eq,
    after0, after1, after2, after3, after4, after5, after6, after7, after8, after9, after10, after11, after12, after13]
  unfold kept
  iintro ⟨⟨⟨S0, S1, S2, S3, S4, S5, S6, S7⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14⟩
  iapply (wp_wand_of (body c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (not_both t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ))
  isplitl [H0 H1 H2 H3 H4 H5 H6 H7 H8 H9 H10 H11 H12 H13 H14 S0 S1 S2 S3 S4 S5 S6 S7]
  · isplitl [H0]; (· iexact H0); isplitl [H1]; (· iexact H1); isplitl [H2]; (· iexact H2); isplitl [H3]; (· iexact H3); isplitl [H4]; (· iexact H4); isplitl [H5]; (· iexact H5); isplitl [H6]; (· iexact H6); isplitl [H7]; (· iexact H7); isplitl [H8]; (· iexact H8); isplitl [H9]; (· iexact H9); isplitl [H10]; (· iexact H10); isplitl [H11]; (· iexact H11); isplitl [H12]; (· iexact H12); isplitl [H13]; (· iexact H13); isplitl [H14]; (· iexact H14); isplitl [S0]; (· iexact S0); isplitl [S1]; (· iexact S1); isplitl [S2]; (· iexact S2); isplitl [S3]; (· iexact S3); isplitl [S4]; (· iexact S4); isplitl [S5]; (· iexact S5); isplitl [S6]; (· iexact S6); iexact S7
  iintro %_ ⟨H0, H1, H2, H3, H4, H5, H6, H7, H8, H9, H10, H11, H12, H13, H14, S0, S1, S2, S3, S4, S5, S6, S7⟩
  isplitl [HP S0 S1 S2 S3 S4 S5 S6 S7]
  · isplitr [HP]
    · isplitl [S0]; (· iexact S0); isplitl [S1]; (· iexact S1); isplitl [S2]; (· iexact S2); isplitl [S3]; (· iexact S3); isplitl [S4]; (· iexact S4); isplitl [S5]; (· iexact S5); isplitl [S6]; (· iexact S6); iexact S7
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ unsaid := fun t => by
  rw [bigSep_W0, bigSep_W0, defs₀_row]
  exact triple_restated (sound_body m c t) rfl .rfl fun _ => .rfl

/-- What the host writes after the region. -/
abbrev written : Finset (Ref sig .tc) := {main_v0}

theorem tail_writes : ∀ ops ∈ ([hostOps1] : List (List (HloOp τ sig (Elt F)))), ∀ op ∈ ops, ∀ b : Ref sig .tc,
    Proc.devRef .tc b ∈ op.writes → b ∈ written := by
  intro ops hops op hop b hb
  obtain rfl := List.mem_singleton.mp hops
  obtain rfl := List.mem_singleton.mp hop
  rw [StableHlo.unary_writes, Finset.mem_singleton] at hb
  rw [Finset.mem_singleton]
  by_contra hne
  exact StableHlo.devRef_ne_of_ne hne hb

set_option backward.isDefEq.respectTransparency.types false in
/-- The launch: every run ends, with every array that is only read at what the proof data say and every counter at zero. -/
theorem run_main : θ_run defs (onTc (τ := τ) (main (F := F))) (s₀ m ρ)
    (fun r => Pipeline.RDat.FramePostR cfg0 (fun c => (dats m 0 c).toRForget unsaid) written (fun c b => V0 m c (Proc.devRef .tc b)) r ∧ r.2.sem = fun _ => 0) :=
  Pipeline.θ_run_frame_around_T_forget (Q' := _) cfgs (dats m) (0 : Fin 1) launch0 defs₀ Variants.none unsaid written m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- Every run leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h.1.arr_in c 0 rfl).trans ((A_eq m c 0).trans (V_main_arg0 m c)),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      (h.1.arr_in c 5 rfl).trans ((A_eq m c 5).trans (V_main_arg5 m c)),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      (h.1.arr_in c 8 rfl).trans ((A_eq m c 8).trans (V_main_arg8 m c)),
      ((h.1 c).2 main_arg9 (Finset.mem_sdiff.mpr ⟨Pipeline.mem_restRefs_of main_arg9 (by decide) (by decide), by decide⟩)).trans (V_main_arg9 m c),
      (h.1.arr_in c 9 rfl).trans ((A_eq m c 9).trans (V_main_arg10 m c)),
      ((h.1 c).2 main_arg11 (Finset.mem_sdiff.mpr ⟨Pipeline.mem_restRefs_of main_arg11 (by decide) (by decide), by decide⟩)).trans (V_main_arg11 m c),
      (h.1.arr_in c 11 rfl).trans ((A_eq m c 11).trans (V_main_arg12 m c)),
      ((h.1 c).2 main_arg13 (Finset.mem_sdiff.mpr ⟨Pipeline.mem_restRefs_of main_arg13 (by decide) (by decide), by decide⟩)).trans (V_main_arg13 m c),
      ((h.1 c).2 main_arg14 (Finset.mem_sdiff.mpr ⟨Pipeline.mem_restRefs_of main_arg14 (by decide) (by decide), by decide⟩)).trans (V_main_arg14 m c)⟩) (run_main m ρ)

end Cert.Proof.KB

end
-- ==== Proof.ExpertClaims.lean ====
/-
  The claims about the expert call that say nothing of its result's value: the three programs run, leave their
  arguments as they were and every counter at zero, and the one constant that is named is the rounding of what it
  names.
-/
module

public import proofs.«01_k».proof.Defs
public import proofs.«01_k».proof.Proof.Region
public import proofs.«01_k».proof.Proof.Bits.Frame
public import proofs.«01_k».proof.Proof.Gen.ReferenceIdeal.Run

@[expose] public section

set_option maxRecDepth 16384

noncomputable section

namespace Cert.Proof.Expert

open Idealize.ShloMosaic Idealize.ShloMosaic.TcCoe Idealize.SL.Sem

theorem frame_p : Cert.quiescent_Kernel (hKernel := Cert.Kernel.Gen.facts) := fun m g _ =>
  θ_run_and (Cert.Proof.KB.unchanged m g) ((θ_run Cert.Kernel.defs _ _).mono (fun _ h => h.2) (Cert.Proof.KB.run_main m g))

theorem frame_pi : Cert.quiescent_KernelIdeal (hKernelIdeal := Cert.KernelIdeal.Gen.facts) := fun m g _ =>
  θ_run_and (Cert.KernelIdeal.Gen.frame_of m g (Cert.Proof.KI.dats m) (Cert.Proof.KI.A_eq m) ((θ_run Cert.KernelIdeal.defs _ _).mono (fun _ h => h.1) (Cert.Proof.KI.run_main m g))) ((θ_run Cert.KernelIdeal.defs _ _).mono (fun _ h => h.2) (Cert.Proof.KI.run_main m g))

theorem frame_ri : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

theorem preserves : Cert.preserves_Kernel_KernelIdeal :=
  IdealRules.named_const.statement Cert.KernelIdeal.κ "log2e" .f32 0x3FB8AA3B#32 (((Real.log 2)⁻¹ : ℝ) : EReal) rfl

end Cert.Proof.Expert

end
-- ==== Proof.Spec.lean ====
/-
  One expert's computation for one batch entry, written with plain functions over the extended reals: a layer as
  recurrences in the time step, the normalisation, and the mean over time. Both sides are compared with this.
-/
module

public import Idealize.ShloMosaic.Lib.Pointwise

@[expose] public section

noncomputable section

namespace Cert.Proof.Spec

open Idealize.ShloMosaic

/-- A layer's parameters; `dec δ d n` is the factor by which a step of size `δ` shrinks the state. -/
@[ext] structure W where
  rw : Fin 512 → EReal
  inw : Fin 512 → Fin 2048 → EReal
  cw0 : Fin 1024 → EReal
  cw1 : Fin 1024 → EReal
  cw2 : Fin 1024 → EReal
  cw3 : Fin 1024 → EReal
  cb : Fin 1024 → EReal
  xw : Fin 1024 → Fin 160 → EReal
  dtw : Fin 32 → Fin 1024 → EReal
  dtb : Fin 1024 → EReal
  dec : EReal → Fin 1024 → Fin 64 → EReal
  dp : Fin 1024 → EReal
  ow : Fin 1024 → Fin 512 → EReal

/-- The width of the rows, and the number added to a mean square. -/
def width : EReal := Ideal.ofBits .f32 0x44000000#32
def small : EReal := Ideal.ofBits .f32 0x3727C5AC#32

def sil (v : EReal) : EReal := v * Ideal.div 1 (1 + Ideal.exp (0 - v))
def soft (v : EReal) : EReal := max v 0 + Ideal.log (1 + Ideal.exp (0 - max v (-v)))

variable (w : W)

/-- The layer's first product, of a row over its root mean square. -/
def xz (h : Fin 512 → EReal) (o : Fin 2048) : EReal :=
  ∑ x, h x * Ideal.rsqrt (Ideal.div (∑ y, h y * h y) width + small) * w.rw x * w.inw x o
def cv (x0 x1 x2 x3 : Fin 1024 → EReal) (d : Fin 1024) : EReal :=
  w.cb d + w.cw0 d * x0 d + w.cw1 d * x1 d + w.cw2 d * x2 d + w.cw3 d * x3 d
def dbl (u : Fin 1024 → EReal) (o : Fin 160) : EReal := ∑ x, u x * w.xw x o
def dl (db : Fin 160 → EReal) (d : Fin 1024) : EReal :=
  soft (∑ x : Fin 32, db ⟨x.val, by omega⟩ * w.dtw x d + w.dtb d)
def next (db : Fin 160 → EReal) (δ u : Fin 1024 → EReal) (s : Fin 1024 → Fin 64 → EReal) (d : Fin 1024) (n : Fin 64) : EReal :=
  w.dec (δ d) d n * s d n + δ d * u d * db ⟨32 + n.val, by omega⟩
def yv (u : Fin 1024 → EReal) (db : Fin 160 → EReal) (s : Fin 1024 → Fin 64 → EReal) (d : Fin 1024) : EReal :=
  (∑ n : Fin 64, s d n * db ⟨96 + n.val, by omega⟩) + u d * w.dp d
def out (h : Fin 512 → EReal) (y z : Fin 1024 → EReal) (j : Fin 512) : EReal :=
  h j + ∑ d, y d * sil (z d) * w.ow d j

/-- The rows over time. -/
abbrev Rows := ℕ → Fin 512 → EReal

variable (h : Rows)

def xc (t : ℕ) (d : Fin 1024) : EReal := xz w (h t) ⟨d.val, by omega⟩
def zz (t : ℕ) (d : Fin 1024) : EReal := xz w (h t) ⟨1024 + d.val, by omega⟩
/-- The convolution's input three steps back: nought before the first step. -/
def xp (t : ℕ) (d : Fin 1024) : EReal := if t < 3 then 0 else xc w h (t - 3) d
def ut (t : ℕ) (d : Fin 1024) : EReal := sil (cv w (xp w h t) (xp w h (t + 1)) (xp w h (t + 2)) (xp w h (t + 3)) d)
def dbt (t : ℕ) : Fin 160 → EReal := dbl w (ut w h t)
def dlt (t : ℕ) : Fin 1024 → EReal := dl w (dbt w h t)
/-- The state before step `t`. -/
def S : ℕ → Fin 1024 → Fin 64 → EReal
  | 0 => fun _ _ => 0
  | t + 1 => next w (dbt w h t) (dlt w h t) (ut w h t) (S t)
/-- The layer's rows. -/
def ho : Rows := fun t => out w (h t) (yv w (ut w h t) (dbt w h t) (S w h (t + 1))) (zz w h t)

def mu (h : Fin 512 → EReal) : EReal := Ideal.div (∑ x, h x) width
def ln (lg lb h : Fin 512 → EReal) (j : Fin 512) : EReal :=
  (h j - mu h) * Ideal.rsqrt (Ideal.div (∑ x, (h x - mu h) * (h x - mu h)) width + small) * lg j + lb j

def hin (x : Fin 1024 → EReal) (win : Fin 1024 → Fin 512 → EReal) (b : Fin 512 → EReal) (j : Fin 512) : EReal :=
  max (∑ i, x i * win i j + b j) 0

theorem xp_add (t : ℕ) (d : Fin 1024) : xp w h (t + 3) d = xc w h t d := if_neg (by omega)

/-- The rows of one expert: after the first product, after a layer, and after both. -/
structure Data where
  X : Fin 2 → ℕ → Fin 1024 → EReal
  win : Fin 1024 → Fin 512 → EReal
  bin : Fin 512 → EReal
  P0 : W
  P1 : W
  lg : Fin 512 → EReal
  lb : Fin 512 → EReal

def Data.r0 (D : Data) (b : Fin 2) : Rows := fun t => hin (D.X b t) D.win D.bin
def Data.r1 (D : Data) (b : Fin 2) : Rows := ho D.P0 (D.r0 b)
def Data.r2 (D : Data) (b : Fin 2) : Rows := ho D.P1 (D.r1 b)
/-- The sum over time of the normalised rows. -/
def Data.total (D : Data) (b : Fin 2) (T : ℕ) (j : Fin 512) : EReal := ∑ t ∈ Finset.range T, ln D.lg D.lb (D.r2 b t) j

/-- The fifteen argument arrays of the expert call. -/
structure Args where
  x : (⟨4, ![8, 2, 2048, 1024]⟩ : Shape).Idx → EReal
  win : (⟨3, ![8, 512, 1024]⟩ : Shape).Idx → EReal
  bin : (⟨2, ![8, 512]⟩ : Shape).Idx → EReal
  inw : (⟨4, ![8, 2, 2048, 512]⟩ : Shape).Idx → EReal
  cw : (⟨4, ![8, 2, 1024, 4]⟩ : Shape).Idx → EReal
  cb : (⟨3, ![8, 2, 1024]⟩ : Shape).Idx → EReal
  xw : (⟨4, ![8, 2, 160, 1024]⟩ : Shape).Idx → EReal
  dtw : (⟨4, ![8, 2, 1024, 32]⟩ : Shape).Idx → EReal
  dtb : (⟨3, ![8, 2, 1024]⟩ : Shape).Idx → EReal
  al : (⟨4, ![8, 2, 1024, 64]⟩ : Shape).Idx → EReal
  dp : (⟨3, ![8, 2, 1024]⟩ : Shape).Idx → EReal
  ow : (⟨4, ![8, 2, 512, 1024]⟩ : Shape).Idx → EReal
  rw : (⟨3, ![8, 2, 512]⟩ : Shape).Idx → EReal
  lg : (⟨1, ![512]⟩ : Shape).Idx → EReal
  lb : (⟨1, ![512]⟩ : Shape).Idx → EReal

/-- The parameters of layer `l` of expert `e`, with the given shrinking factor. -/
def Args.lay (A : Args) (dec : EReal → Fin 1024 → Fin 64 → EReal) (e : Fin 8) (l : Fin 2) : W where
  rw x := A.rw (ix3 e l x)
  inw x o := A.inw (ix4 e l o x)
  cw0 d := A.cw (ix4 e l d 0)
  cw1 d := A.cw (ix4 e l d 1)
  cw2 d := A.cw (ix4 e l d 2)
  cw3 d := A.cw (ix4 e l d 3)
  cb d := A.cb (ix3 e l d)
  xw x o := A.xw (ix4 e l o x)
  dtw x d := A.dtw (ix4 e l d x)
  dtb d := A.dtb (ix3 e l d)
  dec := dec
  dp d := A.dp (ix3 e l d)
  ow d j := A.ow (ix4 e l j d)

/-- One expert's data; `dec l` is the shrinking factor of layer `l`. -/
def Args.data (A : Args) (dec : Fin 2 → EReal → Fin 1024 → Fin 64 → EReal) (e : Fin 8) : Data where
  X b t i := A.x (ix4 e b ⟨t % 2048, Nat.mod_lt _ (by decide)⟩ i)
  win i j := A.win (ix3 e j i)
  bin j := A.bin (ix2 e j)
  P0 := A.lay (dec 0) e 0
  P1 := A.lay (dec 1) e 1
  lg j := A.lg (ix1 j)
  lb j := A.lb (ix1 j)

end Cert.Proof.Spec

end
-- ==== Proof.KVal.lean ====
/-
  A chunk of the kernel at its indices, on the extended reals, against the plain recurrences.
-/
module

public import proofs.«01_k».proof.Proof.Chunk
public import proofs.«01_k».proof.Proof.Spec

@[expose] public section

set_option maxRecDepth 16384

noncomputable section

namespace Cert.Proof.KI

open Cert.KernelIdeal Cert.KernelIdeal.Gen
open Idealize.ShloMosaic Idealize.SL.Sem
open Cert.Proof

/-- The row of batch entry `b` at step `τ` of a chunk, and the state's column of channel `d`. -/
abbrev row (b : Fin 2) (τ : Fin 256) : Fin 512 := ⟨b.val * 256 + τ.val, by omega⟩
abbrev col (b : Fin 2) (d : Fin 1024) : Fin 2048 := ⟨b.val * 1024 + d.val, by omega⟩

theorem at2 {p q : ℕ} (v : (⟨2, ![p, q]⟩ : Shape).Idx → EReal) {i i' : Fin p} {j j' : Fin q} (hi : i.val = i'.val) (hj : j.val = j'.val) :
    v (ix2 i j) = v (ix2 i' j') := by rw [Fin.ext hi, Fin.ext hj]

theorem col_zero (b : Fin 2) (x : Fin 1024) (hb : b.val = 0) : col b x = ⟨x.val, by omega⟩ := Fin.ext (by show b.val * 1024 + x.val = x.val; omega)
theorem col_one (b : Fin 2) (x : Fin 1024) (hb : b.val = 1) : col b x = ⟨1024 + x.val, by omega⟩ := Fin.ext (by show b.val * 1024 + x.val = 1024 + x.val; omega)
theorem row_zero (b : Fin 2) (x : Fin 256) (hb : b.val = 0) : row b x = ⟨x.val, by omega⟩ := Fin.ext (by show b.val * 256 + x.val = x.val; omega)
theorem row_one (b : Fin 2) (x : Fin 256) (hb : b.val = 1) : row b x = ⟨256 + x.val, by omega⟩ := Fin.ext (by show b.val * 256 + x.val = 256 + x.val; omega)

/-- A layer's parameters as plain functions. -/
def Lay.w (P : Lay Ideal) : Spec.W where
  rw x := P.rw (ix3 0 0 x)
  inw x o := P.inw (ix4 0 0 x o)
  cw0 d := P.cw0 (ix4 0 0 0 d)
  cw1 d := P.cw1 (ix4 0 0 0 d)
  cw2 d := P.cw2 (ix4 0 0 0 d)
  cw3 d := P.cw3 (ix4 0 0 0 d)
  cb d := P.cb (ix3 0 0 d)
  xw x o := P.xw (ix4 0 0 x o)
  dtw x d := P.dtw (ix4 0 0 x d)
  dtb d := P.dtb (ix3 0 0 d)
  dec δ d n := Ideal.exp2 (k0_pay328 (F := Ideal) (ix2 n 0) * δ)
  dp d := P.dp (ix3 0 0 d)
  ow d j := P.ow (ix4 0 0 d j)

variable (P : Lay Ideal)

theorem xz_apply (h : FVec Ideal S512x512 .f32) (r : Fin 512) (o : Fin 2048) :
    P.xz h (ix2 r o) = Spec.xz P.w (fun x => h (ix2 r x)) o := by
  unfold Lay.xz kRn
  unfold_payloads
  pointwise [dot_S512x512_S512x2048_S512x2048_1_0_0_1_n_n, Spec.xz, Lay.w, Spec.width, Spec.small]

theorem cv_apply (xt : Vec Ideal S2x264x1024 .f32) (b : Fin 2) (t : Fin 256) (d : Fin 1024) :
    P.cv xt (ix3 b t d) = Spec.cv P.w (fun d => xt (ix3 b ⟨5 + t.val, by omega⟩ d)) (fun d => xt (ix3 b ⟨6 + t.val, by omega⟩ d))
      (fun d => xt (ix3 b ⟨7 + t.val, by omega⟩ d)) (fun d => xt (ix3 b ⟨8 + t.val, by omega⟩ d)) d := by
  unfold Lay.cv
  unfold_payloads
  pointwise [ld, Spec.cv, Lay.w]

theorem u_apply (xt : Vec Ideal S2x264x1024 .f32) (b : Fin 2) (t : Fin 256) (d : Fin 1024) :
    P.u xt (ix2 (row b t) d) = Spec.sil (P.cv xt (ix3 b t d)) := by
  have e1 : (b.val * 256 + t.val) / 256 = b.val := by omega
  have e2 : (b.val * 256 + t.val) % 256 = t.val := by omega
  unfold Lay.u kSilu
  pointwise [Spec.sil, e1, e2]

theorem dbl_apply (u : FVec Ideal S512x1024 .f32) (r : Fin 512) (o : Fin 160) :
    P.dbl u (ix2 r o) = Spec.dbl P.w (fun d => u (ix2 r d)) o := by
  unfold Lay.dbl
  pointwise [dot_S512x1024_S1024x160_S512x160_1_0_0_1_n_n, Spec.dbl, Lay.w]

theorem dl_apply (db : FVec Ideal S512x160 .f32) (r : Fin 512) (d : Fin 1024) :
    kSoft (P.dv db) (ix2 r d) = Spec.dl P.w (fun o => db (ix2 r o)) d := by
  unfold kSoft Lay.dv
  pointwise [dot_S512x32_S32x1024_S512x1024_1_0_0_1_n_n, Spec.dl, Spec.soft, Lay.w]
  rfl

theorem side_apply (v : FVec Ideal S512x1024 .f32) (b : Fin 2) (t : Fin 256) (d : Fin 1024) :
    kSide v (ix2 t (col b d)) = v (ix2 (row b t) d) := by
  unfold kSide
  match b with
  | ⟨0, _⟩ => rw [row_zero _ t rfl]; pointwise
  | ⟨1, _⟩ => rw [row_one _ t rfl]; pointwise

/-- The shrinking factor's argument times the step, the state, and what the step adds. -/
theorem state_apply (a : FVec Ideal S64x1 .f32) (bct : FVec Ideal S256x32 .f32) (d du : FVec Ideal S32x2048 .f32) (j : ℕ) (hj : j < 32)
    (s : FVec Ideal S64x2048 .f32) (n : Fin 64) (b : Fin 2) (x : Fin 1024) :
    stepState a bct d du j hj s (ix2 n (col b x)) =
      Ideal.exp2 (a (ix2 n 0) * d (ix2 ⟨j, hj⟩ (col b x))) * s (ix2 n (col b x))
        + bct (ix2 ⟨64 * b.val + n.val, by omega⟩ ⟨j, hj⟩) * du (ix2 ⟨j, hj⟩ (col b x)) := by
  unfold stepState rowOf colOf
  match b with
  | ⟨0, _⟩ => rw [col_zero _ x rfl]; pointwise; rfl
  | ⟨1, _⟩ => rw [col_one _ x rfl]; pointwise; rfl

theorem out_apply (bct : FVec Ideal S256x32 .f32) (j : ℕ) (hj : j < 32)
    (s : FVec Ideal S64x2048 .f32) (r : Fin 8) (b : Fin 2) (x : Fin 1024) :
    stepOut bct j hj s (ix2 r (col b x)) =
      ∑ m : Fin 8, s (ix2 ⟨8 * m.val + r.val, by omega⟩ (col b x)) * bct (ix2 ⟨64 * (2 + b.val) + (8 * m.val + r.val), by omega⟩ ⟨j, hj⟩) := by
  unfold stepOut fold8 stepProd colOf
  rw [Fin.sum_univ_eight]
  match b with
  | ⟨0, _⟩ => rw [col_zero _ x rfl]; pointwise
  | ⟨1, _⟩ => rw [col_one _ x rfl]; pointwise

/-- The step's number within the chunk. -/
abbrev tm (k : ℕ) (j : Fin 32) : Fin 256 := ⟨32 * (k % 8) + j.val, by omega⟩

theorem blk_apply {n : ℕ} (v : (⟨2, ![256, n]⟩ : Shape).Idx → EReal) (k : ℕ) (j : Fin 32) (x : Fin n) :
    blk v k (ix2 j x) = v (ix2 (tm k j) x) := by
  exact at2 v (i := ⟨32 * (k % 8) + j.val, by omega⟩) (j := ⟨0 + x.val, by omega⟩) rfl (Nat.zero_add _) ▸ congrArg v (funext fun a => by match a with | ⟨0, _⟩ => rfl | ⟨1, _⟩ => rfl)

theorem bc_in (db : FVec Ideal S512x160 .f32) (k : ℕ) (b : Fin 2) (n : Fin 64) (j : Fin 32) :
    k0_pay3 (blk (kBc db) k) (ix2 ⟨64 * b.val + n.val, by omega⟩ j) = db (ix2 (row b (tm k j)) ⟨32 + n.val, by omega⟩) := by
  unfold kBc blk
  unfold_payloads
  match b with
  | ⟨0, _⟩ => pointwise; exact at2 db (by show 32 * (k % 8) + j.val = 0 * 256 + (32 * (k % 8) + j.val); omega) rfl
  | ⟨1, _⟩ => pointwise; exact at2 db (by show 256 + (32 * (k % 8) + j.val) = 1 * 256 + (32 * (k % 8) + j.val); omega) rfl

theorem bc_out (db : FVec Ideal S512x160 .f32) (k : ℕ) (b : Fin 2) (n : Fin 64) (j : Fin 32) :
    k0_pay3 (blk (kBc db) k) (ix2 ⟨64 * (2 + b.val) + n.val, by omega⟩ j) = db (ix2 (row b (tm k j)) ⟨96 + n.val, by omega⟩) := by
  unfold kBc blk
  unfold_payloads
  match b with
  | ⟨0, _⟩ =>
    pointwise
    rw [dif_neg (by omega), dif_neg (by omega), dif_pos (by omega)]
    exact at2 db (by show 32 * (k % 8) + j.val = 0 * 256 + (32 * (k % 8) + j.val); omega) (by show 96 + (128 + n.val - 64 - 64) = 96 + n.val; omega)
  | ⟨1, _⟩ =>
    pointwise
    rw [dif_neg (by omega), dif_neg (by omega), dif_neg (by omega)]
    exact at2 db (by show 256 + (32 * (k % 8) + j.val) = 1 * 256 + (32 * (k % 8) + j.val); omega) (by show 96 + (192 + n.val - 64 - 64 - 64) = 96 + n.val; omega)

theorem select_div (t x : ℕ) (ht : t < 2048) (hx : x < 2048) (a : EReal) :
    Scalar.select (IntOp.cmpi CmpIPredicate.eq (BitVec.ofNat 32 t) (IntOp.shrui ArithUnit.vector (BitVec.ofNat 32 x) 3#32)) a 0
      = if x / 8 = t then a else 0 := by
  have e : IntOp.shrui ArithUnit.vector (BitVec.ofNat 32 x) 3#32 = BitVec.ofNat 32 (x / 8) := by
    apply BitVec.eq_of_toNat_eq
    show ((BitVec.ofNat 32 x) >>> 3).toNat = _
    rw [BitVec.toNat_ushiftRight, BitVec.toNat_ofNat, BitVec.toNat_ofNat, Nat.mod_eq_of_lt (by omega), Nat.mod_eq_of_lt (by omega)]
    exact Nat.shiftRight_eq_div_pow x 3
  rw [e]
  show (if BitVec.ofBool (BitVec.ofNat 32 t == BitVec.ofNat 32 (x / 8)) = 1#1 then a else 0) = _
  by_cases h : x / 8 = t
  · subst h
    rw [if_pos rfl, beq_self_eq_true]
    rfl
  · have : (BitVec.ofNat 32 t == BitVec.ofNat 32 (x / 8)) = false := beq_eq_false_iff_ne.mpr fun q => by
      have := congrArg BitVec.toNat q
      simp only [BitVec.toNat_ofNat] at this
      omega
    rw [if_neg h, this]
    rfl

/-- A sum over rows of those in group `t` of eight. -/
theorem sum_group {n N : ℕ} (hN : N = n * 8) (f : Fin N → EReal) (t : Fin n) :
    ∑ x : Fin N, (if x.val / 8 = t.val then f x else 0) = ∑ r : Fin 8, f ⟨8 * t.val + r.val, by omega⟩ := by
  subst hN
  rw [← finProdFinEquiv.sum_comp, Fintype.sum_prod_type, Finset.sum_eq_single t]
  · refine Finset.sum_congr rfl fun r _ => ?_
    rw [if_pos (by simp only [finProdFinEquiv_apply_val]; omega)]
    exact congrArg f (Fin.ext (by simp only [finProdFinEquiv_apply_val]; omega))
  · intro q _ hq
    refine Finset.sum_eq_zero fun r _ => if_neg fun h => hq (Fin.ext ?_)
    simp only [finProdFinEquiv_apply_val] at h
    omega
  · intro h
    exact absurd (Finset.mem_univ t) h

/-- A sum over 64 entries by their remainder and quotient by eight. -/
theorem sum_64 (f : Fin 64 → EReal) : ∑ n, f n = ∑ r : Fin 8, ∑ m : Fin 8, f ⟨8 * m.val + r.val, by omega⟩ := by
  rw [Finset.sum_comm]
  show ∑ n : Fin (8 * 8), f n = _
  rw [← finProdFinEquiv.sum_comp, Fintype.sum_prod_type]
  exact Finset.sum_congr rfl fun m _ => Finset.sum_congr rfl fun r _ =>
    congrArg f (Fin.ext (by simp only [finProdFinEquiv_apply_val]; omega))

theorem y_apply (u : FVec Ideal S512x1024 .f32) (ys : FVec Ideal S2048x2048 .f32) (b : Fin 2) (t : Fin 256) (d : Fin 1024) :
    P.y u ys (ix2 (row b t) d) = (∑ r : Fin 8, ys (ix2 ⟨8 * t.val + r.val, by omega⟩ (col b d))) + u (ix2 (row b t) d) * P.w.dp d := by
  have key : ∀ q : Fin 2048, (∑ x : Fin 2048, Scalar.select (IntOp.cmpi CmpIPredicate.eq (BitVec.ofNat 32 t.val)
      (IntOp.shrui ArithUnit.vector (BitVec.ofNat 32 x.val) 3#32)) (ys (ix2 x q)) 0) = ∑ r : Fin 8, ys (ix2 ⟨8 * t.val + r.val, by omega⟩ q) := fun q =>
    (Finset.sum_congr rfl fun x _ => select_div t.val x.val (by omega) x.isLt (ys (ix2 x q))).trans
      (sum_group (N := 2048) rfl (fun x => ys (ix2 x q)) t)
  rw [← key]
  unfold Lay.y
  unfold_payloads
  match b with
  | ⟨0, _⟩ => rw [col_zero _ d rfl]; pointwise [Lay.w]; trace_state
  | ⟨1, _⟩ => rw [col_one _ d rfl]; pointwise [Lay.w]; trace_state

theorem hout_apply (h : FVec Ideal S512x512 .f32) (y z : FVec Ideal S512x1024 .f32) (r : Fin 512) (j : Fin 512) :
    P.out h y z (ix2 r j) = Spec.out P.w (fun x => h (ix2 r x)) (fun x => y (ix2 r x)) (fun x => z (ix2 r x)) j := by
  unfold Lay.out kSilu
  unfold_payloads
  pointwise [dot_S512x1024_S1024x512_S512x512_1_0_0_1_n_n, Spec.out, Spec.sil, Lay.w]

theorem z_apply (v : FVec Ideal S512x2048 .f32) (r : Fin 512) (d : Fin 1024) : kZ v (ix2 r d) = v (ix2 r ⟨1024 + d.val, by omega⟩) := by
  unfold kZ
  pointwise

theorem xc_apply (v : FVec Ideal S512x2048 .f32) (b : Fin 2) (t : Fin 256) (d : Fin 1024) :
    kXc v (ix3 b t d) = v (ix2 (row b t) ⟨d.val, by omega⟩) := by
  unfold kXc
  pointwise

theorem ln_apply (h : FVec Ideal S512x512 .f32) (lg lb : Fin 512 → EReal) (r j : Fin 512) :
    kLn h (ix2 r j) * lg j + lb j = Spec.ln lg lb (fun x => h (ix2 r x)) j := by
  unfold kLn
  pointwise [Spec.ln, Spec.mu, Spec.width, Spec.small]

theorem h0_apply (W : Win Ideal) (b : Fin 2) (t : Fin 256) (j : Fin 512) :
    W.h0 (ix2 (row b t) j) = Spec.hin (fun i => W.x (ix4 0 b t i)) (fun i j => W.win (ix3 0 i j)) (fun j => W.bin (ix3 0 0 j)) j := by
  have e1 : (b.val * 256 + t.val) / 256 = b.val := by omega
  have e2 : (b.val * 256 + t.val) % 256 = t.val := by omega
  unfold Win.h0
  unfold_payloads
  pointwise [ld, Spec.hin, dot_S512x1024_S1024x512_S512x512_1_0_0_1_n_n, e1, e2]

theorem fa_apply (W : Win Ideal) (g : FVec Ideal S512x512 .f32) (fa : Vec Ideal S2x512 .f32) (b : Fin 2) (j : Fin 512) :
    k0_pay1 (kLn g) (ld (s := S1x512) ![0, 0] S1x512.size inb_S1x512_S1x512_0_0 W.lg)
    (ld (s := S1x512) ![0, 0] S1x512.size inb_S1x512_S1x512_0_0 W.lb) (ld (s := S2x512) ![0, 0] S2x512.size inb_S2x512_S2x512_0_0 fa) (ix2 b j)
     = fa (ix2 b j) + ∑ t : Fin 256, Spec.ln (fun j => W.lg (ix2 0 j)) (fun j => W.lb (ix2 0 j)) (fun x => g (ix2 (row b t) x)) j := by
  simp only [← ln_apply]
  unfold_payloads
  match b with
  | ⟨0, _⟩ => simp only [fun t : Fin 256 => row_zero ⟨0, by decide⟩ t rfl]; pointwise [ld]
  | ⟨1, _⟩ => simp only [fun t : Fin 256 => row_one ⟨1, by decide⟩ t rfl]; pointwise [ld]

theorem sum_range (f : ℕ → EReal) (n : ℕ) (g : Fin n → EReal) (h : ∀ i : Fin n, g i = f i.val) : ∑ i, g i = ∑ i ∈ Finset.range n, f i := by
  rw [Finset.sum_range]; exact Finset.sum_congr rfl fun i _ => h i

/-- One chunk of a layer: its rows, its convolution's input, and the state it starts from, are those of the recurrences at
    steps `256 c` and on. -/
structure At (hs : Fin 2 → Spec.Rows) (c : ℕ) (h : FVec Ideal S512x512 .f32) (xt : Vec Ideal S2x264x1024 .f32) (s : FVec Ideal S64x2048 .f32) : Prop where
  rows : ∀ b (t : Fin 256) j, h (ix2 (row b t) j) = hs b (256 * c + t.val) j
  input : ∀ b (k : ℕ) (hk : 5 + k < 264) d, xt (ix3 b ⟨5 + k, hk⟩ d) = Spec.xp P.w (hs b) (256 * c + k) d
  state : ∀ b d n, s (ix2 n (col b d)) = Spec.S P.w (hs b) (256 * c) d n

/-- The convolution's input from the tail of the chunk before. -/
theorem input_of {hs : Fin 2 → Spec.Rows} {c : ℕ} {h : FVec Ideal S512x512 .f32} {t : FVec Ideal S2x8x1024 .f32}
    (rows : ∀ b (t : Fin 256) j, h (ix2 (row b t) j) = hs b (256 * c + t.val) j)
    (tail : ∀ b (k : ℕ) (hk : 5 + k < 8) d, t (ix3 b ⟨5 + k, hk⟩ d) = Spec.xp P.w (hs b) (256 * c + k) d)
    (b : Fin 2) (k : ℕ) (hk : 5 + k < 264) (d : Fin 1024) : P.xtOf h t (ix3 b ⟨5 + k, hk⟩ d) = Spec.xp P.w (hs b) (256 * c + k) d := by
  unfold Lay.xtOf xcat
  by_cases h8 : 5 + k < 8
  · exact (dif_pos h8).trans (tail b k h8 d)
  · refine (dif_neg h8).trans ?_
    have e : 256 * c + k = (256 * c + (k - 3)) + 3 := by omega
    rw [e, Spec.xp_add]
    have q := xc_apply (P.xz h) b ⟨k - 3, by omega⟩ d
    rw [xz_apply] at q
    refine Eq.trans (Eq.trans ?_ q) ?_
    · exact congrArg _ (congrArg (fun i => ix3 b i d) (Fin.ext (by show 5 + k - 8 = k - 3; omega)))
    · exact congrArg (fun r => Spec.xz P.w r ⟨d.val, by omega⟩) (funext fun x => rows b ⟨k - 3, by omega⟩ x)

namespace At

variable {P} {hs : Fin 2 → Spec.Rows} {c : ℕ} {h : FVec Ideal S512x512 .f32} {xt : Vec Ideal S2x264x1024 .f32} {s : FVec Ideal S64x2048 .f32}
  (A : At P hs c h xt s)
include A

theorem ut (b : Fin 2) (t : Fin 256) (d : Fin 1024) : P.u xt (ix2 (row b t) d) = Spec.ut P.w (hs b) (256 * c + t.val) d := by
  rw [u_apply, cv_apply]
  have e : ∀ i k (hi : 5 + k = i) (hk : i < 264), (fun d => xt (ix3 b ⟨i, hk⟩ d)) = Spec.xp P.w (hs b) (256 * c + k) := by
    rintro i k rfl hk
    exact funext fun d => A.input b k hk d
  rw [e _ t.val rfl, e _ (t.val + 1) (by omega), e _ (t.val + 2) (by omega), e _ (t.val + 3) (by omega)]
  rfl

theorem dbt (b : Fin 2) (t : Fin 256) (o : Fin 160) : P.dblOf xt (ix2 (row b t) o) = Spec.dbt P.w (hs b) (256 * c + t.val) o := by
  unfold Lay.dblOf
  rw [dbl_apply]
  exact congrArg (fun r => Spec.dbl P.w r o) (funext fun d => A.ut b t d)

theorem dlt (b : Fin 2) (t : Fin 256) (d : Fin 1024) : P.dlOf xt (ix2 (row b t) d) = Spec.dlt P.w (hs b) (256 * c + t.val) d := by
  unfold Lay.dlOf
  rw [dl_apply]
  exact congrArg (fun r => Spec.dl P.w r d) (funext fun o => A.dbt b t o)

/-- The states within a block of 32 steps. -/
theorem block (k : ℕ) (hk : k < 8) (s' : FVec Ideal S64x2048 .f32)
    (hs' : ∀ b d n, s' (ix2 n (col b d)) = Spec.S P.w (hs b) (256 * c + 32 * k) d n) (b : Fin 2) (d : Fin 1024) (n : Fin 64) :
    ∀ (j : ℕ) (hj : j ≤ 32), stAt k0_pay328 (k0_pay3 (blk (kBc (P.dblOf xt)) k)) (blk (kSide (P.dlOf xt)) k) (blk (kSide (P.duOf xt)) k) s' j hj (ix2 n (col b d))
      = Spec.S P.w (hs b) (256 * c + 32 * k + j) d n
  | 0, _ => hs' b d n
  | j + 1, hj => by
    have ih := block k hk s' hs' b d n j (Nat.le_of_succ_le hj)
    have et : 256 * c + (tm k ⟨j, hj⟩).val = 256 * c + 32 * k + j := by show 256 * c + (32 * (k % 8) + j) = _; omega
    unfold stAt
    rw [state_apply, ih, blk_apply _ k ⟨j, hj⟩, blk_apply _ k ⟨j, hj⟩, side_apply, side_apply, bc_in _ k b n ⟨j, hj⟩, A.dbt, A.dlt]
    have eu : P.duOf xt (ix2 (row b (tm k ⟨j, hj⟩)) d) = P.dlOf xt (ix2 (row b (tm k ⟨j, hj⟩)) d) * P.u xt (ix2 (row b (tm k ⟨j, hj⟩)) d) := rfl
    rw [eu, A.dlt, A.ut, et, mul_comm (Spec.dbt P.w (hs b) (256 * c + 32 * k + j) _)]
    rfl

theorem blocks : ∀ (k : ℕ) (hk : k ≤ 8) (b : Fin 2) (d : Fin 1024) (n : Fin 64), P.stOf xt s k (ix2 n (col b d)) = Spec.S P.w (hs b) (256 * c + 32 * k) d n
  | 0, _ => A.state
  | k + 1, hk => fun b d n => A.block k hk _ (blocks k (Nat.le_of_succ_le hk)) b d n 32 (Nat.le_refl 32)

/-- The rows stored at step `t`, summed. -/
theorem ys (b : Fin 2) (t : Fin 256) (d : Fin 1024) : (∑ r : Fin 8, P.ysOf xt s (ix2 ⟨8 * t.val + r.val, by omega⟩ (col b d)))
    = ∑ n : Fin 64, Spec.S P.w (hs b) (256 * c + t.val + 1) d n * Spec.dbt P.w (hs b) (256 * c + t.val) ⟨96 + n.val, by omega⟩ := by
  rw [sum_64]
  refine Finset.sum_congr rfl fun r _ => ?_
  have e1 : (8 * t.val + r.val) / 256 = t.val / 32 := by omega
  have e2 : (8 * t.val + r.val) % 256 / 8 = t.val % 32 := by omega
  have e3 : (8 * t.val + r.val) % 8 = r.val := by omega
  have key : ∀ (k j q : ℕ) (hj : j < 32) (hq : q < 8), k = t.val / 32 → j = t.val % 32 → q = r.val →
      stepOut (k0_pay3 (blk (kBc (P.dblOf xt)) k)) j hj (stAt k0_pay328 (k0_pay3 (blk (kBc (P.dblOf xt)) k)) (blk (kSide (P.dlOf xt)) k) (blk (kSide (P.duOf xt)) k)
        (P.stOf xt s k) (j + 1) hj) (ix2 ⟨q, hq⟩ (col b d))
      = ∑ m : Fin 8, Spec.S P.w (hs b) (256 * c + t.val + 1) d ⟨8 * m.val + r.val, by omega⟩ * Spec.dbt P.w (hs b) (256 * c + t.val) ⟨96 + (8 * m.val + r.val), by omega⟩ := by
    rintro k j q hj hq hk rfl rfl
    rw [out_apply]
    refine Finset.sum_congr rfl fun m _ => ?_
    have et : 256 * c + (tm k ⟨t.val % 32, hj⟩).val = 256 * c + t.val := by show 256 * c + (32 * (k % 8) + t.val % 32) = _; omega
    rw [A.block k (by omega) _ (A.blocks k (by omega)), bc_out _ k b ⟨8 * m.val + r.val, by omega⟩ ⟨t.val % 32, hj⟩, A.dbt, et,
      show 256 * c + 32 * k + (t.val % 32 + 1) = 256 * c + t.val + 1 by omega]
  exact key _ _ _ _ _ e1 e2 e3

theorem rowsOut (b : Fin 2) (t : Fin 256) (j : Fin 512) : P.hOf h xt s (ix2 (row b t) j) = Spec.ho P.w (hs b) (256 * c + t.val) j := by
  unfold Lay.hOf
  rw [hout_apply]
  have e1 : (fun x => h (ix2 (row b t) x)) = hs b (256 * c + t.val) := funext fun x => A.rows b t x
  have e2 : (fun x => P.y (P.u xt) (P.ysOf xt s) (ix2 (row b t) x))
      = Spec.yv P.w (Spec.ut P.w (hs b) (256 * c + t.val)) (Spec.dbt P.w (hs b) (256 * c + t.val)) (Spec.S P.w (hs b) (256 * c + t.val + 1)) := by
    funext d
    rw [y_apply, A.ys, A.ut]
    rfl
  have e3 : (fun x => kZ (P.xz h) (ix2 (row b t) x)) = Spec.zz P.w (hs b) (256 * c + t.val) := by
    funext d
    rw [z_apply, xz_apply, e1]
    rfl
  rw [e1, e2, e3]
  rfl

theorem tail (b : Fin 2) (k : ℕ) (hk : 5 + k < 8) (d : Fin 1024) : tlOf xt (ix3 b ⟨5 + k, hk⟩ d) = Spec.xp P.w (hs b) (256 * (c + 1) + k) d := by
  have q := A.input b (256 + k) (by omega) d
  rw [show 256 * c + (256 + k) = 256 * (c + 1) + k by omega] at q
  rw [← q]
  exact congrArg xt (funext fun a => Fin.ext (by match a with
    | ⟨0, _⟩ => show 0 + 1 * b.val = b.val; omega
    | ⟨1, _⟩ => show 256 + 1 * (5 + k) = 5 + (256 + k); omega
    | ⟨2, _⟩ => show 0 + 1 * d.val = d.val; omega))

theorem stateOut (b : Fin 2) (d : Fin 1024) (n : Fin 64) : P.stOf xt s 8 (ix2 n (col b d)) = Spec.S P.w (hs b) (256 * (c + 1)) d n := by
  rw [A.blocks 8 (Nat.le_refl 8), show 256 * c + 32 * 8 = 256 * (c + 1) by omega]

end At

end Cert.Proof.KI

end
-- ==== Proof.KExpert.lean ====
/-
  The chunks of one expert one after the other, on the extended reals: what is carried after them is what the plain
  recurrences have reached.
-/
module

public import proofs.«01_k».proof.Proof.KVal
public import proofs.«01_k».proof.Proof.Owns

@[expose] public section

set_option maxRecDepth 16384

noncomputable section

namespace Cert.Proof.KI

open Cert.KernelIdeal Cert.KernelIdeal.Gen
open Idealize.ShloMosaic Idealize.SL.Sem
open Cert.Proof Cert.Proof.Spec

theorem st0_apply (s : Vec Ideal S2x64x2048 .f32) (n : Fin 64) (q : Fin 2048) : stOf 0 inb_S2x64x2048_S1x64x2048_0_0_0 s (ix2 n q) = s (ix3 0 n q) := by
  unfold stOf
  pointwise [ld]
theorem st1_apply (s : Vec Ideal S2x64x2048 .f32) (n : Fin 64) (q : Fin 2048) : stOf 1 inb_S2x64x2048_S1x64x2048_1_0_0 s (ix2 n q) = s (ix3 1 n q) := by
  unfold stOf
  pointwise [ld]
theorem tail0_apply (s : Vec Ideal S2x2x8x1024 .f32) (b : Fin 2) (k : Fin 8) (d : Fin 1024) : tailOf 0 inb_S2x2x8x1024_S1x2x8x1024_0_0_0_0 s (ix3 b k d) = s (ix4 0 b k d) := by
  unfold tailOf
  pointwise [ld]
theorem tail1_apply (s : Vec Ideal S2x2x8x1024 .f32) (b : Fin 2) (k : Fin 8) (d : Fin 1024) : tailOf 1 inb_S2x2x8x1024_S1x2x8x1024_1_0_0_0 s (ix3 b k d) = s (ix4 1 b k d) := by
  unfold tailOf
  pointwise [ld]

/-- The blocks read at chunk `c` are the expert's. -/
structure Reads (D : Data) (c : ℕ) (W : Win Ideal) : Prop where
  x : ∀ b (t : Fin 256) i, W.x (ix4 0 b t i) = D.X b (256 * c + t.val) i
  win : ∀ i j, W.win (ix3 0 i j) = D.win i j
  bin : ∀ j, W.bin (ix3 0 0 j) = D.bin j
  P0 : W.lay0.w = D.P0
  P1 : W.lay1.w = D.P1
  lg : ∀ j, W.lg (ix2 0 j) = D.lg j
  lb : ∀ j, W.lb (ix2 0 j) = D.lb j

/-- What is carried after `c` chunks. -/
structure Inv (D : Data) (c : ℕ) (s : Car Ideal) : Prop where
  st0 : ∀ b d n, s.st (ix3 0 n (col b d)) = Spec.S D.P0 (D.r0 b) (256 * c) d n
  st1 : ∀ b d n, s.st (ix3 1 n (col b d)) = Spec.S D.P1 (D.r1 b) (256 * c) d n
  tl0 : ∀ b (k : ℕ) (hk : 5 + k < 8) d, s.tl (ix4 0 b ⟨5 + k, hk⟩ d) = Spec.xp D.P0 (D.r0 b) (256 * c + k) d
  tl1 : ∀ b (k : ℕ) (hk : 5 + k < 8) d, s.tl (ix4 1 b ⟨5 + k, hk⟩ d) = Spec.xp D.P1 (D.r1 b) (256 * c + k) d
  fa : ∀ b j, s.fa (ix2 b j) = D.total b (256 * c) j

theorem inv_zero (D : Data) : Inv D 0 car0 where
  st0 b d n := by show k0_pay305 (F := Ideal) (ix3 0 n (col b d)) = 0; unfold_payloads; pointwise
  st1 b d n := by show k0_pay305 (F := Ideal) (ix3 1 n (col b d)) = 0; unfold_payloads; pointwise
  tl0 b k hk d := by
    refine Eq.trans ?_ (if_pos (by omega)).symm
    show k0_pay306 (F := Ideal) (ix4 0 b ⟨5 + k, hk⟩ d) = 0; unfold_payloads; pointwise
  tl1 b k hk d := by
    refine Eq.trans ?_ (if_pos (by omega)).symm
    show k0_pay306 (F := Ideal) (ix4 1 b ⟨5 + k, hk⟩ d) = 0; unfold_payloads; pointwise
  fa b j := by show k0_pay307 (F := Ideal) (ix2 b j) = 0; unfold_payloads; pointwise

theorem inv_succ {D : Data} {c : ℕ} {W : Win Ideal} {s : Car Ideal} (R : Reads D c W) (I : Inv D c s) : Inv D (c + 1) (W.car s) := by
  have A0 : At W.lay0 D.r0 c W.h0 (W.xt0 s) (W.st0 s) := by
    have rows : ∀ b (t : Fin 256) j, W.h0 (ix2 (row b t) j) = D.r0 b (256 * c + t.val) j := fun b t j => by
      rw [h0_apply]
      simp only [R.x, R.win, R.bin]
      rfl
    refine ⟨rows, input_of W.lay0 rows fun b k hk d => ?_, fun b d n => ?_⟩
    · rw [tail0_apply, R.P0, I.tl0]
    · unfold Win.st0
      rw [st0_apply, R.P0, I.st0]
  have A1 : At W.lay1 D.r1 c (W.h1 s) (W.xt1 s) (W.st1 s) := by
    have rows : ∀ b (t : Fin 256) j, W.h1 s (ix2 (row b t) j) = D.r1 b (256 * c + t.val) j := fun b t j => by
      have q := A0.rowsOut b t j
      rw [R.P0] at q
      exact q
    refine ⟨rows, input_of W.lay1 rows fun b k hk d => ?_, fun b d n => ?_⟩
    · rw [tail1_apply, R.P1, I.tl1]
    · unfold Win.st1
      rw [st1_apply, R.P1, I.st1]
  have rows : ∀ b (t : Fin 256) j, W.h2 s (ix2 (row b t) j) = D.r2 b (256 * c + t.val) j := fun b t j => by
    have q := A1.rowsOut b t j
    rw [R.P1] at q
    exact q
  refine ⟨fun b d n => ?_, fun b d n => ?_, fun b k hk d => ?_, fun b k hk d => ?_, fun b j => ?_⟩
  · have q := A0.stateOut b d n
    rw [R.P0] at q
    exact q
  · have q := A1.stateOut b d n
    rw [R.P1] at q
    exact q
  · have q := A0.tail b k hk d
    rw [R.P0] at q
    exact q
  · have q := A1.tail b k hk d
    rw [R.P1] at q
    exact q
  · refine (fa_apply W (W.h2 s) s.fa b j).trans ?_
    rw [I.fa]
    unfold Data.total
    rw [show 256 * (c + 1) = 256 * c + 256 by omega, Finset.sum_range_add]
    refine congrArg _ (sum_range (fun t => Spec.ln D.lg D.lb (D.r2 b (256 * c + t)) j) 256 _ fun t => ?_)
    simp only [rows, R.lg, R.lb]

/-- What a grid point writes back of the running sum. -/
theorem outOf_apply (s : Car Ideal) (b : Fin 2) (j : Fin 512) : outOf s (ix3 0 b j) = s.fa (ix2 b j) * Ideal.ofBits .f32 0x3A000000#32 := by
  unfold outOf
  unfold_payloads
  pointwise [ld]

end Cert.Proof.KI

end
-- ==== Proof.KBlocks.lean ====
/-
  The blocks that a grid point reads, at their indices, as entries of the argument arrays: grid point `t` is chunk
  `t % 8` of expert `t / 8`.
-/
module

public import proofs.«01_k».proof.Proof.KExpert
public import proofs.«01_k».proof.Proof.Region

@[expose] public section

set_option maxRecDepth 16384

noncomputable section

namespace Cert.Proof.KI

open Cert.KernelIdeal Cert.KernelIdeal.Gen
open Idealize.ShloMosaic Idealize.ShloMosaic.TcCoe Idealize.SL.Sem
open Cert.Proof Cert.Proof.Spec

variable (m : (ℓ : Loc nD τ sig) → Buf (Elt Ideal) ℓ)

/-- The argument arrays as the call finds them. -/
def args (c : Dev nD) : Args where
  x := m ((c : Thread nD τ).loc main_arg0)
  win := m ((c : Thread nD τ).loc main_arg1)
  bin := m ((c : Thread nD τ).loc main_arg2)
  inw := m ((c : Thread nD τ).loc main_arg3)
  cw := m ((c : Thread nD τ).loc main_arg4)
  cb := m ((c : Thread nD τ).loc main_arg5)
  xw := m ((c : Thread nD τ).loc main_arg6)
  dtw := m ((c : Thread nD τ).loc main_arg7)
  dtb := m ((c : Thread nD τ).loc main_arg8)
  al := m ((c : Thread nD τ).loc main_arg9)
  dp := m ((c : Thread nD τ).loc main_arg10)
  ow := m ((c : Thread nD τ).loc main_arg11)
  rw := m ((c : Thread nD τ).loc main_arg12)
  lg := m ((c : Thread nD τ).loc main_arg13)
  lb := m ((c : Thread nD τ).loc main_arg14)

theorem idx0 : ∀ (t : Fin grid0.N) (a : Fin 4), win0_0.index t a = ![t.val / 8, 0, t.val % 8, 0] a := by decide +kernel
theorem idx1 : ∀ (t : Fin grid0.N) (a : Fin 3), win0_1.index t a = ![t.val / 8, 0, 0] a := by decide +kernel
theorem idx12 : ∀ (t : Fin grid0.N) (a : Fin 2), win0_12.index t a = 0 := by decide +kernel

variable (c : Dev nD) (t : Fin cfg0.N)

theorem lt64 : t.val < 64 := lt_of_lt_of_eq t.isLt N_0

/-- The grid point's expert. -/
def ex : Fin 8 := ⟨t.val / 8, by have := lt64 t; omega⟩

theorem rd0 (b : Fin 2) (τ' : Fin 256) (i : Fin 1024) : iblk m c 0 t (ix4 0 b τ' i) = (args m c).x (ix4 (ex t) b ⟨256 * (t.val % 8) + τ'.val, by omega⟩ i) := by
  show V m c main_arg0 (((cfg0.win 0).blk t).view.emb (ix4 0 b τ' i)) = _
  rw [V_main_arg0]
  refine congrArg _ (funext fun a => Fin.ext ?_)
  match a with
  | ⟨0, _⟩ => show win0_0.index t 0 * 1 + 1 * 0 = t.val / 8; rw [idx0]; show t.val / 8 * 1 + 1 * 0 = t.val / 8; omega
  | ⟨1, _⟩ => show win0_0.index t 1 * 2 + 1 * b.val = b.val; rw [idx0]; show 0 * 2 + 1 * b.val = b.val; omega
  | ⟨2, _⟩ => show win0_0.index t 2 * 256 + 1 * τ'.val = 256 * (t.val % 8) + τ'.val; rw [idx0]; show t.val % 8 * 256 + 1 * τ'.val = 256 * (t.val % 8) + τ'.val; omega
  | ⟨3, _⟩ => show win0_0.index t 3 * 1024 + 1 * i.val = i.val; rw [idx0]; show 0 * 1024 + 1 * i.val = i.val; omega

theorem rd1 (i : Fin 1024) (j : Fin 512) : iblk m c 1 t (ix3 0 i j) = (args m c).win (ix3 (ex t) j i) := by
  have e : ((cfg0.win 1).blk t).view.emb (ix3 0 i j) = ix3 (ex t) i j := by
    refine funext fun a => Fin.ext ?_
    match a with
    | ⟨0, _⟩ => show win0_1.index t 0 * 1 + 1 * 0 = t.val / 8; rw [idx1]; show t.val / 8 * 1 + 1 * 0 = t.val / 8; omega
    | ⟨1, _⟩ => show win0_1.index t 1 * 1024 + 1 * i.val = i.val; rw [idx1]; show 0 * 1024 + 1 * i.val = i.val; omega
    | ⟨2, _⟩ => show win0_1.index t 2 * 512 + 1 * j.val = j.val; rw [idx1]; show 0 * 512 + 1 * j.val = j.val; omega
  show V m c main_call0_v1 (((cfg0.win 1).blk t).view.emb (ix3 0 i j)) = _
  rw [e]
  show (truncf .bf16 (transpose S8x1024x512 [0, 2, 1] (args m c).win transposes_S8x512x1024_S8x1024x512_0_2_1 : FVec Ideal S8x1024x512 .f32) bitsLt_bf16_f32 : FVec Ideal S8x1024x512 .bf16) (ix3 (ex t) i j) = _
  pointwise

theorem idx2 : ∀ (t : Fin grid0.N) (a : Fin 3), win0_2.index t a = ![t.val / 8, 0, 0] a := by decide +kernel
theorem rd2 (j : Fin 512) : iblk m c 2 t (ix3 0 0 j) = (args m c).bin (ix2 (ex t) j) := by
  have e : ((cfg0.win 2).blk t).view.emb (ix3 0 0 j) = ix3 (ex t) 0 j := by
    refine funext fun a => Fin.ext ?_
    match a with
    | ⟨0, _⟩ => show win0_2.index t 0 * 1 + 1 * 0 = t.val / 8; rw [idx2]; show t.val / 8 * 1 + 1 * 0 = t.val / 8; omega
    | ⟨1, _⟩ => show win0_2.index t 1 * 1 + 1 * 0 = 0; rw [idx2]; show 0 * 1 + 1 * 0 = 0; omega
    | ⟨2, _⟩ => show win0_2.index t 2 * 512 + 1 * j.val = j.val; rw [idx2]; show 0 * 512 + 1 * j.val = j.val; omega
  show V m c main_call0_v11 (((cfg0.win 2).blk t).view.emb (ix3 0 0 j)) = _
  rw [e]
  show (shapeCast S8x1x512 (args m c).bin shapeCasts_S8x512_S8x1x512 : FVec Ideal S8x1x512 .f32) (ix3 (ex t) 0 j) = _
  pointwise

theorem idx3 : ∀ (t : Fin grid0.N) (a : Fin 4), win0_3.index t a = ![t.val / 8, 0, 0, 0] a := by decide +kernel
theorem rd3 (l : Fin 2) (i : Fin 512) (j : Fin 2048) : iblk m c 3 t (ix4 0 l i j) = (args m c).inw (ix4 (ex t) l j i) := by
  have e : ((cfg0.win 3).blk t).view.emb (ix4 0 l i j) = ix4 (ex t) l i j := by
    refine funext fun a => Fin.ext ?_
    match a with
    | ⟨0, _⟩ => show win0_3.index t 0 * 1 + 1 * 0 = t.val / 8; rw [idx3]; show t.val / 8 * 1 + 1 * 0 = t.val / 8; omega
    | ⟨1, _⟩ => show win0_3.index t 1 * 2 + 1 * l.val = l.val; rw [idx3]; show 0 * 2 + 1 * l.val = l.val; omega
    | ⟨2, _⟩ => show win0_3.index t 2 * 512 + 1 * i.val = i.val; rw [idx3]; show 0 * 512 + 1 * i.val = i.val; omega
    | ⟨3, _⟩ => show win0_3.index t 3 * 2048 + 1 * j.val = j.val; rw [idx3]; show 0 * 2048 + 1 * j.val = j.val; omega
  show V m c main_call0_v3 (((cfg0.win 3).blk t).view.emb (ix4 0 l i j)) = _
  rw [e]
  show (truncf .bf16 (transpose S8x2x512x2048 [0, 1, 3, 2] (args m c).inw transposes_S8x2x2048x512_S8x2x512x2048_0_1_3_2 : FVec Ideal S8x2x512x2048 .f32) bitsLt_bf16_f32 : FVec Ideal S8x2x512x2048 .bf16) (ix4 (ex t) l i j) = _
  pointwise

theorem idx4 : ∀ (t : Fin grid0.N) (a : Fin 4), win0_4.index t a = ![t.val / 8, 0, 0, 0] a := by decide +kernel
theorem rd4 (l : Fin 2) (i : Fin 4) (j : Fin 1024) : iblk m c 4 t (ix4 0 l i j) = (args m c).cw (ix4 (ex t) l j i) := by
  have e : ((cfg0.win 4).blk t).view.emb (ix4 0 l i j) = ix4 (ex t) l i j := by
    refine funext fun a => Fin.ext ?_
    match a with
    | ⟨0, _⟩ => show win0_4.index t 0 * 1 + 1 * 0 = t.val / 8; rw [idx4]; show t.val / 8 * 1 + 1 * 0 = t.val / 8; omega
    | ⟨1, _⟩ => show win0_4.index t 1 * 2 + 1 * l.val = l.val; rw [idx4]; show 0 * 2 + 1 * l.val = l.val; omega
    | ⟨2, _⟩ => show win0_4.index t 2 * 4 + 1 * i.val = i.val; rw [idx4]; show 0 * 4 + 1 * i.val = i.val; omega
    | ⟨3, _⟩ => show win0_4.index t 3 * 1024 + 1 * j.val = j.val; rw [idx4]; show 0 * 1024 + 1 * j.val = j.val; omega
  show V m c main_call0_v4 (((cfg0.win 4).blk t).view.emb (ix4 0 l i j)) = _
  rw [e]
  show (transpose S8x2x4x1024 [0, 1, 3, 2] (args m c).cw transposes_S8x2x1024x4_S8x2x4x1024_0_1_3_2 : FVec Ideal S8x2x4x1024 .f32) (ix4 (ex t) l i j) = _
  pointwise

theorem idx5 : ∀ (t : Fin grid0.N) (a : Fin 3), win0_5.index t a = ![t.val / 8, 0, 0] a := by decide +kernel
theorem rd5 (l : Fin 2) (j : Fin 1024) : iblk m c 5 t (ix3 0 l j) = (args m c).cb (ix3 (ex t) l j) := by
  have e : ((cfg0.win 5).blk t).view.emb (ix3 0 l j) = ix3 (ex t) l j := by
    refine funext fun a => Fin.ext ?_
    match a with
    | ⟨0, _⟩ => show win0_5.index t 0 * 1 + 1 * 0 = t.val / 8; rw [idx5]; show t.val / 8 * 1 + 1 * 0 = t.val / 8; omega
    | ⟨1, _⟩ => show win0_5.index t 1 * 2 + 1 * l.val = l.val; rw [idx5]; show 0 * 2 + 1 * l.val = l.val; omega
    | ⟨2, _⟩ => show win0_5.index t 2 * 1024 + 1 * j.val = j.val; rw [idx5]; show 0 * 1024 + 1 * j.val = j.val; omega
  show V m c main_arg5 (((cfg0.win 5).blk t).view.emb (ix3 0 l j)) = _
  rw [e, V_main_arg5]
  rfl

theorem idx6 : ∀ (t : Fin grid0.N) (a : Fin 4), win0_6.index t a = ![t.val / 8, 0, 0, 0] a := by decide +kernel
theorem rd6 (l : Fin 2) (i : Fin 1024) (j : Fin 160) : iblk m c 6 t (ix4 0 l i j) = (args m c).xw (ix4 (ex t) l j i) := by
  have e : ((cfg0.win 6).blk t).view.emb (ix4 0 l i j) = ix4 (ex t) l i j := by
    refine funext fun a => Fin.ext ?_
    match a with
    | ⟨0, _⟩ => show win0_6.index t 0 * 1 + 1 * 0 = t.val / 8; rw [idx6]; show t.val / 8 * 1 + 1 * 0 = t.val / 8; omega
    | ⟨1, _⟩ => show win0_6.index t 1 * 2 + 1 * l.val = l.val; rw [idx6]; show 0 * 2 + 1 * l.val = l.val; omega
    | ⟨2, _⟩ => show win0_6.index t 2 * 1024 + 1 * i.val = i.val; rw [idx6]; show 0 * 1024 + 1 * i.val = i.val; omega
    | ⟨3, _⟩ => show win0_6.index t 3 * 160 + 1 * j.val = j.val; rw [idx6]; show 0 * 160 + 1 * j.val = j.val; omega
  show V m c main_call0_v5 (((cfg0.win 6).blk t).view.emb (ix4 0 l i j)) = _
  rw [e]
  show (transpose S8x2x1024x160 [0, 1, 3, 2] (args m c).xw transposes_S8x2x160x1024_S8x2x1024x160_0_1_3_2 : FVec Ideal S8x2x1024x160 .f32) (ix4 (ex t) l i j) = _
  pointwise

theorem idx7 : ∀ (t : Fin grid0.N) (a : Fin 4), win0_7.index t a = ![t.val / 8, 0, 0, 0] a := by decide +kernel
theorem rd7 (l : Fin 2) (i : Fin 32) (j : Fin 1024) : iblk m c 7 t (ix4 0 l i j) = (args m c).dtw (ix4 (ex t) l j i) := by
  have e : ((cfg0.win 7).blk t).view.emb (ix4 0 l i j) = ix4 (ex t) l i j := by
    refine funext fun a => Fin.ext ?_
    match a with
    | ⟨0, _⟩ => show win0_7.index t 0 * 1 + 1 * 0 = t.val / 8; rw [idx7]; show t.val / 8 * 1 + 1 * 0 = t.val / 8; omega
    | ⟨1, _⟩ => show win0_7.index t 1 * 2 + 1 * l.val = l.val; rw [idx7]; show 0 * 2 + 1 * l.val = l.val; omega
    | ⟨2, _⟩ => show win0_7.index t 2 * 32 + 1 * i.val = i.val; rw [idx7]; show 0 * 32 + 1 * i.val = i.val; omega
    | ⟨3, _⟩ => show win0_7.index t 3 * 1024 + 1 * j.val = j.val; rw [idx7]; show 0 * 1024 + 1 * j.val = j.val; omega
  show V m c main_call0_v6 (((cfg0.win 7).blk t).view.emb (ix4 0 l i j)) = _
  rw [e]
  show (transpose S8x2x32x1024 [0, 1, 3, 2] (args m c).dtw transposes_S8x2x1024x32_S8x2x32x1024_0_1_3_2 : FVec Ideal S8x2x32x1024 .f32) (ix4 (ex t) l i j) = _
  pointwise

theorem idx8 : ∀ (t : Fin grid0.N) (a : Fin 3), win0_8.index t a = ![t.val / 8, 0, 0] a := by decide +kernel
theorem rd8 (l : Fin 2) (j : Fin 1024) : iblk m c 8 t (ix3 0 l j) = (args m c).dtb (ix3 (ex t) l j) := by
  have e : ((cfg0.win 8).blk t).view.emb (ix3 0 l j) = ix3 (ex t) l j := by
    refine funext fun a => Fin.ext ?_
    match a with
    | ⟨0, _⟩ => show win0_8.index t 0 * 1 + 1 * 0 = t.val / 8; rw [idx8]; show t.val / 8 * 1 + 1 * 0 = t.val / 8; omega
    | ⟨1, _⟩ => show win0_8.index t 1 * 2 + 1 * l.val = l.val; rw [idx8]; show 0 * 2 + 1 * l.val = l.val; omega
    | ⟨2, _⟩ => show win0_8.index t 2 * 1024 + 1 * j.val = j.val; rw [idx8]; show 0 * 1024 + 1 * j.val = j.val; omega
  show V m c main_arg8 (((cfg0.win 8).blk t).view.emb (ix3 0 l j)) = _
  rw [e, V_main_arg8]
  rfl

theorem idx9 : ∀ (t : Fin grid0.N) (a : Fin 3), win0_9.index t a = ![t.val / 8, 0, 0] a := by decide +kernel
theorem rd9 (l : Fin 2) (j : Fin 1024) : iblk m c 9 t (ix3 0 l j) = (args m c).dp (ix3 (ex t) l j) := by
  have e : ((cfg0.win 9).blk t).view.emb (ix3 0 l j) = ix3 (ex t) l j := by
    refine funext fun a => Fin.ext ?_
    match a with
    | ⟨0, _⟩ => show win0_9.index t 0 * 1 + 1 * 0 = t.val / 8; rw [idx9]; show t.val / 8 * 1 + 1 * 0 = t.val / 8; omega
    | ⟨1, _⟩ => show win0_9.index t 1 * 2 + 1 * l.val = l.val; rw [idx9]; show 0 * 2 + 1 * l.val = l.val; omega
    | ⟨2, _⟩ => show win0_9.index t 2 * 1024 + 1 * j.val = j.val; rw [idx9]; show 0 * 1024 + 1 * j.val = j.val; omega
  show V m c main_arg10 (((cfg0.win 9).blk t).view.emb (ix3 0 l j)) = _
  rw [e, V_main_arg10]
  rfl

theorem idx10 : ∀ (t : Fin grid0.N) (a : Fin 4), win0_10.index t a = ![t.val / 8, 0, 0, 0] a := by decide +kernel
theorem rd10 (l : Fin 2) (i : Fin 1024) (j : Fin 512) : iblk m c 10 t (ix4 0 l i j) = (args m c).ow (ix4 (ex t) l j i) := by
  have e : ((cfg0.win 10).blk t).view.emb (ix4 0 l i j) = ix4 (ex t) l i j := by
    refine funext fun a => Fin.ext ?_
    match a with
    | ⟨0, _⟩ => show win0_10.index t 0 * 1 + 1 * 0 = t.val / 8; rw [idx10]; show t.val / 8 * 1 + 1 * 0 = t.val / 8; omega
    | ⟨1, _⟩ => show win0_10.index t 1 * 2 + 1 * l.val = l.val; rw [idx10]; show 0 * 2 + 1 * l.val = l.val; omega
    | ⟨2, _⟩ => show win0_10.index t 2 * 1024 + 1 * i.val = i.val; rw [idx10]; show 0 * 1024 + 1 * i.val = i.val; omega
    | ⟨3, _⟩ => show win0_10.index t 3 * 512 + 1 * j.val = j.val; rw [idx10]; show 0 * 512 + 1 * j.val = j.val; omega
  show V m c main_call0_v8 (((cfg0.win 10).blk t).view.emb (ix4 0 l i j)) = _
  rw [e]
  show (truncf .bf16 (transpose S8x2x1024x512 [0, 1, 3, 2] (args m c).ow transposes_S8x2x512x1024_S8x2x1024x512_0_1_3_2 : FVec Ideal S8x2x1024x512 .f32) bitsLt_bf16_f32 : FVec Ideal S8x2x1024x512 .bf16) (ix4 (ex t) l i j) = _
  pointwise

theorem idx11 : ∀ (t : Fin grid0.N) (a : Fin 3), win0_11.index t a = ![t.val / 8, 0, 0] a := by decide +kernel
theorem rd11 (l : Fin 2) (j : Fin 512) : iblk m c 11 t (ix3 0 l j) = (args m c).rw (ix3 (ex t) l j) := by
  have e : ((cfg0.win 11).blk t).view.emb (ix3 0 l j) = ix3 (ex t) l j := by
    refine funext fun a => Fin.ext ?_
    match a with
    | ⟨0, _⟩ => show win0_11.index t 0 * 1 + 1 * 0 = t.val / 8; rw [idx11]; show t.val / 8 * 1 + 1 * 0 = t.val / 8; omega
    | ⟨1, _⟩ => show win0_11.index t 1 * 2 + 1 * l.val = l.val; rw [idx11]; show 0 * 2 + 1 * l.val = l.val; omega
    | ⟨2, _⟩ => show win0_11.index t 2 * 512 + 1 * j.val = j.val; rw [idx11]; show 0 * 512 + 1 * j.val = j.val; omega
  show V m c main_arg12 (((cfg0.win 11).blk t).view.emb (ix3 0 l j)) = _
  rw [e, V_main_arg12]
  rfl

theorem rd12 (j : Fin 512) : iblk m c 12 t (ix2 0 j) = (args m c).lg (ix1 j) := by
  have e : ((cfg0.win 12).blk t).view.emb (ix2 0 j) = ix2 0 j := by
    refine funext fun a => Fin.ext ?_
    match a with
    | ⟨0, _⟩ => show win0_12.index t 0 * 1 + 1 * 0 = 0; rw [idx12]
    | ⟨1, _⟩ => show win0_12.index t 1 * 512 + 1 * j.val = j.val; rw [idx12]; omega
  show V m c main_call0_v9 (((cfg0.win 12).blk t).view.emb (ix2 0 j)) = _
  rw [e]
  show (shapeCast S1x512 (args m c).lg shapeCasts_S512_S1x512 : FVec Ideal S1x512 .f32) (ix2 0 j) = _
  pointwise

theorem idx13 : ∀ (t : Fin grid0.N) (a : Fin 2), win0_13.index t a = 0 := by decide +kernel
theorem rd13 (j : Fin 512) : iblk m c 13 t (ix2 0 j) = (args m c).lb (ix1 j) := by
  have e : ((cfg0.win 13).blk t).view.emb (ix2 0 j) = ix2 0 j := by
    refine funext fun a => Fin.ext ?_
    match a with
    | ⟨0, _⟩ => show win0_13.index t 0 * 1 + 1 * 0 = 0; rw [idx13]
    | ⟨1, _⟩ => show win0_13.index t 1 * 512 + 1 * j.val = j.val; rw [idx13]; omega
  show V m c main_call0_v10 (((cfg0.win 13).blk t).view.emb (ix2 0 j)) = _
  rw [e]
  show (shapeCast S1x512 (args m c).lb shapeCasts_S512_S1x512 : FVec Ideal S1x512 .f32) (ix2 0 j) = _
  pointwise

/-- The shrinking factor of the kernel. -/
def kDec (δ : EReal) (_ : Fin 1024) (n : Fin 64) : EReal := Ideal.exp2 (k0_pay328 (F := Ideal) (ix2 n 0) * δ)

theorem reads : Reads ((args m c).data (fun _ => kDec) (ex t)) (t.val % 8) (winAt m c t) where
  x b t' i := (rd0 m c t b t' i).trans (congrArg (args m c).x (congrArg (fun q => ix4 (ex t) b q i) (Fin.ext (by
    show 256 * (t.val % 8) + t'.val = (256 * (t.val % 8) + t'.val) % 2048; omega))))
  win := rd1 m c t
  bin := rd2 m c t
  P0 := by
    refine Spec.W.ext (funext fun x => ?_) (funext fun x => funext fun o => ?_) (funext fun d => ?_) (funext fun d => ?_) (funext fun d => ?_)
      (funext fun d => ?_) (funext fun d => ?_) (funext fun x => funext fun o => ?_) (funext fun x => funext fun d => ?_) (funext fun d => ?_) rfl
      (funext fun d => ?_) (funext fun d => funext fun j => ?_)
    · refine Eq.trans ?_ (rd11 m c t 0 x); pointwise [Lay.w, Win.lay0, ld, winAt]
    · refine Eq.trans ?_ (rd3 m c t 0 x o); pointwise [Lay.w, Win.lay0, ld, winAt]
    · refine Eq.trans ?_ (rd4 m c t 0 0 d); pointwise [Lay.w, Win.lay0, ld, winAt]
    · refine Eq.trans ?_ (rd4 m c t 0 1 d); pointwise [Lay.w, Win.lay0, ld, winAt]
    · refine Eq.trans ?_ (rd4 m c t 0 2 d); pointwise [Lay.w, Win.lay0, ld, winAt]
    · refine Eq.trans ?_ (rd4 m c t 0 3 d); pointwise [Lay.w, Win.lay0, ld, winAt]
    · refine Eq.trans ?_ (rd5 m c t 0 d); pointwise [Lay.w, Win.lay0, ld, winAt]
    · refine Eq.trans ?_ (rd6 m c t 0 x o); pointwise [Lay.w, Win.lay0, ld, winAt]
    · refine Eq.trans ?_ (rd7 m c t 0 x d); pointwise [Lay.w, Win.lay0, ld, winAt]
    · refine Eq.trans ?_ (rd8 m c t 0 d); pointwise [Lay.w, Win.lay0, ld, winAt]
    · refine Eq.trans ?_ (rd9 m c t 0 d); pointwise [Lay.w, Win.lay0, ld, winAt]
    · refine Eq.trans ?_ (rd10 m c t 0 d j); pointwise [Lay.w, Win.lay0, ld, winAt]
  P1 := by
    refine Spec.W.ext (funext fun x => ?_) (funext fun x => funext fun o => ?_) (funext fun d => ?_) (funext fun d => ?_) (funext fun d => ?_)
      (funext fun d => ?_) (funext fun d => ?_) (funext fun x => funext fun o => ?_) (funext fun x => funext fun d => ?_) (funext fun d => ?_) rfl
      (funext fun d => ?_) (funext fun d => funext fun j => ?_)
    · refine Eq.trans ?_ (rd11 m c t 1 x); pointwise [Lay.w, Win.lay1, ld, winAt]
    · refine Eq.trans ?_ (rd3 m c t 1 x o); pointwise [Lay.w, Win.lay1, ld, winAt]
    · refine Eq.trans ?_ (rd4 m c t 1 0 d); pointwise [Lay.w, Win.lay1, ld, winAt]
    · refine Eq.trans ?_ (rd4 m c t 1 1 d); pointwise [Lay.w, Win.lay1, ld, winAt]
    · refine Eq.trans ?_ (rd4 m c t 1 2 d); pointwise [Lay.w, Win.lay1, ld, winAt]
    · refine Eq.trans ?_ (rd4 m c t 1 3 d); pointwise [Lay.w, Win.lay1, ld, winAt]
    · refine Eq.trans ?_ (rd5 m c t 1 d); pointwise [Lay.w, Win.lay1, ld, winAt]
    · refine Eq.trans ?_ (rd6 m c t 1 x o); pointwise [Lay.w, Win.lay1, ld, winAt]
    · refine Eq.trans ?_ (rd7 m c t 1 x d); pointwise [Lay.w, Win.lay1, ld, winAt]
    · refine Eq.trans ?_ (rd8 m c t 1 d); pointwise [Lay.w, Win.lay1, ld, winAt]
    · refine Eq.trans ?_ (rd9 m c t 1 d); pointwise [Lay.w, Win.lay1, ld, winAt]
    · refine Eq.trans ?_ (rd10 m c t 1 d j); pointwise [Lay.w, Win.lay1, ld, winAt]
  lg := rd12 m c t
  lb := rd13 m c t

end Cert.Proof.KI

end
-- ==== Proof.KResult.lean ====
/-
  The kernel's result: the carried arrays over an expert's eight chunks, the array that the region writes, and the
  transposition after it.
-/
module

public import proofs.«01_k».proof.Proof.KBlocks
public import Idealize.ShloMosaic.Lib.StableHlo.RunRead

@[expose] public section

set_option maxRecDepth 16384

noncomputable section

namespace Cert.Proof.KI

open Cert.KernelIdeal Cert.KernelIdeal.Gen
open Idealize.ShloMosaic Idealize.ShloMosaic.TcCoe Idealize.ShloMosaic.StableHlo Idealize.SL.Sem
open Cert.Proof Cert.Proof.Spec

variable (m : (ℓ : Loc nD τ sig) → Buf (Elt Ideal) ℓ) (ρ : Dev nD → PrngReg) (c : Dev nD)

/-- One expert's data, with the kernel's shrinking factor. -/
def kData (e : Fin 8) : Data := (args m c).data (fun _ => kDec) e

/-- After grid point `t` the carried arrays are those of its expert after its chunk. -/
theorem carry_inv : ∀ (n : ℕ) (t : Fin cfg0.N), t.val = n → Inv (kData m c (ex t)) (t.val % 8 + 1) (carry m c (t.val + 1))
  | 0, t, h => by
    rw [carry_succ]
    refine inv_succ (reads m c t) ?_
    rw [carIn, if_pos (by omega), show t.val % 8 = 0 by omega]
    exact inv_zero _
  | n + 1, t, h => by
    rw [carry_succ]
    refine inv_succ (reads m c t) ?_
    by_cases h8 : t.val % 8 = 0
    · rw [carIn, if_pos h8, h8]
      exact inv_zero _
    · have hl := t.isLt
      have I := carry_inv n ⟨n, by omega⟩ rfl
      rw [carIn, if_neg h8, h, show (n + 1) % 8 = n % 8 + 1 by omega, show ex t = ex ⟨n, by omega⟩ from Fin.ext (by show t.val / 8 = n / 8; omega)]
      exact I

theorem idx14 : ∀ (t : Fin grid0.N) (a : Fin 3), win0_14.index t a = ![t.val / 8, 0, 0] a := by decide +kernel

theorem disjoint14 : ∀ t t' : Fin cfg0.N, (cfg0.win 14).flush t = true → (cfg0.win 14).flush t' = true → t ≠ t' →
    Disjoint ((cfg0.win 14).blk t).view.set ((cfg0.win 14).blk t').view.set :=
  fun t t' h h' hne => (cfg0.win 14).disjoint_blk fun he => hne (Fin.ext (by
    have e : win0_14.index t (0 : Fin 3) = win0_14.index t' (0 : Fin 3) := congrFun he (0 : Fin 3)
    rw [idx14, idx14] at e
    have e : t.val / 8 = t'.val / 8 := e
    have a := (flush0_14 t).mp h
    have b := (flush0_14 t').mp h'
    omega))

/-- The array that the region writes. -/
theorem arr14 (e : Fin 8) (b : Fin 2) (j : Fin 512) :
    (dats m 0 c).arrAt 14 cfg0.N (ix3 e b j) = (kData m c e).total b 2048 j * Ideal.ofBits .f32 0x3A000000#32 := by
  obtain ⟨t, ht⟩ : ∃ t : Fin cfg0.N, t.val = 8 * e.val + 7 := ⟨⟨8 * e.val + 7, by rw [show cfg0.N = 64 from N_0]; omega⟩, rfl⟩
  have he : ex t = e := Fin.ext (by show t.val / 8 = e.val; omega)
  have hf : (cfg0.win 14).flush t = true := (flush0_14 t).mpr (by omega)
  have hb := congrFun ((dats m 0 c).read_blk_arrAt_eq_flushed 14 disjoint14 cfg0.N t t.isLt hf) (ix3 0 b j)
  rw [show (dats m 0 c).flushed 14 t = (cfg0.win 14).cut (grid0.coords t) (outOf (carry m c (t.val + 1))) from
    congrArg ((cfg0.win 14).cut (grid0.coords t)) (after14 m c t)] at hb
  have hb' : (dats m 0 c).arrAt 14 cfg0.N (((cfg0.win 14).blk t).view.emb (ix3 0 b j)) = outOf (carry m c (t.val + 1)) (ix3 0 b j) := hb
  rw [show ((cfg0.win 14).blk t).view.emb (ix3 0 b j) = ix3 e b j from funext fun a => Fin.ext (by
    match a with
    | ⟨0, _⟩ => show win0_14.index t 0 * 1 + 1 * 0 = e.val; rw [idx14]; show t.val / 8 * 1 + 1 * 0 = e.val; omega
    | ⟨1, _⟩ => show win0_14.index t 1 * 2 + 1 * b.val = b.val; rw [idx14]; show 0 * 2 + 1 * b.val = b.val; omega
    | ⟨2, _⟩ => show win0_14.index t 2 * 512 + 1 * j.val = j.val; rw [idx14]; show 0 * 512 + 1 * j.val = j.val; omega), outOf_apply] at hb'
  rw [hb', (carry_inv m c t.val t rfl).fa, he, show t.val % 8 + 1 = 8 by omega]

/-- The result after the transposition. -/
theorem tail_v0 (b : Fin 2) (e : Fin 8) (j : Fin 512) :
    (Pipeline.afterTail₀ cfgs (dats m) 0 (V0 m) [hostOps1] c main_v0 : S2x8x512.Idx → EReal) (ix3 b e j)
      = (kData m c e).total b 2048 j * Ideal.ofBits .f32 0x3A000000#32 := by
  unfold Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_call0_v12) = (dats m 0 c).arrAt 14 cfg0.N from
    Pipeline.withArrays_arr spec0 (by decide) c (V0 m c) (fun w => (dats m 0 c).arrAt w cfg0.N) 14]
  have key := arr14 m c e b j
  generalize (dats m 0 c).arrAt 14 cfg0.N = A at key ⊢
  rw [← key]
  show transpose S2x8x512 [1, 0, 2] (show S8x2x512.Idx → EReal from A) transposes_S8x2x512_S2x8x512_1_0_2 (ix3 b e j) = A (ix3 e b j)
  pointwise

/-- Every run ends with the result as told and the arguments as they were. -/
theorem run_value : θ_run defs (onTc (τ := τ) (main (F := Ideal))) ⟨m, fun _ => 0, ρ⟩ (fun r => ∀ c : Dev nD,
    r.2.mem ((c.tc : Thread nD τ).loc main_v0) = Pipeline.afterTail₀ cfgs (dats m) 0 (V0 m) [hostOps1] c main_v0
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)) :=
  (θ_run defs _ _).mono (fun _ h c => ⟨(h.1 c).2 main_v0 (Pipeline.mem_restRefs_of main_v0 (by decide) (by decide)), h.2 c⟩)
    (θ_run_and (mono_first (run_main m ρ)) (frame_of m ρ (dats m) (A_eq m) (mono_first (run_main m ρ))))
where
  mono_first {P Q : PUnit × MemSt nD τ sig (Elt Ideal) → Prop} (h : θ_run defs (onTc (τ := τ) (main (F := Ideal))) (s₀ m ρ) (fun r => P r ∧ Q r)) :
      θ_run defs (onTc (τ := τ) (main (F := Ideal))) (s₀ m ρ) P := (θ_run defs _ _).mono (fun _ h => h.1) h

end Cert.Proof.KI
-- ==== Proof.RVal.lean ====
/-
  One trip of the reference's loop over time at its indices, against the plain recurrences.
-/
module

public import proofs.«01_k».proof.Proof.Gen.ReferenceIdeal.Run
public import proofs.«01_k».proof.Proof.Spec

@[expose] public section

set_option maxRecDepth 16384

noncomputable section

namespace Cert.Proof.RI

open Cert.ReferenceIdeal Cert.ReferenceIdeal.Gen Cert.ReferenceIdeal.Value
open Idealize.ShloMosaic Idealize.SL.Sem

/-- The carried buffers on the extended reals. -/
local notation "Val" => Valuation τ sig (Elt Ideal)

/-- The parameters among the carried buffers. -/
def argsOf (V : Val) : Spec.Args where
  x i := V (Proc.devRef .tc main_v4_0) (ix4 (i 2) (i 0) (i 1) (i 3))
  win := V (Proc.devRef .tc main_v4_1)
  bin := V (Proc.devRef .tc main_v4_2)
  inw := V (Proc.devRef .tc main_v4_3)
  cw := V (Proc.devRef .tc main_v4_4)
  cb := V (Proc.devRef .tc main_v4_5)
  xw := V (Proc.devRef .tc main_v4_6)
  dtw := V (Proc.devRef .tc main_v4_7)
  dtb := V (Proc.devRef .tc main_v4_8)
  al := V (Proc.devRef .tc main_v4_9)
  dp := V (Proc.devRef .tc main_v4_10)
  ow := V (Proc.devRef .tc main_v4_11)
  rw := V (Proc.devRef .tc main_v4_12)
  lg := V (Proc.devRef .tc main_arg13)
  lb := V (Proc.devRef .tc main_arg14)

/-- The factor by which a step shrinks the state. -/
def rDec (A : Spec.Args) (e : Fin 8) (l : Fin 2) (δ : EReal) (d : Fin 1024) (n : Fin 64) : EReal :=
  Ideal.exp (δ * -Ideal.exp (A.al (ix4 e l d n)))

def lay (V : Val) (e : Fin 8) (l : Fin 2) : Spec.W := (argsOf V).lay (rDec (argsOf V) e l) e l

variable (V : Val) (e : Fin 8) (b : Fin 2)

theorem mul_turn (a h r w : EReal) : a * h * r * w = h * r * a * w := by rw [mul_comm a h, mul_right_comm h a r]

theorem add_turn (c p q r s : EReal) : c + (p + q + r + s) = c + p + q + r + s := by simp only [add_assoc]

theorem soft_of (v : EReal) : (if v ≠ v then v else max v 0 + Ideal.log1p (Ideal.exp (-max v (-v)))) = Spec.soft v := by
  rw [if_neg (not_not.mpr rfl), Spec.soft, zero_sub]
  rfl

theorem word_int (t : ℕ) (ht : t < 2048) : (BitVec.ofNat 32 t).toInt = (t : Int) := by
  rw [BitVec.toInt_eq_toNat_of_lt (by rw [BitVec.toNat_ofNat]; omega), BitVec.toNat_ofNat, Nat.mod_eq_of_lt (by omega)]

/-- One row of time read, and one written. -/
theorem slice_at (x : S2048x8x2x1024.Idx → EReal) (st : Fin 4 → Int) (hf) (t : ℕ) (ht : t < 2048) (h0 : st 0 = t) (h1 : st 1 = 0) (h2 : st 2 = 0) (h3 : st 3 = 0) :
    Host.dynamicSlice S1x8x2x1024 x st hf = fun i => x (ix4 ⟨t, ht⟩ (i 1) (i 2) (i 3)) := by
  funext i
  refine congrArg x (funext fun a => Fin.ext ?_)
  have z : (i 0).val = 0 := by have h : (i 0).val < 1 := (i 0).isLt; omega
  match a with
  | ⟨0, _⟩ => show (min (max (st 0) 0) ((2048 - 1 : ℕ) : Int)).toNat + (i 0).val = t; rw [h0, z]; omega
  | ⟨1, _⟩ => show (min (max (st 1) 0) ((8 - 8 : ℕ) : Int)).toNat + (i 1).val = (i 1).val; rw [h1]; omega
  | ⟨2, _⟩ => show (min (max (st 2) 0) ((2 - 2 : ℕ) : Int)).toNat + (i 2).val = (i 2).val; rw [h2]; omega
  | ⟨3, _⟩ => show (min (max (st 3) 0) ((1024 - 1024 : ℕ) : Int)).toNat + (i 3).val = (i 3).val; rw [h3]; omega

/-- The first layer. -/
theorem v38_apply (t : ℕ) (ht : t < 2048) (hc : V (Proc.devRef .tc main_v4_13) = fun _ => BitVec.ofNat 32 t) (j : Fin 512) :
    res_main_while0b_v38 V (ix3 e b j) = Spec.hin (fun i => V (Proc.devRef .tc main_v4_0) (ix4 ⟨t, ht⟩ e b i))
      (fun i j => (argsOf V).win (ix3 e j i)) (fun j => (argsOf V).bin (ix2 e j)) j := by
  unfold res_main_while0b_v38
  rw [slice_at _ _ _ t ht (by rw [show (![V (Proc.devRef .tc main_v4_13), constantI S_ 32 0#32, constantI S_ 32 0#32, constantI S_ 32 0#32] : Fin 4 → (⟨S_, .i32⟩ : BufTy).Contents (Elt Ideal)) 0 = V (Proc.devRef .tc main_v4_13) from rfl, hc]; exact word_int t ht) rfl rfl rfl]
  pointwise [dot_S8x2x1024_S8x512x1024_S8x2x512_2_2_1_1_0_0, Spec.hin, argsOf]

theorem v72_apply (o : Fin 2048) :
    res_main_while0b_v72 V (ix3 e b o) = Spec.xz (lay V e 0) (fun j => res_main_while0b_v38 V (ix3 e b j)) o := by
  unfold res_main_while0b_v72
  generalize res_main_while0b_v38 V = h
  pointwise [dot_S8x2x512_S8x2048x512_S8x2x2048_2_2_1_1_0_0, Spec.xz, lay, Spec.Args.lay, argsOf, Spec.width, Spec.small]
  exact @Finset.sum_congr _ EReal _ _ _ _ _ rfl fun x _ => mul_turn _ _ _ _

theorem v74_apply (d : Fin 1024) : res_main_while0b_v74 V (ix3 e b d) = res_main_while0b_v72 V (ix3 e b ⟨1024 + d.val, by omega⟩) := by
  unfold res_main_while0b_v74
  generalize res_main_while0b_v72 V = h
  pointwise

theorem v76_last (d : Fin 1024) : res_main_while0b_v76 V (ix4 e b 3 d) = res_main_while0b_v72 V (ix3 e b ⟨d.val, by omega⟩) := by
  unfold res_main_while0b_v76
  generalize res_main_while0b_v72 V = h
  pointwise

theorem v76_tail (k : Fin 3) (d : Fin 1024) : res_main_while0b_v76 V (ix4 e b ⟨k.val, by omega⟩ d) = V (Proc.devRef .tc main_v4_14) (ix4 e b k d) := by
  unfold res_main_while0b_v76
  generalize res_main_while0b_v72 V = h
  pointwise

theorem v112_apply (d : Fin 1024) :
    res_main_while0b_v112 V (ix3 e b d) = Spec.cv (lay V e 0) (fun d => res_main_while0b_v76 V (ix4 e b 0 d)) (fun d => res_main_while0b_v76 V (ix4 e b 1 d))
      (fun d => res_main_while0b_v76 V (ix4 e b 2 d)) (fun d => res_main_while0b_v76 V (ix4 e b 3 d)) d := by
  unfold res_main_while0b_v112 res_main_while0b_v42
  generalize res_main_while0b_v76 V = h
  pointwise [Spec.cv, lay, Spec.Args.lay, argsOf]
  exact add_turn _ _ _ _ _

theorem v113_apply (d : Fin 1024) : res_main_while0b_v113 V (ix3 e b d) = Spec.sil (res_main_while0b_v112 V (ix3 e b d)) := by
  unfold res_main_while0b_v113
  generalize res_main_while0b_v112 V = h
  pointwise [Spec.sil]
  rw [zero_sub]

theorem v114_apply (o : Fin 160) :
    res_main_while0b_v114 V (ix3 e b o) = Spec.dbl (lay V e 0) (fun d => res_main_while0b_v113 V (ix3 e b d)) o := by
  unfold res_main_while0b_v114
  generalize res_main_while0b_v113 V = h
  pointwise [dot_S8x2x1024_S8x160x1024_S8x2x160_2_2_1_1_0_0, Spec.dbl, lay, Spec.Args.lay, argsOf]

theorem v122_apply (d : Fin 1024) :
    res_main_while0b_v122 V (ix3 e b d) = Spec.dl (lay V e 0) (fun o => res_main_while0b_v114 V (ix3 e b o)) d := by
  unfold res_main_while0b_v122 res_main_while0b_call3_v3 res_main_while0b_call3_cst res_main_while0b_v121
  generalize res_main_while0b_v114 V = h
  pointwise [dot_S8x2x32_S8x1024x32_S8x2x1024_2_2_1_1_0_0, Spec.dl, lay, Spec.Args.lay, argsOf]
  exact soft_of _

theorem v138_apply (d : Fin 1024) (n : Fin 64) :
    res_main_while0b_v138 V (ix4 e b d n) = Spec.next (lay V e 0) (fun o => res_main_while0b_v114 V (ix3 e b o)) (fun d => res_main_while0b_v122 V (ix3 e b d))
      (fun d => res_main_while0b_v113 V (ix3 e b d)) (fun d n => V (Proc.devRef .tc main_v4_15) (ix4 e b d n)) d n := by
  unfold res_main_while0b_v138
  generalize res_main_while0b_v114 V = h
  generalize res_main_while0b_v113 V = u
  generalize res_main_while0b_v122 V = δ
  pointwise [Spec.next, rDec, lay, Spec.Args.lay, argsOf]

theorem v148_apply (j : Fin 512) :
    res_main_while0b_v148 V (ix3 e b j) = Spec.out (lay V e 0) (fun j => res_main_while0b_v38 V (ix3 e b j))
      (Spec.yv (lay V e 0) (fun d => res_main_while0b_v113 V (ix3 e b d)) (fun o => res_main_while0b_v114 V (ix3 e b o)) (fun d n => res_main_while0b_v138 V (ix4 e b d n)))
      (fun d => res_main_while0b_v74 V (ix3 e b d)) j := by
  unfold res_main_while0b_v148
  generalize res_main_while0b_v114 V = h
  generalize res_main_while0b_v113 V = u
  generalize res_main_while0b_v138 V = s
  generalize res_main_while0b_v74 V = z
  generalize res_main_while0b_v38 V = h0
  pointwise [dot_S8x2x1024_S8x512x1024_S8x2x512_2_2_1_1_0_0, dot_S8x2x1024x64_S8x2x64_S8x2x1024_3_2_2_n_01_01, Spec.out, Spec.yv, Spec.sil, lay, Spec.Args.lay, argsOf, zero_sub]

/-- The second layer. -/
theorem v182_apply (o : Fin 2048) :
    res_main_while0b_v182 V (ix3 e b o) = Spec.xz (lay V e 1) (fun j => res_main_while0b_v148 V (ix3 e b j)) o := by
  unfold res_main_while0b_v182
  generalize res_main_while0b_v148 V = h
  pointwise [dot_S8x2x512_S8x2048x512_S8x2x2048_2_2_1_1_0_0, Spec.xz, lay, Spec.Args.lay, argsOf, Spec.width, Spec.small]
  exact @Finset.sum_congr _ EReal _ _ _ _ _ rfl fun x _ => mul_turn _ _ _ _

theorem v184_apply (d : Fin 1024) : res_main_while0b_v184 V (ix3 e b d) = res_main_while0b_v182 V (ix3 e b ⟨1024 + d.val, by omega⟩) := by
  unfold res_main_while0b_v184
  generalize res_main_while0b_v182 V = h
  pointwise

theorem v186_last (d : Fin 1024) : res_main_while0b_v186 V (ix4 e b 3 d) = res_main_while0b_v182 V (ix3 e b ⟨d.val, by omega⟩) := by
  unfold res_main_while0b_v186
  generalize res_main_while0b_v182 V = h
  pointwise

theorem v186_tail (k : Fin 3) (d : Fin 1024) : res_main_while0b_v186 V (ix4 e b ⟨k.val, by omega⟩ d) = V (Proc.devRef .tc main_v4_16) (ix4 e b k d) := by
  unfold res_main_while0b_v186
  generalize res_main_while0b_v182 V = h
  pointwise

theorem v222_apply (d : Fin 1024) :
    res_main_while0b_v222 V (ix3 e b d) = Spec.cv (lay V e 1) (fun d => res_main_while0b_v186 V (ix4 e b 0 d)) (fun d => res_main_while0b_v186 V (ix4 e b 1 d))
      (fun d => res_main_while0b_v186 V (ix4 e b 2 d)) (fun d => res_main_while0b_v186 V (ix4 e b 3 d)) d := by
  unfold res_main_while0b_v222 res_main_while0b_v152
  generalize res_main_while0b_v186 V = h
  pointwise [Spec.cv, lay, Spec.Args.lay, argsOf]
  exact add_turn _ _ _ _ _

theorem v223_apply (d : Fin 1024) : res_main_while0b_v223 V (ix3 e b d) = Spec.sil (res_main_while0b_v222 V (ix3 e b d)) := by
  unfold res_main_while0b_v223
  generalize res_main_while0b_v222 V = h
  pointwise [Spec.sil]
  rw [zero_sub]

theorem v224_apply (o : Fin 160) :
    res_main_while0b_v224 V (ix3 e b o) = Spec.dbl (lay V e 1) (fun d => res_main_while0b_v223 V (ix3 e b d)) o := by
  unfold res_main_while0b_v224
  generalize res_main_while0b_v223 V = h
  pointwise [dot_S8x2x1024_S8x160x1024_S8x2x160_2_2_1_1_0_0, Spec.dbl, lay, Spec.Args.lay, argsOf]

theorem v232_apply (d : Fin 1024) :
    res_main_while0b_v232 V (ix3 e b d) = Spec.dl (lay V e 1) (fun o => res_main_while0b_v224 V (ix3 e b o)) d := by
  unfold res_main_while0b_v232 res_main_while0b_call6_v3 res_main_while0b_call6_cst res_main_while0b_v231
  generalize res_main_while0b_v224 V = h
  pointwise [dot_S8x2x32_S8x1024x32_S8x2x1024_2_2_1_1_0_0, Spec.dl, lay, Spec.Args.lay, argsOf]
  exact soft_of _

theorem v248_apply (d : Fin 1024) (n : Fin 64) :
    res_main_while0b_v248 V (ix4 e b d n) = Spec.next (lay V e 1) (fun o => res_main_while0b_v224 V (ix3 e b o)) (fun d => res_main_while0b_v232 V (ix3 e b d))
      (fun d => res_main_while0b_v223 V (ix3 e b d)) (fun d n => V (Proc.devRef .tc main_v4_17) (ix4 e b d n)) d n := by
  unfold res_main_while0b_v248
  generalize res_main_while0b_v224 V = h
  generalize res_main_while0b_v223 V = u
  generalize res_main_while0b_v232 V = δ
  pointwise [Spec.next, rDec, lay, Spec.Args.lay, argsOf]

/-- The row written at the counter's time. -/
theorem upd_at (x : S2048x8x2x512.Idx → EReal) (u : S1x8x2x512.Idx → EReal) (st : Fin 4 → Int) (hf) (t : ℕ) (ht : t < 2048) (h0 : st 0 = t) (h1 : st 1 = 0) (h2 : st 2 = 0) (h3 : st 3 = 0)
    (t' : Fin 2048) (j : Fin 512) :
    Host.dynamicUpdateSlice x u st hf (ix4 t' e b j) = if t'.val = t then u (ix4 0 e b j) else x (ix4 t' e b j) := by
  have c0 : Host.clampedStart S2048x8x2x512 S1x8x2x512 rfl st 0 = t := Host.clampedStart_of_le _ _ _ t h0 (by show t + 1 ≤ 2048; omega)
  have c1 : Host.clampedStart S2048x8x2x512 S1x8x2x512 rfl st 1 = 0 := Host.clampedStart_of_le _ _ _ 0 h1 (by decide)
  have c2 : Host.clampedStart S2048x8x2x512 S1x8x2x512 rfl st 2 = 0 := Host.clampedStart_of_le _ _ _ 0 h2 (by decide)
  have c3 : Host.clampedStart S2048x8x2x512 S1x8x2x512 rfl st 3 = 0 := Host.clampedStart_of_le _ _ _ 0 h3 (by decide)
  rw [Host.dynamicUpdateSlice_apply]
  by_cases ht' : t'.val = t
  · rw [if_pos ht', dif_pos (by
      intro a
      match a with
      | ⟨0, _⟩ => show Host.clampedStart S2048x8x2x512 S1x8x2x512 rfl st 0 ≤ t'.val ∧ t'.val < Host.clampedStart S2048x8x2x512 S1x8x2x512 rfl st 0 + 1; rw [c0]; omega
      | ⟨1, _⟩ => show Host.clampedStart S2048x8x2x512 S1x8x2x512 rfl st 1 ≤ e.val ∧ e.val < Host.clampedStart S2048x8x2x512 S1x8x2x512 rfl st 1 + 8; rw [c1]; omega
      | ⟨2, _⟩ => show Host.clampedStart S2048x8x2x512 S1x8x2x512 rfl st 2 ≤ b.val ∧ b.val < Host.clampedStart S2048x8x2x512 S1x8x2x512 rfl st 2 + 2; rw [c2]; omega
      | ⟨3, _⟩ => show Host.clampedStart S2048x8x2x512 S1x8x2x512 rfl st 3 ≤ j.val ∧ j.val < Host.clampedStart S2048x8x2x512 S1x8x2x512 rfl st 3 + 512; rw [c3]; omega)]
    refine congrArg u (funext fun a => Fin.ext ?_)
    match a with
    | ⟨0, _⟩ => show t'.val - Host.clampedStart S2048x8x2x512 S1x8x2x512 rfl st 0 = 0; rw [c0]; omega
    | ⟨1, _⟩ => show e.val - Host.clampedStart S2048x8x2x512 S1x8x2x512 rfl st 1 = e.val; rw [c1]; omega
    | ⟨2, _⟩ => show b.val - Host.clampedStart S2048x8x2x512 S1x8x2x512 rfl st 2 = b.val; rw [c2]; omega
    | ⟨3, _⟩ => show j.val - Host.clampedStart S2048x8x2x512 S1x8x2x512 rfl st 3 = j.val; rw [c3]; omega
  · rw [if_neg ht', dif_neg (fun h => ht' (by
      have h : Host.clampedStart S2048x8x2x512 S1x8x2x512 rfl st 0 ≤ t'.val ∧ t'.val < Host.clampedStart S2048x8x2x512 S1x8x2x512 rfl st 0 + 1 := h (0 : Fin 4)
      rw [c0] at h; omega))]

theorem row_apply (t : ℕ) (ht : t < 2048) (hc : V (Proc.devRef .tc main_v4_13) = fun _ => BitVec.ofNat 32 t) (t' : Fin 2048) (j : Fin 512) :
    step_main_v4_18 V (ix4 t' e b j) = if t'.val = t then Spec.out (lay V e 1) (fun j => res_main_while0b_v148 V (ix3 e b j))
      (Spec.yv (lay V e 1) (fun d => res_main_while0b_v223 V (ix3 e b d)) (fun o => res_main_while0b_v224 V (ix3 e b o)) (fun d n => res_main_while0b_v248 V (ix4 e b d n)))
      (fun d => res_main_while0b_v184 V (ix3 e b d)) j else V (Proc.devRef .tc main_v4_18) (ix4 t' e b j) := by
  unfold step_main_v4_18
  rw [id, upd_at e b _ _ _ _ t ht (by rw [show (![V (Proc.devRef .tc main_v4_13), constantI S_ 32 0#32, constantI S_ 32 0#32, constantI S_ 32 0#32] : Fin 4 → (⟨S_, .i32⟩ : BufTy).Contents (Elt Ideal)) 0 = V (Proc.devRef .tc main_v4_13) from rfl, hc]; exact word_int t ht) rfl rfl rfl]
  refine if_congr Iff.rfl ?_ rfl
  generalize res_main_while0b_v224 V = h
  generalize res_main_while0b_v223 V = u
  generalize res_main_while0b_v248 V = s
  generalize res_main_while0b_v184 V = z
  generalize res_main_while0b_v148 V = h0
  pointwise [dot_S8x2x1024_S8x512x1024_S8x2x512_2_2_1_1_0_0, dot_S8x2x1024x64_S8x2x64_S8x2x1024_3_2_2_n_01_01, Spec.out, Spec.yv, Spec.sil, lay, Spec.Args.lay, argsOf, zero_sub]

theorem tail0_apply (k : Fin 3) (d : Fin 1024) : step_main_v4_14 V (ix4 e b k d) = res_main_while0b_v76 V (ix4 e b ⟨1 + k.val, by omega⟩ d) := by
  unfold step_main_v4_14
  rw [id]
  generalize res_main_while0b_v76 V = h
  pointwise

theorem tail1_apply (k : Fin 3) (d : Fin 1024) : step_main_v4_16 V (ix4 e b k d) = res_main_while0b_v186 V (ix4 e b ⟨1 + k.val, by omega⟩ d) := by
  unfold step_main_v4_16
  rw [id]
  generalize res_main_while0b_v186 V = h
  pointwise

end Cert.Proof.RI
-- ==== Proof.RExpert.lean ====
/-
  The reference's loop over time, trip by trip, against the plain recurrences.
-/
module

public import proofs.«01_k».proof.Proof.RVal

@[expose] public section

set_option maxRecDepth 16384

noncomputable section

namespace Cert.Proof.RI

open Cert.ReferenceIdeal Cert.ReferenceIdeal.Gen Cert.ReferenceIdeal.Value
open Idealize.ShloMosaic Idealize.SL.Sem Idealize.ShloMosaic.StableHlo

/-- The carried buffers on the extended reals. -/
local notation "Val" => Valuation τ sig (Elt Ideal)

open Spec in
/-- A layer's step at time `t`, from its parts. -/
theorem layer_trip {w : W} {h : Rows} {t : ℕ} {r : Fin 512 → EReal} {x : Fin 2048 → EReal} {c : Fin 4 → Fin 1024 → EReal} {u δ z : Fin 1024 → EReal}
    {db : Fin 160 → EReal} {s s' : Fin 1024 → Fin 64 → EReal} (hr : r = h t) (hx : ∀ o, x o = xz w r o)
    (ht : ∀ (k : Fin 3) d, c ⟨k.val, by omega⟩ d = xp w h (t + k.val) d) (hl : ∀ d, c 3 d = x ⟨d.val, by omega⟩)
    (hu : ∀ d, u d = sil (cv w (c 0) (c 1) (c 2) (c 3) d)) (hdb : ∀ o, db o = dbl w u o) (hδ : ∀ d, δ d = dl w db d)
    (hs : ∀ d n, s d n = S w h t d n) (hs' : ∀ d n, s' d n = next w db δ u s d n) (hz : ∀ d, z d = x ⟨1024 + d.val, by omega⟩) :
    (∀ k d, c k d = xp w h (t + k.val) d) ∧ (∀ d n, s' d n = S w h (t + 1) d n) ∧ ∀ j, out w r (yv w u db s') z j = ho w h t j := by
  subst hr
  have c0 : c 0 = xp w h t := funext (ht 0)
  have c1 : c 1 = xp w h (t + 1) := funext (ht 1)
  have c2 : c 2 = xp w h (t + 2) := funext (ht 2)
  have c3 : c 3 = xp w h (t + 3) := funext fun d => by rw [hl, hx, xp_add]; rfl
  have eu : u = ut w h t := funext fun d => by rw [hu, c0, c1, c2, c3]; rfl
  have edb : db = dbt w h t := funext fun o => by rw [hdb, eu]; rfl
  have eδ : δ = dlt w h t := funext fun d => by rw [hδ, edb]; rfl
  have es : s = S w h t := funext fun d => funext (hs d)
  have es' : s' = S w h (t + 1) := funext fun d => funext fun n => by rw [hs', edb, eδ, eu, es]; rfl
  have ez : z = zz w h t := funext fun d => by rw [hz, hx]; rfl
  refine ⟨fun k d => ?_, fun d n => by rw [es'], fun j => by rw [eu, edb, es', ez]; rfl⟩
  match k with
  | ⟨0, _⟩ => exact congrFun c0 d
  | ⟨1, _⟩ => exact congrFun c1 d
  | ⟨2, _⟩ => exact congrFun c2 d
  | ⟨3, _⟩ => exact congrFun c3 d

variable (V0 : Val)

/-- One expert's data, from the carried buffers at the loop's entry. -/
def dat (e : Fin 8) : Spec.Data := (argsOf V0).data (rDec (argsOf V0) e) e

/-- The carried buffers before step `t`. -/
structure Inv (V : Val) (t : ℕ) : Prop where
  par : argsOf V = argsOf V0
  ctr : V (Proc.devRef .tc main_v4_13) = fun _ => BitVec.ofNat 32 t
  tl0 : ∀ e b (k : Fin 3) d, V (Proc.devRef .tc main_v4_14) (ix4 e b k d) = Spec.xp (dat V0 e).P0 ((dat V0 e).r0 b) (t + k.val) d
  st0 : ∀ e b d n, V (Proc.devRef .tc main_v4_15) (ix4 e b d n) = Spec.S (dat V0 e).P0 ((dat V0 e).r0 b) t d n
  tl1 : ∀ e b (k : Fin 3) d, V (Proc.devRef .tc main_v4_16) (ix4 e b k d) = Spec.xp (dat V0 e).P1 ((dat V0 e).r1 b) (t + k.val) d
  st1 : ∀ e b d n, V (Proc.devRef .tc main_v4_17) (ix4 e b d n) = Spec.S (dat V0 e).P1 ((dat V0 e).r1 b) t d n
  rows : ∀ (t' : Fin 2048) e b j, t'.val < t → V (Proc.devRef .tc main_v4_18) (ix4 t' e b j) = (dat V0 e).r2 b t' j

variable {V0}

theorem argsOf_step (V : Val) : argsOf (STEP V) = argsOf V := by
  have h13 : STEP V (Proc.devRef .tc main_arg13) = V (Proc.devRef .tc main_arg13) := by
    unfold STEP
    iterate 6 rw [Function.update_of_ne (devRef_ne_of_ne (by decide))]
  have h14 : STEP V (Proc.devRef .tc main_arg14) = V (Proc.devRef .tc main_arg14) := by
    unfold STEP
    iterate 6 rw [Function.update_of_ne (devRef_ne_of_ne (by decide))]
  unfold argsOf
  rw [STEP_main_v4_0, STEP_main_v4_1, STEP_main_v4_2, STEP_main_v4_3, STEP_main_v4_4, STEP_main_v4_5, STEP_main_v4_6, STEP_main_v4_7,
    STEP_main_v4_8, STEP_main_v4_9, STEP_main_v4_10, STEP_main_v4_11, STEP_main_v4_12, h13, h14]

theorem inv_step {V : Val} {t : ℕ} (ht : t < 2048) (I : Inv V0 V t) : Inv V0 (STEP V) (t + 1) := by
  have par := I.par
  have hx : ∀ (i : S2048x8x2x1024.Idx), V (Proc.devRef .tc main_v4_0) i = V0 (Proc.devRef .tc main_v4_0) i := fun i => by
    have h := congrFun (congrArg Spec.Args.x par) (ix4 (i 1) (i 2) (i 0) (i 3))
    rw [show i = ix4 (i 0) (i 1) (i 2) (i 3) from funext fun a => by match a with | ⟨0, _⟩ => rfl | ⟨1, _⟩ => rfl | ⟨2, _⟩ => rfl | ⟨3, _⟩ => rfl]
    exact h
  have l0 : ∀ e, lay V e 0 = (dat V0 e).P0 := fun e => by unfold lay; rw [par]; rfl
  have l1 : ∀ e, lay V e 1 = (dat V0 e).P1 := fun e => by unfold lay; rw [par]; rfl
  have r0 : ∀ e b, (fun j => res_main_while0b_v38 V (ix3 e b j)) = (dat V0 e).r0 b t := fun e b => funext fun j => by
    rw [v38_apply V e b t ht I.ctr j, par]
    have hX : (fun i => V (Proc.devRef .tc main_v4_0) (ix4 ⟨t, ht⟩ e b i)) = (dat V0 e).X b t := funext fun i => by
      rw [hx]
      exact congrArg (fun q => V0 (Proc.devRef .tc main_v4_0) (ix4 q e b i)) (Fin.ext (Nat.mod_eq_of_lt ht).symm)
    rw [hX]
    rfl
  have L0 := fun e b => layer_trip (w := (dat V0 e).P0) (h := (dat V0 e).r0 b) (t := t) (c := fun k d => res_main_while0b_v76 V (ix4 e b k d)) (r0 e b)
    (fun o => (v72_apply V e b o).trans (by rw [l0])) (fun k d => (v76_tail V e b k d).trans (I.tl0 e b k d)) (v76_last V e b)
    (fun d => (v113_apply V e b d).trans (by rw [v112_apply, l0])) (fun o => (v114_apply V e b o).trans (by rw [l0]))
    (fun d => (v122_apply V e b d).trans (by rw [l0])) (I.st0 e b) (fun d n => (v138_apply V e b d n).trans (by rw [l0])) (v74_apply V e b)
  have r1 : ∀ e b, (fun j => res_main_while0b_v148 V (ix3 e b j)) = (dat V0 e).r1 b t := fun e b => funext fun j => by
    rw [v148_apply, l0]; exact (L0 e b).2.2 j
  have L1 := fun e b => layer_trip (w := (dat V0 e).P1) (h := (dat V0 e).r1 b) (t := t) (c := fun k d => res_main_while0b_v186 V (ix4 e b k d)) (r1 e b)
    (fun o => (v182_apply V e b o).trans (by rw [l1])) (fun k d => (v186_tail V e b k d).trans (I.tl1 e b k d)) (v186_last V e b)
    (fun d => (v223_apply V e b d).trans (by rw [v222_apply, l1])) (fun o => (v224_apply V e b o).trans (by rw [l1]))
    (fun d => (v232_apply V e b d).trans (by rw [l1])) (I.st1 e b) (fun d n => (v248_apply V e b d n).trans (by rw [l1])) (v184_apply V e b)
  refine ⟨(argsOf_step V).trans par, ?_, fun e b k d => ?_, fun e b d n => ?_, fun e b k d => ?_, fun e b d n => ?_, fun t' e b j hlt => ?_⟩
  · rw [STEP_main_v4_13, step_main_v4_13, I.ctr]
    funext _
    show BitVec.ofNat 32 t + 1#32 = BitVec.ofNat 32 (t + 1)
    rw [BitVec.ofNat_add]
  · rw [STEP_main_v4_14, tail0_apply, (L0 e b).1]
    exact congrArg (fun q => Spec.xp (dat V0 e).P0 ((dat V0 e).r0 b) q d) (by show t + (1 + k.val) = t + 1 + k.val; omega)
  · rw [STEP_main_v4_15]; exact (L0 e b).2.1 d n
  · rw [STEP_main_v4_16, tail1_apply, (L1 e b).1]
    exact congrArg (fun q => Spec.xp (dat V0 e).P1 ((dat V0 e).r1 b) q d) (by show t + (1 + k.val) = t + 1 + k.val; omega)
  · rw [STEP_main_v4_17]; exact (L1 e b).2.1 d n
  · rw [STEP_main_v4_18, row_apply V e b t ht I.ctr]
    by_cases h : t'.val = t
    · rw [if_pos h, h, l1]
      exact (L1 e b).2.2 j
    · rw [if_neg h]
      exact I.rows t' e b j (by omega)

theorem inv_iter (I : Inv V0 V0 0) : ∀ t ≤ 2048, Inv V0 (STEP^[t] V0) t
  | 0, _ => I
  | t + 1, h => by
    rw [Function.iterate_succ_apply']
    exact inv_step (by omega) (inv_iter I t (by omega))

/-- The result: the normalised rows' mean over time. -/
theorem out_apply (V : Val) (e : Fin 8) (b : Fin 2) (j : Fin 512) :
    out_main_v32 V (ix3 b e j) = Ideal.div (∑ t : Fin 2048, Spec.ln (fun j => (argsOf V).lg (ix1 j)) (fun j => (argsOf V).lb (ix1 j))
      (fun j => V (Proc.devRef .tc main_v4_18) (ix4 t e b j)) j) (Ideal.ofBits .f32 0x45000000#32) := by
  unfold out_main_v32
  pointwise [Spec.ln, Spec.mu, argsOf, Spec.width, Spec.small]

variable (m : (ℓ : Loc nD τ sig) → Buf (Elt Ideal) ℓ) (c : Dev nD)

/-- The fifteen argument arrays. -/
def args : Spec.Args where
  x := m ((c.tc : Thread nD τ).loc main_arg0)
  win := m ((c.tc : Thread nD τ).loc main_arg1)
  bin := m ((c.tc : Thread nD τ).loc main_arg2)
  inw := m ((c.tc : Thread nD τ).loc main_arg3)
  cw := m ((c.tc : Thread nD τ).loc main_arg4)
  cb := m ((c.tc : Thread nD τ).loc main_arg5)
  xw := m ((c.tc : Thread nD τ).loc main_arg6)
  dtw := m ((c.tc : Thread nD τ).loc main_arg7)
  dtb := m ((c.tc : Thread nD τ).loc main_arg8)
  al := m ((c.tc : Thread nD τ).loc main_arg9)
  dp := m ((c.tc : Thread nD τ).loc main_arg10)
  ow := m ((c.tc : Thread nD τ).loc main_arg11)
  rw := m ((c.tc : Thread nD τ).loc main_arg12)
  lg := m ((c.tc : Thread nD τ).loc main_arg13)
  lb := m ((c.tc : Thread nD τ).loc main_arg14)

theorem entry_args : argsOf (entryContents preI m c) = args m c := by
  unfold argsOf args
  congr 1
  all_goals
    simp only [entryContents, afterL_cons, afterL_nil]
    after_reads_simp
  funext i
  rw [id, show i = ix4 (i 0) (i 1) (i 2) (i 3) from funext fun a => by match a with | ⟨0, _⟩ => rfl | ⟨1, _⟩ => rfl | ⟨2, _⟩ => rfl | ⟨3, _⟩ => rfl]
  pointwise

theorem entry_zero (e : Fin 8) (b : Fin 2) (d : Fin 1024) :
    (∀ k : Fin 3, entryContents preI m c (Proc.devRef .tc main_v4_14) (ix4 e b k d) = (0 : EReal))
      ∧ (∀ n : Fin 64, entryContents preI m c (Proc.devRef .tc main_v4_15) (ix4 e b d n) = (0 : EReal))
      ∧ (∀ k : Fin 3, entryContents preI m c (Proc.devRef .tc main_v4_16) (ix4 e b k d) = (0 : EReal))
      ∧ (∀ n : Fin 64, entryContents preI m c (Proc.devRef .tc main_v4_17) (ix4 e b d n) = (0 : EReal)) := by
  refine ⟨fun k => ?_, fun k => ?_, fun k => ?_, fun k => ?_⟩
  all_goals
    simp only [entryContents, afterL_cons, afterL_nil]
    after_reads_simp
    rw [id]
    pointwise

theorem inv_entry : Inv (entryContents preI m c) (entryContents preI m c) 0 := by
  refine ⟨rfl, ctr_entry m c, fun e b k d => ?_, fun e b d n => (entry_zero m c e b d).2.1 n, fun e b k d => ?_, fun e b d n => (entry_zero m c e b d).2.2.2 n,
    fun t' e b j h => absurd h (Nat.not_lt_zero _)⟩
  · rw [(entry_zero m c e b d).1 k]; exact (if_pos (by show 0 + k.val < 3; omega)).symm
  · rw [(entry_zero m c e b d).2.2.1 k]; exact (if_pos (by show 0 + k.val < 3; omega)).symm

/-- The reference's result. -/
theorem result (e : Fin 8) (b : Fin 2) (j : Fin 512) :
    out_main_v32 (STEP^[2048] (entryContents preI m c)) (ix3 b e j) =
      Ideal.div (((args m c).data (rDec (args m c) e) e).total b 2048 j) (Ideal.ofBits .f32 0x45000000#32) := by
  have I := inv_iter (inv_entry m c) 2048 (le_refl _)
  rw [out_apply, I.par, entry_args, Spec.Data.total, Finset.sum_range]
  refine congrArg (fun q : EReal => Ideal.div q (Ideal.ofBits .f32 0x45000000#32)) (Finset.sum_congr rfl fun t _ => ?_)
  rw [show (fun j => STEP^[2048] (entryContents preI m c) (Proc.devRef .tc main_v4_18) (ix4 t e b j)) = (dat (entryContents preI m c) e).r2 b t from
    funext fun j => I.rows t e b j t.isLt, dat, entry_args]
  rfl

end Cert.Proof.RI
-- ==== Proof.ExpertValue.lean ====
/-
  The expert call's value claim: the kernel's and the reference's results are one number at every index.
-/
module

public import proofs.«01_k».proof.Proof.KResult
public import proofs.«01_k».proof.Proof.RExpert
public import proofs.«01_k».proof.Defs

@[expose] public section

set_option maxRecDepth 16384

noncomputable section

namespace Cert.Proof.Expert

open Idealize.ShloMosaic Idealize.SL.Sem

/-- The facts that the precondition's operations need. -/
theorem pre_facts : Cert.Pre_a_log_is_setup.Facts := ⟨by decide⟩

/-- Two to the power of `-(n+1)/log 2` steps is `e` to the power of `-(n+1)` steps. -/
theorem exp2_exp (r : ℝ) (hr : 0 < r) (δ : EReal) :
    Ideal.exp2 (((0 - r) * (Real.log 2)⁻¹ : ℝ) * δ) = Ideal.exp (δ * -Ideal.exp (Ideal.log (r : EReal))) := by
  have hlog : 0 < Real.log 2 := Real.log_pos (by norm_num)
  have hneg : (0 - r) * (Real.log 2)⁻¹ < 0 := mul_neg_of_neg_of_pos (by linarith) (inv_pos.mpr hlog)
  have he : Ideal.exp (Ideal.log (r : EReal)) = (r : EReal) := by
    show Ideal.exp (if r ≤ 0 then ⊥ else (Real.log r : EReal)) = r
    rw [if_neg (not_le.mpr hr)]
    show ((Real.exp (Real.log r) : ℝ) : EReal) = r
    rw [Real.exp_log hr]
  rw [he, ← EReal.coe_neg]
  induction δ with
  | bot => rw [EReal.coe_mul_bot_of_neg hneg, EReal.bot_mul_coe_of_neg (by linarith)]; rfl
  | top => rw [EReal.coe_mul_top_of_neg hneg, EReal.top_mul_coe_of_neg (by linarith)]; rfl
  | coe x =>
    rw [← EReal.coe_mul, ← EReal.coe_mul]
    show ((Real.rpow 2 _ : ℝ) : EReal) = ((Real.exp _ : ℝ) : EReal)
    rw [show Real.rpow 2 ((0 - r) * (Real.log 2)⁻¹ * x) = (2 : ℝ) ^ ((0 - r) * (Real.log 2)⁻¹ * x) from rfl, Real.rpow_def_of_pos (by norm_num)]
    congr 2
    field_simp
    ring

theorem word_int (n : Fin 64) : (BitVec.ofNat 32 n.val).toInt = (n.val : Int) := by
  rw [BitVec.toInt_eq_toNat_of_lt (by rw [BitVec.toNat_ofNat]; omega), BitVec.toNat_ofNat, Nat.mod_eq_of_lt (by omega)]

open Cert.KernelIdeal Cert.KernelIdeal.Gen in
theorem kDec_eq (δ : EReal) (d : Fin 1024) (n : Fin 64) :
    KI.kDec δ d n = Ideal.exp2 (((0 - ((n.val : ℝ) + 1)) * (Real.log 2)⁻¹ : ℝ) * δ) := by
  unfold KI.kDec
  unfold_payloads
  pointwise
  have h := word_int n
  rw [show (FloatOps.sitofp FTy.f32 (BitVec.ofNat 32 n.val) : Ideal .f32) = ((((BitVec.ofNat 32 n.val).toInt : ℝ)) : EReal) from rfl, h,
    show (Named.named κ "log2e" 0x3FB8AA3B#32 : Ideal .f32) = (((Real.log 2)⁻¹ : ℝ) : EReal) from rfl]
  push_cast
  rfl

/-- The two constants of the mean over time: 1/2048 and 2048. -/
theorem mean_eq (x : EReal) : x * Ideal.ofBits .f32 0x3A000000#32 = Ideal.div x (Ideal.ofBits .f32 0x45000000#32) := by
  have h1 : Ideal.ofBits .f32 0x3A000000#32 = ((1 / 2048 : ℝ) : EReal) := by
    unfold Ideal.ofBits Ideal.ieee
    simp only [show (BitVec.extractLsb' (8 + 23) 1 0x3A000000#32 == 1#1) = false by decide, show (BitVec.extractLsb' 23 8 0x3A000000#32).toNat = 116 by decide,
      show (BitVec.extractLsb' 0 23 0x3A000000#32).toNat = 0 by decide]
    norm_num
  have h2 : Ideal.ofBits .f32 0x45000000#32 = ((2048 : ℝ) : EReal) := by
    unfold Ideal.ofBits Ideal.ieee
    simp only [show (BitVec.extractLsb' (8 + 23) 1 0x45000000#32 == 1#1) = false by decide, show (BitVec.extractLsb' 23 8 0x45000000#32).toNat = 138 by decide,
      show (BitVec.extractLsb' 0 23 0x45000000#32).toNat = 0 by decide]
    norm_num
  rw [h1, h2, Ideal.div, if_neg (by norm_num), ← EReal.coe_inv, one_div]

theorem setup (A : Cert.Pre_a_log_is_setup.S8x2x1024x64.Idx → EReal)
    (a0 a1 a2 a3 a4 a5 a6 a7 a8 a10 a11 a12 a13 a14)
    (h : @Cert.Pre_a_log_is_setup.fn pre_facts Ideal _ a0 a1 a2 a3 a4 a5 a6 a7 a8 A a10 a11 a12 a13 a14 = fun _ => 1#1)
    (e : Fin 8) (l : Fin 2) (d : Fin 1024) (n : Fin 64) : A (ix4 e l d n) = Ideal.log (((n.val : ℝ) + 1 : ℝ) : EReal) := by
  have h := congrFun h (ix4 e l d n)
  unfold Cert.Pre_a_log_is_setup.fn at h
  have g : BitVec.ofBool (decide (A (ix4 e l d n) = Ideal.log (((((BitVec.ofNat 32 n.val).toInt : ℝ)) : EReal) + 1))) = 1#1 := by
    rw [← h]
    pointwise
    rfl
  have hn := word_int n
  rw [hn] at g
  have g := (of_decide_eq_true (by
    cases hd : decide (A (ix4 e l d n) = Ideal.log ((((n.val : Int) : ℝ) : EReal) + 1))
    · rw [hd] at g; exact absurd g (by decide)
    · rfl) : A (ix4 e l d n) = Ideal.log ((((n.val : Int) : ℝ) : EReal) + 1))
  rw [g]
  push_cast
  rfl

open Cert.KernelIdeal in
/-- Under the precondition both sides read the same data. -/
theorem data_eq (A : Spec.Args) (h : ∀ e l d (n : Fin 64), A.al (ix4 e l d n) = Ideal.log (((n.val : ℝ) + 1 : ℝ) : EReal)) (e : Fin 8) :
    A.data (fun _ => KI.kDec) e = A.data (RI.rDec A e) e :=
  congrArg (fun q => A.data q e) (funext fun l => funext fun δ => funext fun d => funext fun n => by
    rw [kDec_eq, exp2_exp _ (by positivity), RI.rDec, h])

theorem algebraic : Cert.algebraic_KernelIdeal_ReferenceIdeal_pre_a_log_is_setup (hKernelIdeal := Cert.KernelIdeal.Gen.facts)
    (hReferenceIdeal := Cert.ReferenceIdeal.Gen.facts) (hPre_a_log_is_setup := pre_facts) := by
  intro m g m' g' hpre hagree
  refine ⟨_, KI.run_value m g, ?_⟩
  refine (θ_run Cert.ReferenceIdeal.defs _ _).mono (fun _ h c => ?_) (Cert.ReferenceIdeal.Value.run (F := Ideal) m' g')
  refine ⟨(h c).1.trans ?_, (h c).2⟩
  have hA : RI.args m' c = KI.args m c := by
    obtain ⟨a0, a1, a2, a3, a4, a5, a6, a7, a8, a9, a10, a11, a12, a13, a14⟩ := hagree c
    unfold RI.args KI.args
    congr 1
  funext i
  obtain ⟨b, e, j, rfl⟩ : ∃ (b : Fin 2) (e : Fin 8) (j : Fin 512), i = ix3 b e j :=
    ⟨i 0, i 1, i 2, funext fun a => by match a with | ⟨0, _⟩ => rfl | ⟨1, _⟩ => rfl | ⟨2, _⟩ => rfl⟩
  refine (RI.result m' c e b j).trans (Eq.trans ?_ (KI.tail_v0 m c b e j).symm)
  rw [hA, ← data_eq (KI.args m c) (fun e l d n => setup _ _ _ _ _ _ _ _ _ _ _ _ _ _ _ (hpre c) e l d n), mean_eq]
  rfl

end Cert.Proof.Expert

end
-- ==== Proof.lean ====
/-
  The proof of the claim.
-/
module

public import proofs.«01_k».proof.Defs
public import proofs.«01_k».proof.Proof.Gen.Head
public import proofs.«01_k».proof.Proof.Gen.Head.Frame
public import proofs.«01_k».proof.Proof.Gen.HeadIdeal
public import proofs.«01_k».proof.Proof.Gen.HeadIdeal.Frame
public import proofs.«01_k».proof.Proof.Gen.HeadIdeal.Value
public import proofs.«01_k».proof.Proof.Gen.HeadReferenceIdeal
public import proofs.«01_k».proof.Proof.Gen.HeadReferenceIdeal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.HeadClaims
public import proofs.«01_k».proof.Proof.ExpertClaims
public import proofs.«01_k».proof.Proof.ExpertValue

@[expose] public section

namespace Cert.Proof

theorem claim : Cert.Claim :=
  ⟨Cert.Kernel.Gen.facts, Cert.KernelIdeal.Gen.facts, Cert.ReferenceIdeal.Gen.facts,
    Cert.Head.Gen.facts, Cert.HeadIdeal.Gen.facts, Cert.HeadReferenceIdeal.Gen.facts, Expert.pre_facts,
    Expert.frame_p, Expert.frame_pi, fun m g _ => Expert.frame_pi m g trivial, Expert.frame_ri, fun m g _ => Expert.frame_ri m g trivial,
    Head.frame_p, Head.frame_pi, Head.frame_ri, Expert.preserves, Expert.algebraic, trivial, Head.algebraic⟩

end Cert.Proof
